-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v96) = v0 c
          ∧ r.2.mem ((c.tc : Thread Cert.Reference8Ideal.nD Cert.Reference8Ideal.τ).loc Cert.Reference8Ideal.main_v76) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S8320x8192 : Shape := ⟨2, ![8320, 8192]⟩
abbrev S2x2048 : Shape := ⟨2, ![2, 2048]⟩
abbrev S1x128 : Shape := ⟨2, ![1, 128]⟩
abbrev S128 : Shape := ⟨1, ![128]⟩
abbrev S8192x2048 : Shape := ⟨2, ![8192, 2048]⟩
abbrev S16x128x128 : Shape := ⟨3, ![16, 128, 128]⟩
abbrev S512x128 : Shape := ⟨2, ![512, 128]⟩
abbrev S2x128 : Shape := ⟨2, ![2, 128]⟩
abbrev S1x128x128 : Shape := ⟨3, ![1, 128, 128]⟩
abbrev S128x128 : Shape := ⟨2, ![128, 128]⟩
abbrev S64x64 : Shape := ⟨2, ![64, 64]⟩
abbrev S64x128 : Shape := ⟨2, ![64, 128]⟩
abbrev S64 : Shape := ⟨1, ![64]⟩
abbrev S64x1 : Shape := ⟨2, ![64, 1]⟩

abbrev nBuf : Space → Nat
  | .hbm => 7
  | .vmem => 16
  | .smem => 0
  | _ => 0

abbrev bufTy : (tb : Table) → Fin (tcTables nBuf tb) → BufTy
  | .hbm, ⟨0, _⟩ => ⟨S8320x8192, .f32⟩
  | .hbm, ⟨1, _⟩ => ⟨S2x2048, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S8192x2048, .bf16⟩
  | .hbm, ⟨6, _⟩ => ⟨S16x128x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S1x128x128, .f32⟩
  | .local _ .vmem, ⟨14, _⟩ => ⟨S1x128x128, .f32⟩
  | .local _ .vmem, ⟨15, _⟩ => ⟨S128x128, .f32⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_6 : BitVec 32 := 0#32
  let c8_i32 : BitVec 32 := 8#32
  let v19 : BitVec 32 := Scalar.addi c0_i32_6 c8_i32
  let c1_i32 : BitVec 32 := 1#32
  ⟨c0_i32_6, v19, c1_i32⟩
def k0_mult1 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c64_i32 : BitVec 32 := 64#32
  let v23 : BitVec 32 := Scalar.muli arg11 c64_i32
  v23
def k0_off1 (k0_t1 : Fin k0_t1_loop.trips) : Fin 2 → Nat :=
  let c0_i32_6 : BitVec 32 := 0#32
  let c1_i32 : BitVec 32 := 1#32
  let arg11 : BitVec 32 := Scf.iv c0_i32_6 c1_i32 k0_t1
  let c64_i32 : BitVec 32 := 64#32
  let v23 : BitVec 32 := Scalar.muli arg11 c64_i32
  let v24 : BitVec 32 := v23
  let v25 : Index := Scalar.indexCast v24
  let c0_9 : Index := 0#32
  ![v25.toNat, 0]
def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi arg0 c48_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8320x8192 : Shape := ⟨2, ![8320, 8192]⟩
abbrev S2x2048 : Shape := ⟨2, ![2, 2048]⟩
abbrev S1x128 : Shape := ⟨2, ![1, 128]⟩
abbrev S_ : Shape := ⟨0, ![]⟩
abbrev S2048 : Shape := ⟨1, ![2048]⟩
abbrev S1x2048 : Shape := ⟨2, ![1, 2048]⟩
abbrev S8192x6144 : Shape := ⟨2, ![8192, 6144]⟩
abbrev S1x8192x6144 : Shape := ⟨3, ![1, 8192, 6144]⟩
abbrev S1x8192x2048 : Shape := ⟨3, ![1, 8192, 2048]⟩
abbrev S16x128 : Shape := ⟨2, ![16, 128]⟩
abbrev S1x8192x16x128 : Shape := ⟨4, ![1, 8192, 16, 128]⟩
abbrev S1x1x16x128 : Shape := ⟨4, ![1, 1, 16, 128]⟩
abbrev S1x16x128x128 : Shape := ⟨4, ![1, 16, 128, 128]⟩
abbrev S1x128x64x16x128 : Shape := ⟨5, ![1, 128, 64, 16, 128]⟩
abbrev S128x1x16x64x128 : Shape := ⟨5, ![128, 1, 16, 64, 128]⟩
abbrev S128x1x16x1x128 : Shape := ⟨5, ![128, 1, 16, 1, 128]⟩
abbrev S128x1x16x64x64 : Shape := ⟨5, ![128, 1, 16, 64, 64]⟩
abbrev S64x64 : Shape := ⟨2, ![64, 64]⟩
abbrev S128x1x16x128 : Shape := ⟨4, ![128, 1, 16, 128]⟩
abbrev S1x1x16x64x128 : Shape := ⟨5, ![1, 1, 16, 64, 128]⟩
abbrev S1x16x64x128 : Shape := ⟨4, ![1, 16, 64, 128]⟩
abbrev S1x16x128 : Shape := ⟨3, ![1, 16, 128]⟩
abbrev S1x16x128x1 : Shape := ⟨4, ![1, 16, 128, 1]⟩
abbrev S8192x2048 : Shape := ⟨2, ![8192, 2048]⟩
abbrev S128 : Shape := ⟨1, ![128]⟩
abbrev S1x8192x16 : Shape := ⟨3, ![1, 8192, 16]⟩
abbrev S1x8192x16x1 : Shape := ⟨4, ![1, 8192, 16, 1]⟩
abbrev S1x1x1x128 : Shape := ⟨4, ![1, 1, 1, 128]⟩
abbrev S16x128x128 : Shape := ⟨3, ![16, 128, 128]⟩

abbrev nBuf : Space → Nat
  | .hbm => 202
  | .vmem => 0
  | .smem => 0
  | _ => 0

abbrev hbmTy0_0 (i : Nat) : BufTy := match i % 128 with
  | 0 => ⟨S8320x8192, .f32⟩
  | 1 => ⟨S2x2048, .f32⟩
  | 2 => ⟨S1x128, .f32⟩
  | 3 => ⟨S_, .f32⟩
  | 4 => ⟨S2048, .f32⟩
  | 5 => ⟨S_, .f32⟩
  | 6 => ⟨S2048, .f32⟩
  | 7 => ⟨S2048, .f32⟩
  | 8 => ⟨S1x2048, .f32⟩
  | 9 => ⟨S2x2048, .f32⟩
  | 10 => ⟨S2x2048, .f32⟩
  | 11 => ⟨S2x2048, .f32⟩
  | 12 => ⟨S_, .f32⟩
  | 13 => ⟨S2048, .f32⟩
  | 14 => ⟨S1x2048, .f32⟩
  | 15 => ⟨S2x2048, .f32⟩
  | 16 => ⟨S2x2048, .f32⟩
  | 17 => ⟨S_, .f32⟩
  | 18 => ⟨S_, .f32⟩
  | 19 => ⟨S2x2048, .f32⟩
  | 20 => ⟨S1x2048, .f32⟩
  | 21 => ⟨S2048, .f32⟩
  | 22 => ⟨S8192x6144, .f32⟩
  | 23 => ⟨S1x8192x6144, .f32⟩
  | 24 => ⟨S1x8192x2048, .f32⟩
  | 25 => ⟨S1x8192x2048, .f32⟩
  | 26 => ⟨S1x8192x2048, .f32⟩
  | 27 => ⟨S16x128, .f32⟩
  | 28 => ⟨S_, .f32⟩
  | 29 => ⟨S16x128, .f32⟩
  | 30 => ⟨S16x128, .f32⟩
  | 31 => ⟨S1x8192x16x128, .f32⟩
  | 32 => ⟨S1x8192x16x128, .f32⟩
  | 33 => ⟨S1x8192x16x128, .f32⟩
  | 34 => ⟨S_, .f32⟩
  | 35 => ⟨S1x8192x16x128, .f32⟩
  | 36 => ⟨S1x8192x16x128, .f32⟩
  | 37 => ⟨S_, .f32⟩
  | 38 => ⟨S1x8192x16x128, .f32⟩
  | 39 => ⟨S1x8192x16x128, .f32⟩
  | 40 => ⟨S1x1x16x128, .f32⟩
  | 41 => ⟨S1x8192x16x128, .f32⟩
  | 42 => ⟨S1x8192x16x128, .f32⟩
  | 43 => ⟨S1x1x16x128, .f32⟩
  | 44 => ⟨S1x8192x16x128, .f32⟩
  | 45 => ⟨S1x8192x16x128, .f32⟩
  | 46 => ⟨S1x8192x16x128, .f32⟩
  | 47 => ⟨S1x8192x16x128, .f32⟩
  | 48 => ⟨S1x8192x16x128, .f32⟩
  | 49 => ⟨S_, .f32⟩
  | 50 => ⟨S1x8192x16x128, .f32⟩
  | 51 => ⟨S1x8192x16x128, .f32⟩
  | 52 => ⟨S_, .f32⟩
  | 53 => ⟨S1x8192x16x128, .f32⟩
  | 54 => ⟨S1x8192x16x128, .f32⟩
  | 55 => ⟨S1x8192x16x128, .f32⟩
  | 56 => ⟨S_, .f32⟩
  | 57 => ⟨S1x16x128x128, .f32⟩
  | 58 => ⟨S_, .f32⟩
  | 59 => ⟨S1x8192x16x128, .f32⟩
  | 60 => ⟨S1x8192x16x128, .f32⟩
  | 61 => ⟨S1x8192x16x128, .f32⟩
  | 62 => ⟨S1x8192x16x128, .f32⟩
  | 63 => ⟨S1x128x64x16x128, .f32⟩
  | 64 => ⟨S128x1x16x64x128, .f32⟩
  | 65 => ⟨S1x128x64x16x128, .f32⟩
  | 66 => ⟨S128x1x16x64x128, .f32⟩
  | 67 => ⟨S1x128x64x16x128, .f32⟩
  | 68 => ⟨S128x1x16x64x128, .f32⟩
  | 69 => ⟨S1x128x64x16x128, .f32⟩
  | 70 => ⟨S128x1x16x64x128, .f32⟩
  | 71 => ⟨S_, .f32⟩
  | 72 => ⟨S_, .f32⟩
  | 73 => ⟨S128x1x16x64x128, .f32⟩
  | 74 => ⟨S128x1x16x1x128, .f32⟩
  | 75 => ⟨S128x1x16x1x128, .f32⟩
  | 76 => ⟨S128x1x16x64x128, .f32⟩
  | 77 => ⟨S128x1x16x64x128, .f32⟩
  | 78 => ⟨S128x1x16x64x128, .f32⟩
  | 79 => ⟨S128x1x16x64x128, .f32⟩
  | 80 => ⟨S128x1x16x64x128, .f32⟩
  | 81 => ⟨S128x1x16x64x128, .f32⟩
  | 82 => ⟨S128x1x16x64x128, .f32⟩
  | 83 => ⟨S128x1x16x64x128, .f32⟩
  | 84 => ⟨S128x1x16x64x64, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S_, .f32⟩
  | 97 => ⟨S_, .f32⟩
  | 98 => ⟨S128x1x16x64x64, .i1⟩
  | 99 => ⟨S128x1x16x64x64, .f32⟩
  | 100 => ⟨S128x1x16x64x64, .f32⟩
  | 101 => ⟨S128x1x16x64x128, .f32⟩
  | 102 => ⟨S128x1x16x64x128, .f32⟩
  | 103 => ⟨S128x1x16x64x128, .f32⟩
  | 104 => ⟨S128x1x16x64x128, .f32⟩
  | 105 => ⟨S128x1x16x64x128, .f32⟩
  | 106 => ⟨S128x1x16x64x128, .f32⟩
  | 107 => ⟨S128x1x16x64x128, .f32⟩
  | 108 => ⟨S128x1x16x128, .f32⟩
  | 109 => ⟨S128x1x16x128, .f32⟩
  | 110 => ⟨S_, .f32⟩
  | 111 => ⟨S128x1x16x64x128, .f32⟩
  | 112 => ⟨S_, .i32⟩
  | 113 => ⟨S128x1x16x64x128, .f32⟩
  | 114 => ⟨S128x1x16x64x128, .f32⟩
  | 115 => ⟨S128x1x16x64x128, .f32⟩
  | 116 => ⟨S128x1x16x128, .f32⟩
  | 117 => ⟨S128x1x16x64x128, .f32⟩
  | 118 => ⟨S_, .i32⟩
  | 119 => ⟨S1x16x128x128, .f32⟩
  | 120 => ⟨S128x1x16x64x128, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1x1x16x64x128, .f32⟩
  | _ => ⟨S8320x8192, .f32⟩

abbrev hbmTy0_1 (i : Nat) : BufTy := match i % 128 with
  | 0 => ⟨S1x16x64x128, .f32⟩
  | 1 => ⟨S_, .i32⟩
  | 2 => ⟨S_, .i32⟩
  | 3 => ⟨S_, .i32⟩
  | 4 => ⟨S_, .i32⟩
  | 5 => ⟨S1x1x16x64x128, .f32⟩
  | 6 => ⟨S1x16x64x128, .f32⟩
  | 7 => ⟨S_, .i32⟩
  | 8 => ⟨S_, .i32⟩
  | 9 => ⟨S_, .i32⟩
  | 10 => ⟨S_, .i32⟩
  | 11 => ⟨S1x1x16x64x128, .f32⟩
  | 12 => ⟨S1x16x64x128, .f32⟩
  | 13 => ⟨S_, .i32⟩
  | 14 => ⟨S_, .i32⟩
  | 15 => ⟨S_, .i32⟩
  | 16 => ⟨S1x1x16x128, .f32⟩
  | 17 => ⟨S1x16x128, .f32⟩
  | 18 => ⟨S_, .i32⟩
  | 19 => ⟨S_, .i32⟩
  | 20 => ⟨S_, .i32⟩
  | 21 => ⟨S_, .i32⟩
  | 22 => ⟨S1x1x16x64x128, .f32⟩
  | 23 => ⟨S1x16x64x128, .f32⟩
  | 24 => ⟨S1x16x64x128, .f32⟩
  | 25 => ⟨S1x16x64x128, .f32⟩
  | 26 => ⟨S1x16x128x1, .f32⟩
  | 27 => ⟨S1x16x128x128, .f32⟩
  | 28 => ⟨S1x16x128x128, .f32⟩
  | 29 => ⟨S1x16x128x128, .f32⟩
  | 30 => ⟨S1x16x128x128, .f32⟩
  | 31 => ⟨S1x1x16x64x128, .f32⟩
  | 32 => ⟨S_, .i32⟩
  | 33 => ⟨S_, .i32⟩
  | 34 => ⟨S_, .i32⟩
  | 35 => ⟨S_, .i32⟩
  | 36 => ⟨S128x1x16x64x128, .f32⟩
  | 37 => ⟨S_, .i32⟩
  | 38 => ⟨S_, .i32⟩
  | 39 => ⟨S1x128x64x16x128, .f32⟩
  | 40 => ⟨S1x8192x16x128, .f32⟩
  | 41 => ⟨S8192x2048, .f32⟩
  | 42 => ⟨S1x8192x2048, .f32⟩
  | 43 => ⟨S128, .f32⟩
  | 44 => ⟨S1x8192x16x128, .f32⟩
  | 45 => ⟨S_, .f32⟩
  | 46 => ⟨S1x8192x16, .f32⟩
  | 47 => ⟨S1x8192x16x1, .f32⟩
  | 48 => ⟨S_, .f32⟩
  | 49 => ⟨S1x8192x16x1, .f32⟩
  | 50 => ⟨S1x8192x16x1, .f32⟩
  | 51 => ⟨S_, .f32⟩
  | 52 => ⟨S1x8192x16x1, .f32⟩
  | 53 => ⟨S1x8192x16x1, .f32⟩
  | 54 => ⟨S1x8192x16x1, .f32⟩
  | 55 => ⟨S1x8192x16x128, .f32⟩
  | 56 => ⟨S1x8192x16x128, .f32⟩
  | 57 => ⟨S1x1x1x128, .f32⟩
  | 58 => ⟨S1x8192x16x128, .f32⟩
  | 59 => ⟨S1x8192x16x128, .f32⟩
  | 60 => ⟨S1x8192x16x128, .f32⟩
  | 61 => ⟨S1x8192x16x128, .f32⟩
  | 62 => ⟨S1x8192x16x128, .f32⟩
  | 63 => ⟨S_, .f32⟩
  | 64 => ⟨S1x8192x16x128, .f32⟩
  | 65 => ⟨S1x8192x16x128, .f32⟩
  | 66 => ⟨S_, .f32⟩
  | 67 => ⟨S1x8192x16x128, .f32⟩
  | 68 => ⟨S1x8192x16x128, .f32⟩
  | 69 => ⟨S1x8192x16x128, .f32⟩
  | 70 => ⟨S1x8192x16x128, .f32⟩
  | 71 => ⟨S8192x2048, .f32⟩
  | 72 => ⟨S8192x2048, .bf16⟩
  | 73 => ⟨S16x128x128, .f32⟩
  | _ => ⟨S8320x8192, .f32⟩

abbrev hbmTy (i : Nat) : BufTy := match i / 128 with
  | 0 => hbmTy0_0 i
  | 1 => hbmTy0_1 i
  | _ => ⟨S8320x8192, .f32⟩

abbrev bufTy : (tb : Table) → Fin (tcTables nBuf tb) → BufTy
  | .hbm, ⟨i, _⟩ => hbmTy i
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call2_call0_cst : Ref sig .tc := ⟨.hbm, 71, rfl⟩
abbrev main_call2_call0_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c : Ref sig .tc := ⟨.hbm, 85, rfl⟩
abbrev main_v62 : Ref sig .tc := ⟨.hbm, 86, rfl⟩
abbrev main_call3_v0 : Ref sig .tc := ⟨.hbm, 87, rfl⟩
abbrev main_call3_c : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_c_0 : Ref sig .tc := ⟨.hbm, 93, rfl⟩
abbrev main_call3_v5 : Ref sig .tc := ⟨.hbm, 94, rfl⟩
abbrev main_v63 : Ref sig .tc := ⟨.hbm, 95, rfl⟩
abbrev main_cst_7 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_8 : Ref sig .tc := ⟨.hbm, 110, rfl⟩
abbrev main_v74 : Ref sig .tc := ⟨.hbm, 111, rfl⟩
abbrev main_c_9 : Ref sig .tc := ⟨.hbm, 112, rfl⟩
abbrev main_v75_0 : Ref sig .tc := ⟨.hbm, 113, rfl⟩
abbrev main_v75_1 : Ref sig .tc := ⟨.hbm, 114, rfl⟩
abbrev main_v75_2 : Ref sig .tc := ⟨.hbm, 115, rfl⟩
abbrev main_v75_3 : Ref sig .tc := ⟨.hbm, 116, rfl⟩
abbrev main_v75_4 : Ref sig .tc := ⟨.hbm, 117, rfl⟩
abbrev main_v75_5 : Ref sig .tc := ⟨.hbm, 118, rfl⟩
abbrev main_v75_6 : Ref sig .tc := ⟨.hbm, 119, rfl⟩
abbrev main_v75_7 : Ref sig .tc := ⟨.hbm, 120, rfl⟩
abbrev main_while0c_c_20 : Ref sig .tc := ⟨.hbm, 121, rfl⟩
abbrev main_while0c_v100 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_call5_v0 : Ref sig .tc := ⟨.hbm, 127, rfl⟩
abbrev main_while0b_v100 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_c_2 : Ref sig .tc := ⟨.hbm, 132, rfl⟩
abbrev main_while0b_call6_v0 : Ref sig .tc := ⟨.hbm, 133, rfl⟩
abbrev main_while0b_v101 : Ref sig .tc := ⟨.hbm, 134, rfl⟩
abbrev main_while0b_call7_c : Ref sig .tc := ⟨.hbm, 135, rfl⟩
abbrev main_while0b_call7_c_0 : Ref sig .tc := ⟨.hbm, 136, rfl⟩
abbrev main_while0b_call7_c_1 : Ref sig .tc := ⟨.hbm, 137, rfl⟩
abbrev main_while0b_call7_c_2 : Ref sig .tc := ⟨.hbm, 138, rfl⟩
abbrev main_while0b_call7_v0 : Ref sig .tc := ⟨.hbm, 139, rfl⟩
abbrev main_while0b_v102 : Ref sig .tc := ⟨.hbm, 140, rfl⟩
abbrev main_while0b_call8_c : Ref sig .tc := ⟨.hbm, 141, rfl⟩
abbrev main_while0b_call8_c_0 : Ref sig .tc := ⟨.hbm, 142, rfl⟩
abbrev main_while0b_call8_c_1 : Ref sig .tc := ⟨.hbm, 143, rfl⟩
abbrev main_while0b_call8_v0 : Ref sig .tc := ⟨.hbm, 144, rfl⟩
abbrev main_while0b_v103 : Ref sig .tc := ⟨.hbm, 145, rfl⟩
abbrev main_while0b_call9_c : Ref sig .tc := ⟨.hbm, 146, rfl⟩
abbrev main_while0b_call9_c_0 : Ref sig .tc := ⟨.hbm, 147, rfl⟩
abbrev main_while0b_call9_c_1 : Ref sig .tc := ⟨.hbm, 148, rfl⟩
abbrev main_while0b_call9_c_2 : Ref sig .tc := ⟨.hbm, 149, rfl⟩
abbrev main_while0b_call9_v0 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_call10_v0 : Ref sig .tc := ⟨.hbm, 159, rfl⟩
abbrev main_while0b_call10_c : Ref sig .tc := ⟨.hbm, 160, rfl⟩
abbrev main_while0b_call10_c_0 : Ref sig .tc := ⟨.hbm, 161, rfl⟩
abbrev main_while0b_call10_c_1 : Ref sig .tc := ⟨.hbm, 162, rfl⟩
abbrev main_while0b_call10_c_2 : Ref sig .tc := ⟨.hbm, 163, rfl⟩
abbrev main_while0b_v112 : Ref sig .tc := ⟨.hbm, 164, rfl⟩
abbrev main_while0b_c_20 : Ref sig .tc := ⟨.hbm, 165, rfl⟩
abbrev main_while0b_v113 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_cst_10 : Ref sig .tc := ⟨.hbm, 173, rfl⟩
abbrev main_v82 : Ref sig .tc := ⟨.hbm, 174, rfl⟩
abbrev main_v83 : Ref sig .tc := ⟨.hbm, 175, rfl⟩
abbrev main_cst_11 : Ref sig .tc := ⟨.hbm, 176, rfl⟩
abbrev main_v84 : Ref sig .tc := ⟨.hbm, 177, rfl⟩
abbrev main_v85 : Ref sig .tc := ⟨.hbm, 178, rfl⟩
abbrev main_cst_12 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_call11_v0 : Ref sig .tc := ⟨.hbm, 189, rfl⟩
abbrev main_call11_v1 : Ref sig .tc := ⟨.hbm, 190, rfl⟩
abbrev main_call11_cst : Ref sig .tc := ⟨.hbm, 191, rfl⟩
abbrev main_call11_v2 : Ref sig .tc := ⟨.hbm, 192, rfl⟩
abbrev main_call11_v3 : Ref sig .tc := ⟨.hbm, 193, rfl⟩
abbrev main_call11_cst_0 : Ref sig .tc := ⟨.hbm, 194, rfl⟩
abbrev main_call11_v4 : Ref sig .tc := ⟨.hbm, 195, rfl⟩
abbrev main_call11_v5 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8320x2048 : Shape := ⟨2, ![8320, 2048]⟩
abbrev S2048 : Shape := ⟨1, ![2048]⟩
abbrev S2048x11264 : Shape := ⟨2, ![2048, 11264]⟩
abbrev S1x2048 : Shape := ⟨2, ![1, 2048]⟩
abbrev S8320x5632 : Shape := ⟨2, ![8320, 5632]⟩
abbrev S1040x2048 : Shape := ⟨2, ![1040, 2048]⟩
abbrev S2048x512 : Shape := ⟨2, ![2048, 512]⟩
abbrev S1040x512 : Shape := ⟨2, ![1040, 512]⟩
abbrev S16x2048 : Shape := ⟨2, ![16, 2048]⟩
abbrev S16 : Shape := ⟨1, ![16]⟩
abbrev S16x1 : Shape := ⟨2, ![16, 1]⟩

abbrev nBuf : Space → Nat
  | .hbm => 5
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x11264, .f32⟩
  | .hbm, ⟨3, _⟩ => ⟨S1x2048, .f32⟩
  | .hbm, ⟨4, _⟩ => ⟨S8320x5632, .bf16⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S1040x512, .bf16⟩
  | .local _ .vmem, ⟨8, _⟩ => ⟨S1040x512, .bf16⟩
  | .local _ .vmem, ⟨9, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c65_i32 : BitVec 32 := 65#32
  let v23 : BitVec 32 := Scalar.addi c0_i32_14 c65_i32
  let c1_i32 : BitVec 32 := 1#32
  ⟨c0_i32_14, v23, c1_i32⟩
def k0_mult1 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c16_i32 : BitVec 32 := 16#32
  let v24 : BitVec 32 := Scalar.muli arg8 c16_i32
  v24
def k0_off1 (k0_t1 : Fin k0_t1_loop.trips) : Fin 2 → Nat :=
  let c0_i32_14 : BitVec 32 := 0#32
  let c1_i32 : BitVec 32 := 1#32
  let arg8 : BitVec 32 := Scf.iv c0_i32_14 c1_i32 k0_t1
  let c16_i32 : BitVec 32 := 16#32
  let v24 : BitVec 32 := Scalar.muli arg8 c16_i32
  let v25 : BitVec 32 := v24
  let v26 : Index := Scalar.indexCast v25
  let c0_16 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8320x2048 : Shape := ⟨2, ![8320, 2048]⟩
abbrev S2048 : Shape := ⟨1, ![2048]⟩
abbrev S2048x11264 : Shape := ⟨2, ![2048, 11264]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x11264 : Shape := ⟨2, ![8320, 11264]⟩
abbrev S8320x5632 : Shape := ⟨2, ![8320, 5632]⟩

abbrev nBuf : Space → Nat
  | .hbm => 33
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x11264, .f32⟩
  | .hbm, ⟨3, _⟩ => ⟨S8320x2048, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S1x2048, .f32⟩
  | .hbm, ⟨17, _⟩ => ⟨S8320x2048, .f32⟩
  | .hbm, ⟨18, _⟩ => ⟨S8320x2048, .f32⟩
  | .hbm, ⟨19, _⟩ => ⟨S8320x11264, .f32⟩
  | .hbm, ⟨20, _⟩ => ⟨S8320x5632, .f32⟩
  | .hbm, ⟨21, _⟩ => ⟨S8320x5632, .f32⟩
  | .hbm, ⟨22, _⟩ => ⟨S8320x5632, .f32⟩
  | .hbm, ⟨23, _⟩ => ⟨S8320x5632, .f32⟩
  | .hbm, ⟨24, _⟩ => ⟨S_, .f32⟩
  | .hbm, ⟨25, _⟩ => ⟨S8320x5632, .f32⟩
  | .hbm, ⟨26, _⟩ => ⟨S8320x5632, .f32⟩
  | .hbm, ⟨27, _⟩ => ⟨S_, .f32⟩
  | .hbm, ⟨28, _⟩ => ⟨S8320x5632, .f32⟩
  | .hbm, ⟨29, _⟩ => ⟨S8320x5632, .f32⟩
  | .hbm, ⟨30, _⟩ => ⟨S8320x5632, .f32⟩
  | .hbm, ⟨31, _⟩ => ⟨S8320x5632, .f32⟩
  | .hbm, ⟨32, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel3.lean ====
abbrev S8320x5632 : Shape := ⟨2, ![8320, 5632]⟩
abbrev S5632x2048 : Shape := ⟨2, ![5632, 2048]⟩
abbrev S8320x2048 : Shape := ⟨2, ![8320, 2048]⟩
abbrev S1040x5632 : Shape := ⟨2, ![1040, 5632]⟩
abbrev S5632x256 : Shape := ⟨2, ![5632, 256]⟩
abbrev S1040x256 : Shape := ⟨2, ![1040, 256]⟩

abbrev nBuf : Space → Nat
  | .hbm => 4
  | .vmem => 8
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S8320x2048, .f32⟩
  | .local _ .vmem, ⟨0, _⟩ => ⟨S1040x5632, .bf16⟩
  | .local _ .vmem, ⟨1, _⟩ => ⟨S1040x5632, .bf16⟩
  | .local _ .vmem, ⟨2, _⟩ => ⟨S5632x256, .f32⟩
  | .local _ .vmem, ⟨3, _⟩ => ⟨S5632x256, .f32⟩
  | .local _ .vmem, ⟨4, _⟩ => ⟨S1040x256, .f32⟩
  | .local _ .vmem, ⟨5, _⟩ => ⟨S1040x256, .f32⟩
  | .local _ .vmem, ⟨6, _⟩ => ⟨S1040x256, .f32⟩
  | .local _ .vmem, ⟨7, _⟩ => ⟨S1040x256, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8320x5632 : Shape := ⟨2, ![8320, 5632]⟩
abbrev S5632x2048 : Shape := ⟨2, ![5632, 2048]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S8320x5632, .f32⟩
  | .hbm, ⟨4, _⟩ => ⟨S8320x2048, .f32⟩
  | .hbm, ⟨5, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8320x2048 : Shape := ⟨2, ![8320, 2048]⟩
abbrev S2048 : Shape := ⟨1, ![2048]⟩
abbrev S2048x8192 : Shape := ⟨2, ![2048, 8192]⟩
abbrev S_ : Shape := ⟨0, ![]⟩
abbrev S128 : Shape := ⟨1, ![128]⟩
abbrev S1x2048 : Shape := ⟨2, ![1, 2048]⟩
abbrev S1x128 : Shape := ⟨2, ![1, 128]⟩
abbrev S8320x8192 : Shape := ⟨2, ![8320, 8192]⟩
abbrev S1040x2048 : Shape := ⟨2, ![1040, 2048]⟩
abbrev S2048x512 : Shape := ⟨2, ![2048, 512]⟩
abbrev S1040x512 : Shape := ⟨2, ![1040, 512]⟩
abbrev S16x2048 : Shape := ⟨2, ![16, 2048]⟩
abbrev S16 : Shape := ⟨1, ![16]⟩
abbrev S16x1 : Shape := ⟨2, ![16, 1]⟩

abbrev nBuf : Space → Nat
  | .hbm => 8
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x8192, .f32⟩
  | .hbm, ⟨3, _⟩ => ⟨S_, .f32⟩
  | .hbm, ⟨4, _⟩ => ⟨S128, .f32⟩
  | .hbm, ⟨5, _⟩ => ⟨S1x2048, .f32⟩
  | .hbm, ⟨6, _⟩ => ⟨S1x128, .f32⟩
  | .hbm, ⟨7, _⟩ => ⟨S8320x8192, .f32⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1040x512, .f32⟩
  | .local _ .vmem, ⟨7, _⟩ => ⟨S1040x512, .f32⟩
  | .local _ .vmem, ⟨8, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c65_i32 : BitVec 32 := 65#32
  let v10 : BitVec 32 := Scalar.addi c0_i32_8 c65_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg8 : BitVec 32 := Scf.iv c0_i32_8 c1_i32 k0_t1
  let c16_i32 : BitVec 32 := 16#32
  let v11 : BitVec 32 := Scalar.muli arg8 c16_i32
  v11
def k0_off1 (k0_t1 : Fin k0_t1_loop.trips) : Fin 2 → Nat :=
  let c0_i32_8 : BitVec 32 := 0#32
  let c1_i32 : BitVec 32 := 1#32
  let arg8 : BitVec 32 := Scf.iv c0_i32_8 c1_i32 k0_t1
  let c16_i32 : BitVec 32 := 16#32
  let v11 : BitVec 32 := Scalar.muli arg8 c16_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8320x2048 : Shape := ⟨2, ![8320, 2048]⟩
abbrev S2048 : Shape := ⟨1, ![2048]⟩
abbrev S2048x8192 : Shape := ⟨2, ![2048, 8192]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x8192 : Shape := ⟨2, ![8320, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x8192, .f32⟩
  | .hbm, ⟨3, _⟩ => ⟨S8320x2048, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S1x2048, .f32⟩
  | .hbm, ⟨17, _⟩ => ⟨S8320x2048, .f32⟩
  | .hbm, ⟨18, _⟩ => ⟨S8320x2048, .f32⟩
  | .hbm, ⟨19, _⟩ => ⟨S8320x8192, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S8320x2048 : Shape := ⟨2, ![8320, 2048]⟩
abbrev S2048x2048 : Shape := ⟨2, ![2048, 2048]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8320x2048 : Shape := ⟨2, ![8320, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S8320x2048, .f32⟩
  | .hbm, ⟨4, _⟩ => ⟨S8320x2048, .f32⟩
  | .hbm, ⟨5, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8320x2048 : Shape := ⟨2, ![8320, 2048]⟩
abbrev S2048 : Shape := ⟨1, ![2048]⟩
abbrev S2048x1024 : Shape := ⟨2, ![2048, 1024]⟩
abbrev S128 : Shape := ⟨1, ![128]⟩
abbrev S1x2048 : Shape := ⟨2, ![1, 2048]⟩
abbrev S1x128 : Shape := ⟨2, ![1, 128]⟩
abbrev S8320x1024 : Shape := ⟨2, ![8320, 1024]⟩
abbrev S1040x2048 : Shape := ⟨2, ![1040, 2048]⟩
abbrev S2048x512 : Shape := ⟨2, ![2048, 512]⟩
abbrev S1040x512 : Shape := ⟨2, ![1040, 512]⟩
abbrev S16x2048 : Shape := ⟨2, ![16, 2048]⟩
abbrev S16 : Shape := ⟨1, ![16]⟩
abbrev S16x1 : Shape := ⟨2, ![16, 1]⟩
abbrev S1040x128 : Shape := ⟨2, ![1040, 128]⟩
abbrev S1040 : Shape := ⟨1, ![1040]⟩
abbrev S1040x1 : Shape := ⟨2, ![1040, 1]⟩

abbrev nBuf : Space → Nat
  | .hbm => 7
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S1x2048, .f32⟩
  | .hbm, ⟨5, _⟩ => ⟨S1x128, .f32⟩
  | .hbm, ⟨6, _⟩ => ⟨S8320x1024, .f32⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1040x512, .f32⟩
  | .local _ .vmem, ⟨7, _⟩ => ⟨S1040x512, .f32⟩
  | .local _ .vmem, ⟨8, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c65_i32 : BitVec 32 := 65#32
  let v15 : BitVec 32 := Scalar.addi c0_i32_9 c65_i32
  let c1_i32_10 : BitVec 32 := 1#32
  ⟨c0_i32_9, v15, c1_i32_10⟩
def k0_mult1 (k0_t1 : Fin k0_t1_loop.trips) : BitVec 32 :=
  let c0_i32_9 : BitVec 32 := 0#32
  let c1_i32_10 : BitVec 32 := 1#32
  let arg8 : BitVec 32 := Scf.iv c0_i32_9 c1_i32_10 k0_t1
  let c16_i32 : BitVec 32 := 16#32
  let v16 : BitVec 32 := Scalar.muli arg8 c16_i32
  v16
def k0_off1 (k0_t1 : Fin k0_t1_loop.trips) : Fin 2 → Nat :=
  let c0_i32_9 : BitVec 32 := 0#32
  let c1_i32_10 : BitVec 32 := 1#32
  let arg8 : BitVec 32 := Scf.iv c0_i32_9 c1_i32_10 k0_t1
  let c16_i32 : BitVec 32 := 16#32
  let v16 : BitVec 32 := Scalar.muli arg8 c16_i32
  let v17 : BitVec 32 := v16
  let v18 : Index := Scalar.indexCast v17
  let c0_12 : Index := 0#32
  ![v18.toNat, 0]
def k0_cond2 (i : grid0.Coords) : BitVec 1 :=
  let arg1 : BitVec 32 := BitVec.ofNat 32 (i 1).val
  let c1_i32 : BitVec 32 := 1#32
  let v7 : BitVec 1 := Scalar.cmpi .slt arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c1_i32_5 : BitVec 32 := 1#32
  let v10 : BitVec 1 := Scalar.cmpi .sge arg1 c1_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8320x2048 : Shape := ⟨2, ![8320, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x1024 : Shape := ⟨2, ![8320, 1024]⟩
abbrev S8320x512 : Shape := ⟨2, ![8320, 512]⟩
abbrev S8320x4x128 : Shape := ⟨3, ![8320, 4, 128]⟩
abbrev S8320x4 : Shape := ⟨2, ![8320, 4]⟩
abbrev S8320x4x1 : Shape := ⟨3, ![8320, 4, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S8320x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x2048, .f32⟩
  | .hbm, ⟨16, _⟩ => ⟨S8320x2048, .f32⟩
  | .hbm, ⟨17, _⟩ => ⟨S1x2048, .f32⟩
  | .hbm, ⟨18, _⟩ => ⟨S8320x2048, .f32⟩
  | .hbm, ⟨19, _⟩ => ⟨S8320x2048, .f32⟩
  | .hbm, ⟨20, _⟩ => ⟨S8320x1024, .f32⟩
  | .hbm, ⟨21, _⟩ => ⟨S8320x512, .f32⟩
  | .hbm, ⟨22, _⟩ => ⟨S8320x512, .f32⟩
  | .hbm, ⟨23, _⟩ => ⟨S8320x4x128, .f32⟩
  | .hbm, ⟨24, _⟩ => ⟨S8320x4x128, .f32⟩
  | .hbm, ⟨25, _⟩ => ⟨S_, .f32⟩
  | .hbm, ⟨26, _⟩ => ⟨S8320x4, .f32⟩
  | .hbm, ⟨27, _⟩ => ⟨S8320x4x1, .f32⟩
  | .hbm, ⟨28, _⟩ => ⟨S_, .f32⟩
  | .hbm, ⟨29, _⟩ => ⟨S8320x4x1, .f32⟩
  | .hbm, ⟨30, _⟩ => ⟨S8320x4x1, .f32⟩
  | .hbm, ⟨31, _⟩ => ⟨S_, .f32⟩
  | .hbm, ⟨32, _⟩ => ⟨S8320x4x1, .f32⟩
  | .hbm, ⟨33, _⟩ => ⟨S8320x4x1, .f32⟩
  | .hbm, ⟨34, _⟩ => ⟨S8320x4x1, .f32⟩
  | .hbm, ⟨35, _⟩ => ⟨S8320x4x128, .f32⟩
  | .hbm, ⟨36, _⟩ => ⟨S8320x4x128, .f32⟩
  | .hbm, ⟨37, _⟩ => ⟨S1x1x128, .f32⟩
  | .hbm, ⟨38, _⟩ => ⟨S8320x4x128, .f32⟩
  | .hbm, ⟨39, _⟩ => ⟨S8320x4x128, .f32⟩
  | .hbm, ⟨40, _⟩ => ⟨S8320x512, .f32⟩
  | .hbm, ⟨41, _⟩ => ⟨S8320x1024, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel7.lean ====
abbrev S8320x2048 : Shape := ⟨2, ![8320, 2048]⟩
abbrev S2048 : Shape := ⟨1, ![2048]⟩
abbrev S2048x2048 : Shape := ⟨2, ![2048, 2048]⟩
abbrev S128 : Shape := ⟨1, ![128]⟩
abbrev S1x2048 : Shape := ⟨2, ![1, 2048]⟩
abbrev S1x128 : Shape := ⟨2, ![1, 128]⟩
abbrev S1040x2048 : Shape := ⟨2, ![1040, 2048]⟩
abbrev S2048x512 : Shape := ⟨2, ![2048, 512]⟩
abbrev S1040x512 : Shape := ⟨2, ![1040, 512]⟩
abbrev S16x2048 : Shape := ⟨2, ![16, 2048]⟩
abbrev S16 : Shape := ⟨1, ![16]⟩
abbrev S16x1 : Shape := ⟨2, ![16, 1]⟩
abbrev S1040x128 : Shape := ⟨2, ![1040, 128]⟩
abbrev S1040 : Shape := ⟨1, ![1040]⟩
abbrev S1040x1 : Shape := ⟨2, ![1040, 1]⟩

abbrev nBuf : Space → Nat
  | .hbm => 7
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x2048, .f32⟩
  | .hbm, ⟨3, _⟩ => ⟨S128, .f32⟩
  | .hbm, ⟨4, _⟩ => ⟨S1x2048, .f32⟩
  | .hbm, ⟨5, _⟩ => ⟨S1x128, .f32⟩
  | .hbm, ⟨6, _⟩ => ⟨S8320x2048, .f32⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1040x512, .f32⟩
  | .local _ .vmem, ⟨7, _⟩ => ⟨S1040x512, .f32⟩
  | .local _ .vmem, ⟨8, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c65_i32 : BitVec 32 := 65#32
  let v15 : BitVec 32 := Scalar.addi c0_i32_9 c65_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c16_i32_11 : BitVec 32 := 16#32
  let v16 : BitVec 32 := Scalar.muli arg8 c16_i32_11
  v16
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c16_i32_11 : BitVec 32 := 16#32
  let v16 : BitVec 32 := Scalar.muli arg8 c16_i32_11
  let v17 : BitVec 32 := v16
  let v18 : Index := Scalar.indexCast v17
  let c0_12 : Index := 0#32
  ![v18.toNat, 0]
def k0_cond2 (i : grid0.Coords) : BitVec 1 :=
  let arg1 : BitVec 32 := BitVec.ofNat 32 (i 1).val
  let c16_i32 : BitVec 32 := 16#32
  let v7 : BitVec 1 := Scalar.cmpi .slt arg1 c16_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c16_i32_5 : BitVec 32 := 16#32
  let v10 : BitVec 1 := Scalar.cmpi .sge arg1 c16_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8320x2048 : Shape := ⟨2, ![8320, 2048]⟩
abbrev S2048 : Shape := ⟨1, ![2048]⟩
abbrev S2048x2048 : Shape := ⟨2, ![2048, 2048]⟩
abbrev S128 : Shape := ⟨1, ![128]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x16x128 : Shape := ⟨3, ![8320, 16, 128]⟩
abbrev S8320x16 : Shape := ⟨2, ![8320, 16]⟩
abbrev S8320x16x1 : Shape := ⟨3, ![8320, 16, 1]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x2048, .f32⟩
  | .hbm, ⟨3, _⟩ => ⟨S128, .f32⟩
  | .hbm, ⟨4, _⟩ => ⟨S8320x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x2048, .f32⟩
  | .hbm, ⟨16, _⟩ => ⟨S8320x2048, .f32⟩
  | .hbm, ⟨17, _⟩ => ⟨S1x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S8320x16x128, .f32⟩
  | .hbm, ⟨22, _⟩ => ⟨S8320x16x128, .f32⟩
  | .hbm, ⟨23, _⟩ => ⟨S_, .f32⟩
  | .hbm, ⟨24, _⟩ => ⟨S8320x16, .f32⟩
  | .hbm, ⟨25, _⟩ => ⟨S8320x16x1, .f32⟩
  | .hbm, ⟨26, _⟩ => ⟨S_, .f32⟩
  | .hbm, ⟨27, _⟩ => ⟨S8320x16x1, .f32⟩
  | .hbm, ⟨28, _⟩ => ⟨S8320x16x1, .f32⟩
  | .hbm, ⟨29, _⟩ => ⟨S_, .f32⟩
  | .hbm, ⟨30, _⟩ => ⟨S8320x16x1, .f32⟩
  | .hbm, ⟨31, _⟩ => ⟨S8320x16x1, .f32⟩
  | .hbm, ⟨32, _⟩ => ⟨S8320x16x1, .f32⟩
  | .hbm, ⟨33, _⟩ => ⟨S8320x16x128, .f32⟩
  | .hbm, ⟨34, _⟩ => ⟨S8320x16x128, .f32⟩
  | .hbm, ⟨35, _⟩ => ⟨S1x1x128, .f32⟩
  | .hbm, ⟨36, _⟩ => ⟨S8320x16x128, .f32⟩
  | .hbm, ⟨37, _⟩ => ⟨S8320x16x128, .f32⟩
  | .hbm, ⟨38, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel8.lean ====
abbrev S8320x8192 : Shape := ⟨2, ![8320, 8192]⟩
abbrev S1x32x16x128x128 : Shape := ⟨5, ![1, 32, 16, 128, 128]⟩
abbrev S2x2048 : Shape := ⟨2, ![2, 2048]⟩
abbrev S1x128 : Shape := ⟨2, ![1, 128]⟩
abbrev S32x16x128x128 : Shape := ⟨4, ![32, 16, 128, 128]⟩
abbrev S128 : Shape := ⟨1, ![128]⟩
abbrev S128x2048 : Shape := ⟨2, ![128, 2048]⟩
abbrev S128x128 : Shape := ⟨2, ![128, 128]⟩
abbrev S2x128 : Shape := ⟨2, ![2, 128]⟩
abbrev S32x1x128x128 : Shape := ⟨4, ![32, 1, 128, 128]⟩
abbrev S1x1x128x128 : Shape := ⟨4, ![1, 1, 128, 128]⟩
abbrev S128x1 : Shape := ⟨2, ![128, 1]⟩

abbrev nBuf : Space → Nat
  | .hbm => 9
  | .vmem => 21
  | .smem => 0
  | _ => 0

abbrev bufTy : (tb : Table) → Fin (tcTables nBuf tb) → BufTy
  | .hbm, ⟨0, _⟩ => ⟨S8320x8192, .f32⟩
  | .hbm, ⟨1, _⟩ => ⟨S1x32x16x128x128, .f32⟩
  | .hbm, ⟨2, _⟩ => ⟨S2x2048, .f32⟩
  | .hbm, ⟨3, _⟩ => ⟨S1x128, .f32⟩
  | .hbm, ⟨4, _⟩ => ⟨S32x16x128x128, .f32⟩
  | .hbm, ⟨5, _⟩ => ⟨S128, .f32⟩
  | .hbm, ⟨6, _⟩ => ⟨S1x128, .f32⟩
  | .hbm, ⟨7, _⟩ => ⟨S128x2048, .f32⟩
  | .hbm, ⟨8, _⟩ => ⟨S32x16x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S32x1x128x128, .f32⟩
  | .local _ .vmem, ⟨12, _⟩ => ⟨S32x1x128x128, .f32⟩
  | .local _ .vmem, ⟨13, _⟩ => ⟨S128x128, .f32⟩
  | .local _ .vmem, ⟨14, _⟩ => ⟨S128x128, .f32⟩
  | .local _ .vmem, ⟨15, _⟩ => ⟨S32x1x128x128, .f32⟩
  | .local _ .vmem, ⟨16, _⟩ => ⟨S32x1x128x128, .f32⟩
  | .local _ .vmem, ⟨17, _⟩ => ⟨S128x128, .f32⟩
  | .local _ .vmem, ⟨18, _⟩ => ⟨S128x128, .f32⟩
  | .local _ .vmem, ⟨19, _⟩ => ⟨S128x128, .bf16⟩
  | .local _ .vmem, ⟨20, _⟩ => ⟨S128x128, .bf16⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v119 : BitVec 32 := Scalar.addi c0_i32 c32_i32
  let c1_i32_44 : BitVec 32 := 1#32
  ⟨c0_i32, v119, c1_i32_44⟩
def k0_off1 (k0_t1 : Fin k0_t1_loop.trips) : Fin 4 → Nat :=
  let c0_i32 : BitVec 32 := 0#32
  let c1_i32_44 : BitVec 32 := 1#32
  let arg14 : BitVec 32 := Scf.iv c0_i32 c1_i32_44 k0_t1
  let v154 : Index := Scalar.indexCast arg14
  let c0_61 : Index := 0#32
  let c0_62 : Index := 0#32
  let c0_63 : Index := 0#32
  ![v154.toNat, 0, 0, 0]
def k0_off2 (k0_t1 : Fin k0_t1_loop.trips) : Fin 2 → Nat :=
  let c0_i32 : BitVec 32 := 0#32
  let c1_i32_44 : BitVec 32 := 1#32
  let arg14 : BitVec 32 := Scf.iv c0_i32 c1_i32_44 k0_t1
  let c4_i32 : BitVec 32 := 4#32
  let v147 : BitVec 32 := Scalar.muli arg14 c4_i32
  let v171 : Index := Scalar.indexCast v147
  let c0_75 : Index := 0#32
  ![v171.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c64_i32 : BitVec 32 := 64#32
  let c0_i32_0 : BitVec 32 := 0#32
  ![c64_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c64_i32 : BitVec 32 := 64#32
  let c0_i32 : BitVec 32 := 0#32
  ![c64_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c64_i32 : BitVec 32 := 64#32
  let c0_i32 : BitVec 32 := 0#32
  ![c64_i32.toNat, v0.toNat]

def cc0_transform_3 (i : grid0.Coords) : Fin 2 → Nat :=
  let arg0 : BitVec 32 := BitVec.ofNat 32 (i 0).val
  let c48_i32 : BitVec 32 := 48#32
  let v0 : BitVec 32 := Scalar.addi arg0 c48_i32
  let c64_i32 : BitVec 32 := 64#32
  let c0_i32 : BitVec 32 := 0#32
  ![c64_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8320x8192 : Shape := ⟨2, ![8320, 8192]⟩
abbrev S1x32x16x128x128 : Shape := ⟨5, ![1, 32, 16, 128, 128]⟩
abbrev S2x2048 : Shape := ⟨2, ![2, 2048]⟩
abbrev S1x128 : Shape := ⟨2, ![1, 128]⟩
abbrev S_ : Shape := ⟨0, ![]⟩
abbrev S2048 : Shape := ⟨1, ![2048]⟩
abbrev S1x2048 : Shape := ⟨2, ![1, 2048]⟩
abbrev S128x8192 : Shape := ⟨2, ![128, 8192]⟩
abbrev S32x4x8192 : Shape := ⟨3, ![32, 4, 8192]⟩
abbrev S32x4x2048 : Shape := ⟨3, ![32, 4, 2048]⟩
abbrev S16x128 : Shape := ⟨2, ![16, 128]⟩
abbrev S32x4x16x128 : Shape := ⟨4, ![32, 4, 16, 128]⟩
abbrev S1x1x16x128 : Shape := ⟨4, ![1, 1, 16, 128]⟩
abbrev S32x16x128x128 : Shape := ⟨4, ![32, 16, 128, 128]⟩
abbrev S32x16x4x128 : Shape := ⟨4, ![32, 16, 4, 128]⟩
abbrev S32x16x1x128 : Shape := ⟨4, ![32, 16, 1, 128]⟩
abbrev S32x16x4x4 : Shape := ⟨4, ![32, 16, 4, 4]⟩
abbrev S4x4 : Shape := ⟨2, ![4, 4]⟩
abbrev S32x16x128 : Shape := ⟨3, ![32, 16, 128]⟩
abbrev S32x16x128x1 : Shape := ⟨4, ![32, 16, 128, 1]⟩
abbrev S128 : Shape := ⟨1, ![128]⟩
abbrev S32x4x16 : Shape := ⟨3, ![32, 4, 16]⟩
abbrev S32x4x16x1 : Shape := ⟨4, ![32, 4, 16, 1]⟩
abbrev S1x1x1x128 : Shape := ⟨4, ![1, 1, 1, 128]⟩
abbrev S128x2048 : Shape := ⟨2, ![128, 2048]⟩

abbrev nBuf : Space → Nat
  | .hbm => 144
  | .vmem => 0
  | .smem => 0
  | _ => 0

abbrev hbmTy0_0 (i : Nat) : BufTy := match i % 128 with
  | 0 => ⟨S8320x8192, .f32⟩
  | 1 => ⟨S1x32x16x128x128, .f32⟩
  | 2 => ⟨S2x2048, .f32⟩
  | 3 => ⟨S1x128, .f32⟩
  | 4 => ⟨S_, .f32⟩
  | 5 => ⟨S2048, .f32⟩
  | 6 => ⟨S_, .f32⟩
  | 7 => ⟨S2048, .f32⟩
  | 8 => ⟨S2048, .f32⟩
  | 9 => ⟨S1x2048, .f32⟩
  | 10 => ⟨S2x2048, .f32⟩
  | 11 => ⟨S2x2048, .f32⟩
  | 12 => ⟨S2x2048, .f32⟩
  | 13 => ⟨S_, .f32⟩
  | 14 => ⟨S2048, .f32⟩
  | 15 => ⟨S1x2048, .f32⟩
  | 16 => ⟨S2x2048, .f32⟩
  | 17 => ⟨S2x2048, .f32⟩
  | 18 => ⟨S_, .f32⟩
  | 19 => ⟨S_, .f32⟩
  | 20 => ⟨S2x2048, .f32⟩
  | 21 => ⟨S1x2048, .f32⟩
  | 22 => ⟨S2048, .f32⟩
  | 23 => ⟨S128x8192, .f32⟩
  | 24 => ⟨S32x4x8192, .f32⟩
  | 25 => ⟨S32x4x2048, .f32⟩
  | 26 => ⟨S32x4x2048, .f32⟩
  | 27 => ⟨S32x4x2048, .f32⟩
  | 28 => ⟨S32x4x2048, .f32⟩
  | 29 => ⟨S16x128, .f32⟩
  | 30 => ⟨S_, .f32⟩
  | 31 => ⟨S16x128, .f32⟩
  | 32 => ⟨S16x128, .f32⟩
  | 33 => ⟨S32x4x16x128, .f32⟩
  | 34 => ⟨S32x4x16x128, .f32⟩
  | 35 => ⟨S32x4x16x128, .f32⟩
  | 36 => ⟨S_, .f32⟩
  | 37 => ⟨S32x4x16x128, .f32⟩
  | 38 => ⟨S32x4x16x128, .f32⟩
  | 39 => ⟨S_, .f32⟩
  | 40 => ⟨S32x4x16x128, .f32⟩
  | 41 => ⟨S32x4x16x128, .f32⟩
  | 42 => ⟨S1x1x16x128, .f32⟩
  | 43 => ⟨S32x4x16x128, .f32⟩
  | 44 => ⟨S32x4x16x128, .f32⟩
  | 45 => ⟨S1x1x16x128, .f32⟩
  | 46 => ⟨S32x4x16x128, .f32⟩
  | 47 => ⟨S32x4x16x128, .f32⟩
  | 48 => ⟨S32x4x16x128, .f32⟩
  | 49 => ⟨S32x4x16x128, .f32⟩
  | 50 => ⟨S32x4x16x128, .f32⟩
  | 51 => ⟨S_, .f32⟩
  | 52 => ⟨S32x4x16x128, .f32⟩
  | 53 => ⟨S32x4x16x128, .f32⟩
  | 54 => ⟨S_, .f32⟩
  | 55 => ⟨S32x4x16x128, .f32⟩
  | 56 => ⟨S32x4x16x128, .f32⟩
  | 57 => ⟨S32x4x16x128, .f32⟩
  | 58 => ⟨S32x16x128x128, .f32⟩
  | 59 => ⟨S32x16x4x128, .f32⟩
  | 60 => ⟨S_, .f32⟩
  | 61 => ⟨S32x4x16x128, .f32⟩
  | 62 => ⟨S32x4x16x128, .f32⟩
  | 63 => ⟨S32x16x4x128, .f32⟩
  | 64 => ⟨S32x4x16x128, .f32⟩
  | 65 => ⟨S32x16x4x128, .f32⟩
  | 66 => ⟨S32x4x16x128, .f32⟩
  | 67 => ⟨S32x16x4x128, .f32⟩
  | 68 => ⟨S_, .f32⟩
  | 69 => ⟨S_, .f32⟩
  | 70 => ⟨S32x16x4x128, .f32⟩
  | 71 => ⟨S32x16x1x128, .f32⟩
  | 72 => ⟨S32x16x1x128, .f32⟩
  | 73 => ⟨S32x16x4x128, .f32⟩
  | 74 => ⟨S32x16x4x128, .f32⟩
  | 75 => ⟨S32x16x4x128, .f32⟩
  | 76 => ⟨S32x16x4x128, .f32⟩
  | 77 => ⟨S32x16x4x128, .f32⟩
  | 78 => ⟨S32x16x4x128, .f32⟩
  | 79 => ⟨S32x16x4x128, .f32⟩
  | 80 => ⟨S32x16x4x128, .f32⟩
  | 81 => ⟨S32x16x4x4, .f32⟩
  | 82 => ⟨S_, .i1⟩
  | 83 => ⟨S4x4, .i1⟩
  | 84 => ⟨S4x4, .i32⟩
  | 85 => ⟨S_, .i32⟩
  | 86 => ⟨S4x4, .i32⟩
  | 87 => ⟨S4x4, .i32⟩
  | 88 => ⟨S4x4, .i32⟩
  | 89 => ⟨S4x4, .i1⟩
  | 90 => ⟨S_, .i1⟩
  | 91 => ⟨S4x4, .i1⟩
  | 92 => ⟨S4x4, .i1⟩
  | 93 => ⟨S_, .f32⟩
  | 94 => ⟨S_, .f32⟩
  | 95 => ⟨S32x16x4x4, .i1⟩
  | 96 => ⟨S32x16x4x4, .f32⟩
  | 97 => ⟨S32x16x4x4, .f32⟩
  | 98 => ⟨S32x16x4x128, .f32⟩
  | 99 => ⟨S32x16x4x128, .f32⟩
  | 100 => ⟨S32x16x4x128, .f32⟩
  | 101 => ⟨S32x16x4x128, .f32⟩
  | 102 => ⟨S32x16x4x128, .f32⟩
  | 103 => ⟨S32x16x4x128, .f32⟩
  | 104 => ⟨S32x16x4x128, .f32⟩
  | 105 => ⟨S32x16x128, .f32⟩
  | 106 => ⟨S32x16x128, .f32⟩
  | 107 => ⟨S32x16x4x128, .f32⟩
  | 108 => ⟨S32x16x128x1, .f32⟩
  | 109 => ⟨S32x16x128x128, .f32⟩
  | 110 => ⟨S32x16x128x128, .f32⟩
  | 111 => ⟨S32x16x128x128, .f32⟩
  | 112 => ⟨S32x16x128x128, .f32⟩
  | 113 => ⟨S32x16x4x128, .f32⟩
  | 114 => ⟨S32x4x16x128, .f32⟩
  | 115 => ⟨S128, .f32⟩
  | 116 => ⟨S32x4x16x128, .f32⟩
  | 117 => ⟨S_, .f32⟩
  | 118 => ⟨S32x4x16, .f32⟩
  | 119 => ⟨S32x4x16x1, .f32⟩
  | 120 => ⟨S_, .f32⟩
  | 121 => ⟨S32x4x16x1, .f32⟩
  | 122 => ⟨S32x4x16x1, .f32⟩
  | 123 => ⟨S_, .f32⟩
  | 124 => ⟨S32x4x16x1, .f32⟩
  | 125 => ⟨S32x4x16x1, .f32⟩
  | 126 => ⟨S32x4x16x1, .f32⟩
  | 127 => ⟨S32x4x16x128, .f32⟩
  | _ => ⟨S8320x8192, .f32⟩

abbrev hbmTy0_1 (i : Nat) : BufTy := match i % 128 with
  | 0 => ⟨S32x4x16x128, .f32⟩
  | 1 => ⟨S1x1x1x128, .f32⟩
  | 2 => ⟨S32x4x16x128, .f32⟩
  | 3 => ⟨S32x4x16x128, .f32⟩
  | 4 => ⟨S32x4x16x128, .f32⟩
  | 5 => ⟨S32x4x16x128, .f32⟩
  | 6 => ⟨S32x4x16x128, .f32⟩
  | 7 => ⟨S_, .f32⟩
  | 8 => ⟨S32x4x16x128, .f32⟩
  | 9 => ⟨S32x4x16x128, .f32⟩
  | 10 => ⟨S_, .f32⟩
  | 11 => ⟨S32x4x16x128, .f32⟩
  | 12 => ⟨S32x4x16x128, .f32⟩
  | 13 => ⟨S32x4x16x128, .f32⟩
  | 14 => ⟨S32x4x16x128, .f32⟩
  | 15 => ⟨S128x2048, .f32⟩
  | _ => ⟨S8320x8192, .f32⟩

abbrev hbmTy (i : Nat) : BufTy := match i / 128 with
  | 0 => hbmTy0_0 i
  | 1 => hbmTy0_1 i
  | _ => ⟨S8320x8192, .f32⟩

abbrev bufTy : (tb : Table) → Fin (tcTables nBuf tb) → BufTy
  | .hbm, ⟨i, _⟩ => hbmTy i
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_call0_cst : Ref sig .tc := ⟨.hbm, 68, rfl⟩
abbrev main_call2_call0_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c : Ref sig .tc := ⟨.hbm, 82, rfl⟩
abbrev main_v59 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_0 : Ref sig .tc := ⟨.hbm, 90, rfl⟩
abbrev main_call3_v5 : Ref sig .tc := ⟨.hbm, 91, rfl⟩
abbrev main_v60 : Ref sig .tc := ⟨.hbm, 92, rfl⟩
abbrev main_cst_6 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_7 : Ref sig .tc := ⟨.hbm, 117, rfl⟩
abbrev main_v81 : Ref sig .tc := ⟨.hbm, 118, rfl⟩
abbrev main_v82 : Ref sig .tc := ⟨.hbm, 119, rfl⟩
abbrev main_cst_8 : Ref sig .tc := ⟨.hbm, 120, rfl⟩
abbrev main_v83 : Ref sig .tc := ⟨.hbm, 121, rfl⟩
abbrev main_v84 : Ref sig .tc := ⟨.hbm, 122, rfl⟩
abbrev main_cst_9 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call5_v0 : Ref sig .tc := ⟨.hbm, 133, rfl⟩
abbrev main_call5_v1 : Ref sig .tc := ⟨.hbm, 134, rfl⟩
abbrev main_call5_cst : Ref sig .tc := ⟨.hbm, 135, rfl⟩
abbrev main_call5_v2 : Ref sig .tc := ⟨.hbm, 136, rfl⟩
abbrev main_call5_v3 : Ref sig .tc := ⟨.hbm, 137, rfl⟩
abbrev main_call5_cst_0 : Ref sig .tc := ⟨.hbm, 138, rfl⟩
abbrev main_call5_v4 : Ref sig .tc := ⟨.hbm, 139, rfl⟩
abbrev main_call5_v5 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩

abbrev nD : Nat := 1
abbrev τ : Topo := Topo.v7x

variable {F : FTy → Type} [FloatOps F]
-- ==== Proof.GlaI.Trip.lean ====
/- One chunk of the recurrence: what a trip of the kernel's loop stores, as plain functions of the four
   blocks it reads, the logits, the gain and the state it finds; and the loop's invariant over them. -/
module

public import proofs.«01_k».proof.Proof.Gen.KernelIdeal.Frame.Runs
public import Idealize.ShloMosaic.Lib.Pipeline.Value
public import Idealize.ShloMosaic.Lib.ValueIdxCore

@[expose] public section

noncomputable section

namespace Cert.KernelIdeal.Gla

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The 64 rows of trip `k`. -/
abbrev rowsRect (k : Fin k0_t1_loop.trips) : Rect S512x128 :=
  Rect.unit (s := S512x128) (k0_off1 k) S64x128.size (k0_off1_inb k)

/-- A block's rows at trip `k`. -/
def rows (k : Fin k0_t1_loop.trips) (x : Vec F S512x128 .f32) : Vec F S64x128 .f32 :=
  View.ld x (rowsRect k)

/-- The running sums of the chunk's log forget gates, over the rows of the chunk. -/
def cum (x4 : Vec F S2x128 .f32) (zf : Vec F S64x128 .f32) : FVec F S64x128 .f32 :=
  k0_pay11 (iota .tc S64x128 32 [0] iota_S64x128_d0_w32) (k0_pay9 (k0_pay2 x4) zf) k0_pay10 2#32

/-- The last row of the running sums. -/
def cumLast (x4 : Vec F S2x128 .f32) (zf : Vec F S64x128 .f32) : FVec F S1x128 .f32 :=
  k0_pay12 (iota .tc S64x128 32 [0] iota_S64x128_d0_w32) (k0_pay9 (k0_pay2 x4) zf) k0_pay10 2#32

/-- The chunk's masked scores. -/
def att (v17 v18 : IVec S64x64 32) (x4 : Vec F S2x128 .f32) (zq zf : Vec F S64x128 .f32) : FVec F S64x64 .f32 :=
  k0_pay13 v17 v18 (k0_pay6 zq) (k0_pay7 (k0_pay2 x4) zf) (iota .tc S64x128 32 [0] iota_S64x128_d0_w32) (k0_pay9 (k0_pay2 x4) zf) k0_pay10 2#32

/-- The state after a chunk. -/
def stNext (x4 : Vec F S2x128 .f32) (zf zi : Vec F S64x128 .f32) (st : Vec F S128x128 .f32) : FVec F S128x128 .f32 :=
  k0_pay14 (k0_pay7 (k0_pay2 x4) zf) (k0_pay8 zi) (cum x4 zf) (cumLast x4 zf) st

/-- The chunk's output rows. -/
def oNext (v17 v18 : IVec S64x64 32) (x4 : Vec F S2x128 .f32) (x5 : Vec F S1x128 .f32) (zq zf zi zg : Vec F S64x128 .f32)
    (st : Vec F S128x128 .f32) : FVec F S64x128 .bf16 :=
  k0_pay15 (k0_pay3 x5) (k0_pay6 zq) (k0_pay8 zi) (cum x4 zf) (att v17 v18 x4 zq zf) st zg

/-- The state before trip `k` of a grid point. -/
def stAt (x1 x2 : Vec F S512x128 .f32) (x4 : Vec F S2x128 .f32) (st : Vec F S128x128 .f32) : ℕ → Vec F S128x128 .f32
  | 0 => st
  | k + 1 => if h : k < k0_t1_loop.trips then stNext x4 (rows ⟨k, h⟩ x1) (rows ⟨k, h⟩ x2) (stAt x1 x2 x4 st k) else stAt x1 x2 x4 st k

theorem stAt_succ (x1 x2 : Vec F S512x128 .f32) (x4 : Vec F S2x128 .f32) (st : Vec F S128x128 .f32) (k : Fin k0_t1_loop.trips) :
    stAt x1 x2 x4 st (k.val + 1) = stNext x4 (rows k x1) (rows k x2) (stAt x1 x2 x4 st k.val) := by
  rw [stAt]; exact dif_pos k.isLt

/-- The rows trip `k` writes. -/
def oAt (v17 v18 : IVec S64x64 32) (x0 x1 x2 x3 : Vec F S512x128 .f32) (x4 : Vec F S2x128 .f32) (x5 : Vec F S1x128 .f32)
    (st : Vec F S128x128 .f32) (k : Fin k0_t1_loop.trips) : Vec F S64x128 .bf16 :=
  oNext v17 v18 x4 x5 (rows k x0) (rows k x1) (rows k x2) (rows k x3) (stAt x1 x2 x4 st k.val)

theorem trips_eq : k0_t1_loop.trips = 8 := by decide +kernel

/-- The trip a row of the block belongs to. -/
def tripOf (j : S512x128.Idx) : Fin k0_t1_loop.trips := ⟨(j 0).val / 64, by rw [trips_eq]; have h : (j 0).val < 512 := (j 0).isLt; omega⟩
/-- Its place among the trip's rows. -/
def inTrip (j : S512x128.Idx) : S64x128.Idx := ix2 ⟨(j 0).val % 64, Nat.mod_lt _ (by decide)⟩ ⟨(j 1).val, (j 1).isLt⟩

theorem rowsRect_emb (j : S512x128.Idx) : (rowsRect (tripOf j)).emb (inTrip j) = j := by
  funext a
  apply Fin.ext
  rw [show (((rowsRect (tripOf j)).emb (inTrip j)) a).val = (k0_off1 (tripOf j)) a + 1 * ((inTrip j) a).val from rfl, k0_off1_eq]
  match a with
  | ⟨0, _⟩ => show 64 * ((j 0).val / 64) + 1 * ((j 0).val % 64) = (j 0).val; omega
  | ⟨1, _⟩ => show 0 + 1 * (j 1).val = (j 1).val; omega

/-- The output block a grid point leaves, from the state it starts with. -/
def oFn (v17 v18 : IVec S64x64 32) (x0 x1 x2 x3 : Vec F S512x128 .f32) (x4 : Vec F S2x128 .f32) (x5 : Vec F S1x128 .f32)
    (st : Vec F S128x128 .f32) : Vec F S512x128 .bf16 :=
  fun j => oAt v17 v18 x0 x1 x2 x3 x4 x5 st (tripOf j) (inTrip j)

section Loop

variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S512x128 .bf16) (harg8 : arg8.IsWhole) (arg9 : Memref sig .tc .vmem S1x128x128 .f32) (harg9 : arg9.IsWhole) (arg10 : Memref sig .tc .vmem S128x128 .f32) (harg10 : arg10.IsWhole)

/-- The pieces one trip writes into the output block. -/
theorem trip_out (x4 : Vec F S2x128 .f32) (x5 : Vec F S1x128 .f32) (v17 v18 : IVec S64x64 32) (X2 : BufTy.Contents (Elt F) arg2.view.ty) (X3 : BufTy.Contents (Elt F) arg3.view.ty) (X4 : BufTy.Contents (Elt F) arg4.view.ty) (X5 : BufTy.Contents (Elt F) arg5.view.ty)
    (k : Fin k0_t1_loop.trips) (f8 : BufTy.Contents (Elt F) arg8.view.ty) (f10 : BufTy.Contents (Elt F) arg10.view.ty) :
    (trip_k0_t1 (F := F) Variants.none c none i arg2 harg2 arg3 harg3 arg4 harg4 arg5 harg5 arg6 harg6 arg7 harg7 arg8 harg8 arg9 harg9 arg10 harg10 x4 x5 v17 v18 X2 X3 X4 X5 k).1 f8 f10
      = [⟨rowsRect k, oNext v17 v18 x4 x5 (rows k (arg2.view.read (Elt F) X2)) (rows k (arg3.view.read (Elt F) X3)) (rows k (arg4.view.read (Elt F) X4)) (rows k (arg5.view.read (Elt F) X5))
          (View.ld (arg10.view.read (Elt F) f10) (Rect.unit (s := S128x128) ![0, 0] S128x128.size inb_S128x128_S128x128_0_0))⟩] := by
  unfold trip_k0_t1
  dsimp only
  sl_unfold_words
  rfl

/-- The piece one trip writes into the state. -/
theorem trip_st (x4 : Vec F S2x128 .f32) (x5 : Vec F S1x128 .f32) (v17 v18 : IVec S64x64 32) (X2 : BufTy.Contents (Elt F) arg2.view.ty) (X3 : BufTy.Contents (Elt F) arg3.view.ty) (X4 : BufTy.Contents (Elt F) arg4.view.ty) (X5 : BufTy.Contents (Elt F) arg5.view.ty)
    (k : Fin k0_t1_loop.trips) (f8 : BufTy.Contents (Elt F) arg8.view.ty) (f10 : BufTy.Contents (Elt F) arg10.view.ty) :
    (trip_k0_t1 (F := F) Variants.none c none i arg2 harg2 arg3 harg3 arg4 harg4 arg5 harg5 arg6 harg6 arg7 harg7 arg8 harg8 arg9 harg9 arg10 harg10 x4 x5 v17 v18 X2 X3 X4 X5 k).2.1 f8 f10
      = [⟨Rect.unit (s := S128x128) ![0, 0] S128x128.size inb_S128x128_S128x128_0_0, stNext x4 (rows k (arg3.view.read (Elt F) X3)) (rows k (arg4.view.read (Elt F) X4))
          (View.ld (arg10.view.read (Elt F) f10) (Rect.unit (s := S128x128) ![0, 0] S128x128.size inb_S128x128_S128x128_0_0))⟩] := by
  unfold trip_k0_t1
  dsimp only
  sl_unfold_words
  rfl

theorem zero2 : (![0, 0] : Fin 2 → ℕ) = fun _ => 0 := by funext a; fin_cases a <;> rfl
theorem zero3 : (![0, 0, 0] : Fin 3 → ℕ) = fun _ => 0 := by funext a; fin_cases a <;> rfl

/-- What the output block holds before trip `k`: the rows of the earlier trips are theirs. -/
def Filled (v17 v18 : IVec S64x64 32) (x0 x1 x2 x3 : Vec F S512x128 .f32) (x4 : Vec F S2x128 .f32) (x5 : Vec F S1x128 .f32)
    (st : Vec F S128x128 .f32) (k : ℕ) (w : Vec F S512x128 .bf16) : Prop :=
  ∀ k' : Fin k0_t1_loop.trips, k'.val < k → ∀ y, w ((rowsRect k').emb y) = oAt v17 v18 x0 x1 x2 x3 x4 x5 st k' y

theorem Filled_all (v17 v18 : IVec S64x64 32) (x0 x1 x2 x3 : Vec F S512x128 .f32) (x4 : Vec F S2x128 .f32) (x5 : Vec F S1x128 .f32)
    (st : Vec F S128x128 .f32) (w : Vec F S512x128 .bf16) (h : Filled v17 v18 x0 x1 x2 x3 x4 x5 st k0_t1_loop.trips w) :
    w = oFn v17 v18 x0 x1 x2 x3 x4 x5 st := by
  funext j
  have := h (tripOf j) (tripOf j).isLt (inTrip j)
  rw [rowsRect_emb] at this
  exact this

/-- Rows of different trips are different rows. -/
theorem rows_disjoint (k k' : Fin k0_t1_loop.trips) (h : k'.val < k.val) (y : S64x128.Idx) : (rowsRect k').emb y ∉ (rowsRect k).set := by
  refine (rowsRect k).not_mem_set_of_axis _ 0 (64 * k.val) 64 ?_ rfl rfl (Or.inl ?_)
  · show (k0_off1 k) 0 = _; rw [k0_off1_eq]; rfl
  · rw [show (((rowsRect k').emb y) 0).val = (k0_off1 k') 0 + 1 * (y 0).val from rfl, k0_off1_eq]
    have h2 : (y 0).val < 64 := (y 0).isLt
    show 64 * k'.val + 1 * (y 0).val < 64 * k.val
    omega

/-- A trip's rows after they were stored. -/
theorem read_rows_hit (k : Fin k0_t1_loop.trips) (w : (rowsRect k).shape.Idx → Elt F .bf16) (f : BufTy.Contents (Elt F) arg8.view.ty) (y : S64x128.Idx) :
    arg8.view.read (Elt F) (arg8.view.writes (Elt F) f [⟨rowsRect k, w⟩]) ((rowsRect k).emb y) = w y :=
  View.read_writes_cons_emb _ _ (rowsRect k) w [] y

/-- The rows of an earlier trip after a trip's rows were stored. -/
theorem read_rows_miss (k k' : Fin k0_t1_loop.trips) (h : k'.val < k.val) (w : (rowsRect k).shape.Idx → Elt F .bf16) (f : BufTy.Contents (Elt F) arg8.view.ty) (y : S64x128.Idx) :
    arg8.view.read (Elt F) (arg8.view.writes (Elt F) f [⟨rowsRect k, w⟩]) ((rowsRect k').emb y) = arg8.view.read (Elt F) f ((rowsRect k').emb y) :=
  View.read_writes_cons_miss _ _ ⟨rowsRect k, w⟩ [] _ (rows_disjoint k k' h y)

/-- One more trip's rows written. -/
theorem Filled_succ (v17 v18 : IVec S64x64 32) (x0 x1 x2 x3 : Vec F S512x128 .f32) (x4 : Vec F S2x128 .f32) (x5 : Vec F S1x128 .f32)
    (st : Vec F S128x128 .f32) (k : Fin k0_t1_loop.trips) (f : BufTy.Contents (Elt F) arg8.view.ty)
    (h : Filled v17 v18 x0 x1 x2 x3 x4 x5 st k.val (arg8.view.read (Elt F) f)) :
    Filled v17 v18 x0 x1 x2 x3 x4 x5 st (k.val + 1) (arg8.view.read (Elt F) (arg8.view.writes (Elt F) f
      [⟨rowsRect k, oAt v17 v18 x0 x1 x2 x3 x4 x5 st k⟩])) := by
  intro k' hk' y
  by_cases hlt : k'.val < k.val
  · exact (read_rows_miss arg8 k k' hlt _ f y).trans (h k' hlt y)
  · obtain rfl : k' = k := Fin.ext (by omega)
    exact read_rows_hit arg8 k' _ f y

/-- The state's buffer after it was stored whole. -/
theorem read_stored (w : Vec F S128x128 .f32) (f : BufTy.Contents (Elt F) arg10.view.ty) :
    arg10.view.read (Elt F) (arg10.view.writes (Elt F) f [⟨Rect.unit (s := S128x128) ![0, 0] S128x128.size inb_S128x128_S128x128_0_0, w⟩]) = w := by
  rw [View.read_writes_eq_canon _ _ _ (fun y => ⟨_, List.mem_singleton.mpr rfl, View.mem_set_unit_zero zero2 inb_S128x128_S128x128_0_0 y⟩), View.canon_unit_zero zero2]

end Loop

end Cert.KernelIdeal.Gla

end
-- ==== Proof.GlaI.Body.lean ====
/- The kernel's body at a grid point, in its three cases: what it leaves in the output block, the state and
   the final state's block, from what it finds. -/
module

public import proofs.«01_k».proof.Proof.GlaI.Trip

@[expose] public section

noncomputable section

namespace Cert.KernelIdeal.Gla

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row numbers and the column numbers of a chunk's square. -/
abbrev rowIx : IVec S64x64 32 := iota .tc S64x64 32 [0] iota_S64x64_d0_w32
abbrev colIx : IVec S64x64 32 := iota .tc S64x64 32 [1] iota_S64x64_d1_w32

variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S512x128 .bf16) (harg8 : arg8.IsWhole) (arg9 : Memref sig .tc .vmem S1x128x128 .f32) (harg9 : arg9.IsWhole) (arg10 : Memref sig .tc .vmem S128x128 .f32) (harg10 : arg10.IsWhole)

/-- What the trips before `k` leave: their rows in the output block, the state `k` chunks on. -/
theorem loop_holds (x0 x1 x2 x3 : Vec F S512x128 .f32) (x4 : Vec F S2x128 .f32) (x5 : Vec F S1x128 .f32) (v17 v18 : IVec S64x64 32)
    (G8 : BufTy.Contents (Elt F) arg8.view.ty) (G10 : BufTy.Contents (Elt F) arg10.view.ty) (st : Vec F S128x128 .f32)
    (h : arg10.view.read (Elt F) G10 = st) (k : ℕ) (hk : k ≤ k0_t1_loop.trips) :
    Filled v17 v18 x0 x1 x2 x3 x4 x5 st k (arg8.view.read (Elt F) (arg8.view.writes (Elt F) G8 (pb_k0_t1 (F := F) Variants.none c none i arg2 harg2 arg3 harg3 arg4 harg4 arg5 harg5 arg6 harg6 arg7 harg7 arg8 harg8 arg9 harg9 arg10 harg10 x4 x5 v17 v18 (harg2.unread x0) (harg3.unread x1) (harg4.unread x2) (harg5.unread x3) G8 G10 k).1))
      ∧ arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 x4 x5 v17 v18 (harg2.unread x0) (harg3.unread x1) (harg4.unread x2) (harg5.unread x3) G8 G10 k).2) = stAt x1 x2 x4 st k := by
  induction k with
  | zero => exact ⟨fun k' h => absurd h (Nat.not_lt_zero _), h⟩
  | succ k ih =>
    obtain ⟨h8, h10⟩ := ih (by omega)
    rw [show k + 1 = (⟨k, hk⟩ : Fin k0_t1_loop.trips).val + 1 from rfl, pb_k0_t1_succ, stAt_succ]
    dsimp only [tripL_k0_t1]
    rw [trip_out, trip_st, View.ld_unit_zero zero2, harg2.read_unread, harg3.read_unread, harg4.read_unread, harg5.read_unread, h10]
    exact ⟨Filled_succ arg8 v17 v18 x0 x1 x2 x3 x4 x5 st ⟨k, hk⟩ _ h8, read_stored arg10 _ _⟩

/-- The final state's block after it was stored whole. -/
theorem read_stored9 (w : Vec F S1x128x128 .f32) (f : BufTy.Contents (Elt F) arg9.view.ty) :
    arg9.view.read (Elt F) (arg9.view.writes (Elt F) f [⟨Rect.unit (s := S1x128x128) ![0, 0, 0] S1x128x128.size inb_S1x128x128_S1x128x128_0_0_0, w⟩]) = w := by
  rw [View.read_writes_eq_canon _ _ _ (fun y => ⟨_, List.mem_singleton.mpr rfl, View.mem_set_unit_zero zero3 inb_S1x128x128_S1x128x128_0_0_0 y⟩), View.canon_unit_zero zero3]

set_option maxHeartbeats 1000000 in
/-- The first point of a head: the state is cleared before the loop. -/
theorem bodyA (hc0 : cond0_0 i) (hc1 : ¬cond0_1 i)
    (x0 x1 x2 x3 : Vec F S512x128 .f32) (x4 : Vec F S2x128 .f32) (x5 : Vec F S1x128 .f32) (xi : Vec F S1x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oFn rowIx colIx x0 x1 x2 x3 x4 x5 k0_pay1) ∗ owns (c : Thread nD τ) arg9 fullShare xi ∗ owns (c : Thread nD τ) arg10 fullShare (stAt x1 x2 x4 k0_pay1 8)) -∗ K ⟨⟩))
      ⊢ wp frame (wpE (defs₀ (F := F)) Variants.none c none) E (cc0_gla_prompt i arg2 harg2 arg3 harg3 arg4 harg4 arg5 harg5 arg6 harg6 arg7 harg7 arg8 harg8 arg9 harg9 arg10 harg10) K := by
  simp only [cc0_gla_prompt_eq_skeleton]; unfold cc0_gla_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  have e4 : (View.ld (arg6.view.read (Elt F) (harg6.unread x4)) (Rect.unit (s := S2x128) ![0, 0] S2x128.size inb_S2x128_S2x128_0_0)) = x4 := by rw [View.ld_unit_zero zero2]; exact harg6.read_unread x4
  have e5 : (View.ld (arg7.view.read (Elt F) (harg7.unread x5)) (Rect.unit (s := S1x128) ![0, 0] S1x128.size inb_S1x128_S1x128_0_0)) = x5 := by rw [View.ld_unit_zero zero2]; exact harg7.read_unread x5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have L := loop_holds c i arg2 harg2 arg3 harg3 arg4 harg4 arg5 harg5 arg6 harg6 arg7 harg7 arg8 harg8 arg9 harg9 arg10 harg10 x0 x1 x2 x3 x4 x5 rowIx colIx f6 (arg10.view.writes (Elt F) arg10.view.junk [⟨Rect.unit (s := S128x128) ![0, 0] S128x128.size inb_S128x128_S128x128_0_0, k0_pay1⟩]) k0_pay1 (read_stored arg10 k0_pay1 _) 8 (by rw [trips_eq])
  isplitl [H6]
  · iexists _; isplitr; swap; · iexact H6
    ipureintro; exact Filled_all _ _ _ _ _ _ _ _ _ _ (by rw [trips_eq]; exact L.1)
  isplitl [H7]
  · iexists _; isplitr; swap; · iexact H7
    ipureintro; exact hf7
  iexists _; isplitr; swap; · iexact HS0
  ipureintro; rw [View.writes_append]; exact L.2

set_option maxHeartbeats 1000000 in
/-- A point that is neither the first nor the last of its head. -/
theorem bodyB (hc0 : ¬cond0_0 i) (hc1 : ¬cond0_1 i)
    (x0 x1 x2 x3 : Vec F S512x128 .f32) (x4 : Vec F S2x128 .f32) (x5 : Vec F S1x128 .f32) (xs : Vec F S128x128 .f32) (xi : Vec F S1x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oFn rowIx colIx x0 x1 x2 x3 x4 x5 xs) ∗ owns (c : Thread nD τ) arg9 fullShare xi ∗ owns (c : Thread nD τ) arg10 fullShare (stAt x1 x2 x4 xs 8)) -∗ K ⟨⟩))
      ⊢ wp frame (wpE (defs₀ (F := F)) Variants.none c none) E (cc0_gla_prompt i arg2 harg2 arg3 harg3 arg4 harg4 arg5 harg5 arg6 harg6 arg7 harg7 arg8 harg8 arg9 harg9 arg10 harg10) K := by
  simp only [cc0_gla_prompt_eq_skeleton]; unfold cc0_gla_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  have e4 : (View.ld (arg6.view.read (Elt F) (harg6.unread x4)) (Rect.unit (s := S2x128) ![0, 0] S2x128.size inb_S2x128_S2x128_0_0)) = x4 := by rw [View.ld_unit_zero zero2]; exact harg6.read_unread x4
  have e5 : (View.ld (arg7.view.read (Elt F) (harg7.unread x5)) (Rect.unit (s := S1x128) ![0, 0] S1x128.size inb_S1x128_S1x128_0_0)) = x5 := by rw [View.ld_unit_zero zero2]; exact harg7.read_unread x5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have L := loop_holds c i arg2 harg2 arg3 harg3 arg4 harg4 arg5 harg5 arg6 harg6 arg7 harg7 arg8 harg8 arg9 harg9 arg10 harg10 x0 x1 x2 x3 x4 x5 rowIx colIx f6 fs0 xs hfs0 8 (by rw [trips_eq])
  isplitl [H6]
  · iexists _; isplitr; swap; · iexact H6
    ipureintro; exact Filled_all _ _ _ _ _ _ _ _ _ _ (by rw [trips_eq]; exact L.1)
  isplitl [H7]
  · iexists _; isplitr; swap; · iexact H7
    ipureintro; exact hf7
  iexists _; isplitr; swap; · iexact HS0
  ipureintro; exact L.2

set_option maxHeartbeats 1000000 in
/-- The last point of a head: the state goes out, transposed. -/
theorem bodyC (hc0 : ¬cond0_0 i) (hc1 : cond0_1 i)
    (x0 x1 x2 x3 : Vec F S512x128 .f32) (x4 : Vec F S2x128 .f32) (x5 : Vec F S1x128 .f32) (xs : Vec F S128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oFn rowIx colIx x0 x1 x2 x3 x4 x5 xs) ∗ owns (c : Thread nD τ) arg9 fullShare (k0_pay4 (stAt x1 x2 x4 xs 8)) ∗ owns (c : Thread nD τ) arg10 fullShare (stAt x1 x2 x4 xs 8)) -∗ K ⟨⟩))
      ⊢ wp frame (wpE (defs₀ (F := F)) Variants.none c none) E (cc0_gla_prompt i arg2 harg2 arg3 harg3 arg4 harg4 arg5 harg5 arg6 harg6 arg7 harg7 arg8 harg8 arg9 harg9 arg10 harg10) K := by
  simp only [cc0_gla_prompt_eq_skeleton]; unfold cc0_gla_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  have e4 : (View.ld (arg6.view.read (Elt F) (harg6.unread x4)) (Rect.unit (s := S2x128) ![0, 0] S2x128.size inb_S2x128_S2x128_0_0)) = x4 := by rw [View.ld_unit_zero zero2]; exact harg6.read_unread x4
  have e5 : (View.ld (arg7.view.read (Elt F) (harg7.unread x5)) (Rect.unit (s := S1x128) ![0, 0] S1x128.size inb_S1x128_S1x128_0_0)) = x5 := by rw [View.ld_unit_zero zero2]; exact harg7.read_unread x5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have L := loop_holds c i arg2 harg2 arg3 harg3 arg4 harg4 arg5 harg5 arg6 harg6 arg7 harg7 arg8 harg8 arg9 harg9 arg10 harg10 x0 x1 x2 x3 x4 x5 rowIx colIx f6 fs0 xs hfs0 8 (by rw [trips_eq])
  isplitl [H6]
  · iexists _; isplitr; swap; · iexact H6
    ipureintro; exact Filled_all _ _ _ _ _ _ _ _ _ _ (by rw [trips_eq]; exact L.1)
  isplitl [H7]
  · iexists _; isplitr; swap; · iexact H7
    ipureintro
    refine (read_stored9 arg9 _ _).trans (congrArg k0_pay4 ?_)
    exact (View.ld_unit_zero (S := S128x128) zero2 inb_S128x128_S128x128_0_0 _).trans L.2
  iexists _; isplitr; swap; · iexact HS0
  ipureintro; exact L.2

end Cert.KernelIdeal.Gla

end
-- ==== Proof.GlaI.Frame.lean ====
/- The kernel's frame: the state carried from point to point, the pipeline's proof data, the body's triple at
   every point, the run and what it leaves unchanged. -/
module

public import proofs.«01_k».proof.Proof.GlaI.Body
public import Idealize.ShloMosaic.Lib.Claim

@[expose] public section

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state point `t` leaves when it starts from `st`. -/
abbrev stOn (c : Dev nD) (t : Fin cfg0.N) (st : Vec F S128x128 .f32) : Vec F S128x128 .f32 :=
  stAt (X0_1 m c t) (X0_2 m c t) (iblk m c 4 t) st 8

/-- The state after point `n`: cleared at the first point of a head, else what the point before left. -/
def stEnd (c : Dev nD) : (n : ℕ) → n < cfg0.N → Vec F S128x128 .f32
  | 0, hn => stOn m c ⟨0, hn⟩ k0_pay1
  | n + 1, hn => stOn m c ⟨n + 1, hn⟩ (if (n + 1) % 16 = 0 then k0_pay1 else stEnd c n (Nat.lt_of_succ_lt hn))

/-- The state point `t` starts from. -/
def stIn (c : Dev nD) (t : Fin cfg0.N) : Vec F S128x128 .f32 :=
  if t.val % 16 = 0 then k0_pay1 else stEnd m c (t.val - 1) (Nat.lt_of_le_of_lt (Nat.sub_le _ _) t.isLt)

theorem stEnd_eq (c : Dev nD) (t : Fin cfg0.N) : stEnd m c t.val t.isLt = stOn m c t (stIn m c t) := by
  obtain ⟨n, hn⟩ := t
  cases n with
  | zero => rfl
  | succ n => rfl

/-- The output block point `t` leaves. -/
def oEnd (c : Dev nD) (t : Fin cfg0.N) : Vec F S512x128 .bf16 :=
  oFn rowIx colIx (X0_0 m c t) (X0_1 m c t) (X0_2 m c t) (X0_3 m c t) (iblk m c 4 t) (iblk m c 5 t) (stIn m c t)

/-- The invariant before position `n`: before the first point the scratch at anything, afterwards the state there. -/
def PhiS (c : Dev nD) : (n : ℕ) → n ≤ cfg0.N → sProp 𝕄
  | 0, _ => Pipeline.ΦA spec0 c
  | n + 1, hn => iprop(iprop(owns (c : Thread nD τ) scM0_0 fullShare (stEnd m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stEnd m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (stEnd m c (n - 1) (by omega))) ∗ (∃ r, prngReg c r)) := by
  cases n with
  | zero => exact absurd rfl hz
  | succ n => rfl

/-- The pipeline's proof data: the inputs' buffers at their blocks, the output's at the block the point computes,
    the final state's at the state transposed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => oEnd m c t
    | ⟨7, _⟩ => k0_pay4 (stEnd m c t.val t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oEnd m c t := by dsimp only [dats]
theorem after0_7 (c : Dev nD) (t : Fin cfg0.N) : (dats m 0 c).after 7 t = k0_pay4 (stEnd m c t.val t.isLt) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_0 (c : Dev nD) (t : Fin cfg0.N) : (dats m 0 c).leavesExact 0 t = owns (c : Thread nD τ) (ms0_0 t) fullShare (X0_0 m c t) := by
  rw [show (dats m 0 c).leavesExact 0 t = owns (c : Thread nD τ) (ms0_0 t) fullShare ((dats m 0 c).after 0 t) from by
    unfold Dat.leavesExact; rw [liveAt0_0 t], after0_0]

theorem leaves0_1 (c : Dev nD) (t : Fin cfg0.N) : (dats m 0 c).leavesExact 1 t = owns (c : Thread nD τ) (ms0_1 t) fullShare (X0_1 m c t) := by
  rw [show (dats m 0 c).leavesExact 1 t = owns (c : Thread nD τ) (ms0_1 t) fullShare ((dats m 0 c).after 1 t) from by
    unfold Dat.leavesExact; rw [liveAt0_1 t], after0_1]

theorem leaves0_2 (c : Dev nD) (t : Fin cfg0.N) : (dats m 0 c).leavesExact 2 t = owns (c : Thread nD τ) (ms0_2 t) fullShare (X0_2 m c t) := by
  rw [show (dats m 0 c).leavesExact 2 t = owns (c : Thread nD τ) (ms0_2 t) fullShare ((dats m 0 c).after 2 t) from by
    unfold Dat.leavesExact; rw [liveAt0_2 t], after0_2]

theorem leaves0_3 (c : Dev nD) (t : Fin cfg0.N) : (dats m 0 c).leavesExact 3 t = owns (c : Thread nD τ) (ms0_3 t) fullShare (X0_3 m c t) := by
  rw [show (dats m 0 c).leavesExact 3 t = owns (c : Thread nD τ) (ms0_3 t) fullShare ((dats m 0 c).after 3 t) from by
    unfold Dat.leavesExact; rw [liveAt0_3 t], after0_3]

theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]

theorem leaves0_6 (c : Dev nD) (t : Fin cfg0.N) : (dats m 0 c).leavesExact 6 t = owns (c : Thread nD τ) (ms0_6 t) fullShare (oEnd m c t) := by
  rw [show (dats m 0 c).leavesExact 6 t = owns (c : Thread nD τ) (ms0_6 t) fullShare ((dats m 0 c).after 6 t) from by
    unfold Dat.leavesExact; rw [liveAt0_6 t], after0_6]

theorem stIn_first (c : Dev nD) (t : Fin cfg0.N) (h : t.val % 16 = 0) : stIn m c t = k0_pay1 := if_pos h
theorem stIn_next (c : Dev nD) (t : Fin cfg0.N) (h : ¬t.val % 16 = 0) :
    stIn m c t = stEnd m c (t.val - 1) (Nat.lt_of_le_of_lt (Nat.sub_le _ _) t.isLt) := if_neg h

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6]
  have hN : t.val < 256 := lt_of_lt_of_eq t.isLt (show cfg0.N = 256 from N_0)
  by_cases h0 : t.val % 16 = 0
  · have h1 : ¬t.val % 16 = 15 := by omega
    by_cases hz : t.val = 0
    · rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [PhiS_castSucc m c t, PhiS_zero m c _ _ hz, PhiA0_eq, stEnd_eq m c t]
      unfold oEnd
      rw [stIn_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords t) _ _ _ _ _ _ _ _ _ _ _ _ _ _ _ _ _ _ ((hcond0_0 t).mpr h0) (fun h => h1 ((hcond0_1 t).mp h)) (X0_0 m c t) (X0_1 m c t) (X0_2 m c t) (X0_3 m c t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [PhiS_castSucc m c t, PhiS_pos m c _ _ hz, stEnd_eq m c t]
      unfold oEnd
      rw [stIn_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords t) _ _ _ _ _ _ _ _ _ _ _ _ _ _ _ _ _ _ ((hcond0_0 t).mpr h0) (fun h => h1 ((hcond0_1 t).mp h)) (X0_0 m c t) (X0_1 m c t) (X0_2 m c t) (X0_3 m c t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [PhiS_castSucc m c t, PhiS_pos m c _ _ hz, stEnd_eq m c t]
      unfold oEnd
      rw [stIn_next m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyC c (grid0.coords t) _ _ _ _ _ _ _ _ _ _ _ _ _ _ _ _ _ _ (fun h => h0 ((hcond0_0 t).mp h)) ((hcond0_1 t).mpr h1) (X0_0 m c t) (X0_1 m c t) (X0_2 m c t) (X0_3 m c t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [PhiS_castSucc m c t, PhiS_pos m c _ _ hz, stEnd_eq m c t]
      unfold oEnd
      rw [stIn_next m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyB c (grid0.coords t) _ _ _ _ _ _ _ _ _ _ _ _ _ _ _ _ _ _ (fun h => h0 ((hcond0_0 t).mp h)) (fun h => h1 ((hcond0_1 t).mp h)) (X0_0 m c t) (X0_1 m c t) (X0_2 m c t) (X0_3 m c t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 256 := N_0
  rw [show (dats m 0 c).Φ (Fin.last cfg0.N) = PhiS m c cfg0.N (Nat.le_refl _) from rfl, PhiS_pos m c _ _ (by omega), PhiA0_eq]
  iintro ⟨HS0, Hg⟩
  isplitl [HS0]
  · iexists _; iexact HS0
  iexact Hg

set_option backward.isDefEq.respectTransparency.types false in
/-- The run, and every counter at zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gla

end
-- ==== Proof.GlaR.StepRun.lean ====
/- The reference's run over its loop's step: a valuation HOLDS a state when the carried buffers, the set-up values and the
   trip's number are the state's; every value of one trip is then the step's, and one trip keeps holding. -/
module

public import proofs.«01_k».proof.Proof.Gen.ReferenceIdeal.Run
public import proofs.«01_k».proof.Proof.Gen.ReferenceIdeal.Step

@[expose] public section

noncomputable section

namespace Cert.ReferenceIdeal.GlaRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v75_6) = s.main_v75_6
  f_7 : V0 (Proc.devRef .tc main_v75_7) = s.main_v75_7
  f_0 : V0 (Proc.devRef .tc main_v75_0) = s.main_v75_0
  f_1 : V0 (Proc.devRef .tc main_v75_1) = s.main_v75_1
  f_2 : V0 (Proc.devRef .tc main_v75_2) = s.main_v75_2
  f_3 : V0 (Proc.devRef .tc main_v75_3) = s.main_v75_3
  f_4 : V0 (Proc.devRef .tc main_v75_4) = s.main_v75_4
  n_5 : V0 (Proc.devRef .tc main_v75_5) = constantI S_ 32 (BitVec.ofNat 32 j)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call5_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call5_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x1x16x64x128 (V0 (Proc.devRef .tc main_v75_0)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128 : (Proc.devRef .tc main_while0b_call5_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S1x16x64x128 (Host.dynamicSlice S1x1x16x64x128 (V0 (Proc.devRef .tc main_v75_0)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128 : (Proc.devRef .tc main_while0b_v100 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call6_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call6_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call6_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call6_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x1x16x64x128 (V0 (Proc.devRef .tc main_v75_1)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128 : (Proc.devRef .tc main_while0b_call6_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (shapeCast S1x16x64x128 (Host.dynamicSlice S1x1x16x64x128 (V0 (Proc.devRef .tc main_v75_1)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128 : (Proc.devRef .tc main_while0b_v101 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call7_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call7_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call7_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x1x16x64x128 (V0 (Proc.devRef .tc main_v75_2)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128 : (Proc.devRef .tc main_while0b_call7_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (shapeCast S1x16x64x128 (Host.dynamicSlice S1x1x16x64x128 (V0 (Proc.devRef .tc main_v75_2)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128 : (Proc.devRef .tc main_while0b_v102 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call8_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call8_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call8_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x1x16x128 (V0 (Proc.devRef .tc main_v75_3)) (fun k => (((![V0 (Proc.devRef .tc main_v75_5), constantI S_ 32 0#32, constantI S_ 32 0#32, constantI S_ 32 0#32] : Fin 4 → (⟨S_, .i32⟩ : BufTy).Contents (Elt F))) k (Shape.Idx.first h_S_)).toInt) sliceFits_S128x1x16x128_S1x1x16x128 : (Proc.devRef .tc main_while0b_call8_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (shapeCast S1x16x128 (Host.dynamicSlice S1x1x16x128 (V0 (Proc.devRef .tc main_v75_3)) (fun k => (((![V0 (Proc.devRef .tc main_v75_5), constantI S_ 32 0#32, constantI S_ 32 0#32, constantI S_ 32 0#32] : Fin 4 → (⟨S_, .i32⟩ : BufTy).Contents (Elt F))) k (Shape.Idx.first h_S_)).toInt) sliceFits_S128x1x16x128_S1x1x16x128) shapeCasts_S1x1x16x128_S1x16x128 : (Proc.devRef .tc main_while0b_v103 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call9_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call9_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call9_c_1 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call9_c_2 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x1x16x64x128 (V0 (Proc.devRef .tc main_v75_4)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128 : (Proc.devRef .tc main_while0b_call9_v0 : DevRef τ sig).ty.Contents (Elt F)) = Cert.ReferenceIdeal.Step.b27 j s := by
  unfold Cert.ReferenceIdeal.Step.b27
  rw [← al_23 h, ← al_24 h, ← al_25 h, ← al_26 h, h.f_4, h.n_5]
  try rfl
set_option maxRecDepth 8192 in
theorem al_28 (h : Holds V0 s j) : (shapeCast S1x16x64x128 (Host.dynamicSlice S1x1x16x64x128 (V0 (Proc.devRef .tc main_v75_4)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128 : (Proc.devRef .tc main_while0b_v104 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (Host.dotGeneral dot_S1x16x64x128_S1x16x128x128_S1x16x64x128_3_2_2_3_01_01 none (shapeCast S1x16x64x128 (Host.dynamicSlice S1x1x16x64x128 (V0 (Proc.devRef .tc main_v75_0)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (V0 (Proc.devRef .tc main_v75_6)) : (Proc.devRef .tc main_while0b_v105 : DevRef τ sig).ty.Contents (Elt F)) = Cert.ReferenceIdeal.Step.b29 j s := by
  unfold Cert.ReferenceIdeal.Step.b29
  rw [← al_5 h, h.f_6]
  try rfl
set_option maxRecDepth 8192 in
theorem al_30 (h : Holds V0 s j) : (addf (shapeCast S1x16x64x128 (Host.dynamicSlice S1x1x16x64x128 (V0 (Proc.devRef .tc main_v75_4)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (Host.dotGeneral dot_S1x16x64x128_S1x16x128x128_S1x16x64x128_3_2_2_3_01_01 none (shapeCast S1x16x64x128 (Host.dynamicSlice S1x1x16x64x128 (V0 (Proc.devRef .tc main_v75_0)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (V0 (Proc.devRef .tc main_v75_6))) : (Proc.devRef .tc main_while0b_v106 : DevRef τ sig).ty.Contents (Elt F)) = Cert.ReferenceIdeal.Step.b30 j s := by
  unfold Cert.ReferenceIdeal.Step.b30
  rw [← al_28 h, ← al_29 h]
  try rfl
set_option maxRecDepth 8192 in
theorem al_31 (h : Holds V0 s j) : (broadcastInDim S1x16x128x1 ![0, 1, 2] bcast_S1x16x128_S1x16x128x1_0_1_2 (shapeCast S1x16x128 (Host.dynamicSlice S1x1x16x128 (V0 (Proc.devRef .tc main_v75_3)) (fun k => (((![V0 (Proc.devRef .tc main_v75_5), constantI S_ 32 0#32, constantI S_ 32 0#32, constantI S_ 32 0#32] : Fin 4 → (⟨S_, .i32⟩ : BufTy).Contents (Elt F))) k (Shape.Idx.first h_S_)).toInt) sliceFits_S128x1x16x128_S1x1x16x128) shapeCasts_S1x1x16x128_S1x16x128) : (Proc.devRef .tc main_while0b_v107 : DevRef τ sig).ty.Contents (Elt F)) = Cert.ReferenceIdeal.Step.b31 j s := by
  unfold Cert.ReferenceIdeal.Step.b31
  rw [← al_22 h]
  try rfl
set_option maxRecDepth 8192 in
theorem al_32 (h : Holds V0 s j) : (broadcastInDim S1x16x128x128 ![0, 1, 2, 3] bcast_S1x16x128x1_S1x16x128x128_0_1_2_3 (broadcastInDim S1x16x128x1 ![0, 1, 2] bcast_S1x16x128_S1x16x128x1_0_1_2 (shapeCast S1x16x128 (Host.dynamicSlice S1x1x16x128 (V0 (Proc.devRef .tc main_v75_3)) (fun k => (((![V0 (Proc.devRef .tc main_v75_5), constantI S_ 32 0#32, constantI S_ 32 0#32, constantI S_ 32 0#32] : Fin 4 → (⟨S_, .i32⟩ : BufTy).Contents (Elt F))) k (Shape.Idx.first h_S_)).toInt) sliceFits_S128x1x16x128_S1x1x16x128) shapeCasts_S1x1x16x128_S1x16x128)) : (Proc.devRef .tc main_while0b_v108 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (broadcastInDim S1x16x128x128 ![0, 1, 2, 3] bcast_S1x16x128x1_S1x16x128x128_0_1_2_3 (broadcastInDim S1x16x128x1 ![0, 1, 2] bcast_S1x16x128_S1x16x128x1_0_1_2 (shapeCast S1x16x128 (Host.dynamicSlice S1x1x16x128 (V0 (Proc.devRef .tc main_v75_3)) (fun k => (((![V0 (Proc.devRef .tc main_v75_5), constantI S_ 32 0#32, constantI S_ 32 0#32, constantI S_ 32 0#32] : Fin 4 → (⟨S_, .i32⟩ : BufTy).Contents (Elt F))) k (Shape.Idx.first h_S_)).toInt) sliceFits_S128x1x16x128_S1x1x16x128) shapeCasts_S1x1x16x128_S1x16x128))) (V0 (Proc.devRef .tc main_v75_6)) : (Proc.devRef .tc main_while0b_v109 : DevRef τ sig).ty.Contents (Elt F)) = Cert.ReferenceIdeal.Step.b33 j s := by
  unfold Cert.ReferenceIdeal.Step.b33
  rw [← al_32 h, h.f_6]
  try rfl
set_option maxRecDepth 8192 in
theorem al_34 (h : Holds V0 s j) : (Host.dotGeneral dot_S1x16x64x128_S1x16x64x128_S1x16x128x128_2_2_3_3_01_01 none (shapeCast S1x16x64x128 (Host.dynamicSlice S1x1x16x64x128 (V0 (Proc.devRef .tc main_v75_1)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (shapeCast S1x16x64x128 (Host.dynamicSlice S1x1x16x64x128 (V0 (Proc.devRef .tc main_v75_2)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) : (Proc.devRef .tc main_while0b_v110 : DevRef τ sig).ty.Contents (Elt F)) = Cert.ReferenceIdeal.Step.b34 j s := by
  unfold Cert.ReferenceIdeal.Step.b34
  rw [← al_11 h, ← al_17 h]
  try rfl
set_option maxRecDepth 8192 in
theorem al_35 (h : Holds V0 s j) : (addf (mulf (broadcastInDim S1x16x128x128 ![0, 1, 2, 3] bcast_S1x16x128x1_S1x16x128x128_0_1_2_3 (broadcastInDim S1x16x128x1 ![0, 1, 2] bcast_S1x16x128_S1x16x128x1_0_1_2 (shapeCast S1x16x128 (Host.dynamicSlice S1x1x16x128 (V0 (Proc.devRef .tc main_v75_3)) (fun k => (((![V0 (Proc.devRef .tc main_v75_5), constantI S_ 32 0#32, constantI S_ 32 0#32, constantI S_ 32 0#32] : Fin 4 → (⟨S_, .i32⟩ : BufTy).Contents (Elt F))) k (Shape.Idx.first h_S_)).toInt) sliceFits_S128x1x16x128_S1x1x16x128) shapeCasts_S1x1x16x128_S1x16x128))) (V0 (Proc.devRef .tc main_v75_6))) (Host.dotGeneral dot_S1x16x64x128_S1x16x64x128_S1x16x128x128_2_2_3_3_01_01 none (shapeCast S1x16x64x128 (Host.dynamicSlice S1x1x16x64x128 (V0 (Proc.devRef .tc main_v75_1)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (shapeCast S1x16x64x128 (Host.dynamicSlice S1x1x16x64x128 (V0 (Proc.devRef .tc main_v75_2)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128)) : (Proc.devRef .tc main_while0b_v111 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S1x1x16x64x128 ![1, 2, 3, 4] bcast_S1x16x64x128_S1x1x16x64x128_1_2_3_4 (addf (shapeCast S1x16x64x128 (Host.dynamicSlice S1x1x16x64x128 (V0 (Proc.devRef .tc main_v75_4)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (Host.dotGeneral dot_S1x16x64x128_S1x16x128x128_S1x16x64x128_3_2_2_3_01_01 none (shapeCast S1x16x64x128 (Host.dynamicSlice S1x1x16x64x128 (V0 (Proc.devRef .tc main_v75_0)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (V0 (Proc.devRef .tc main_v75_6)))) : (Proc.devRef .tc main_while0b_call10_v0 : DevRef τ sig).ty.Contents (Elt F)) = Cert.ReferenceIdeal.Step.b36 j s := by
  unfold Cert.ReferenceIdeal.Step.b36
  rw [← al_30 h]
  try rfl
set_option maxRecDepth 8192 in
theorem al_37 (h : Holds V0 s j) : (constantI S_ 32 0#32 : (Proc.devRef .tc main_while0b_call10_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call10_c_0 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call10_c_1 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call10_c_2 : DevRef τ sig).ty.Contents (Elt F)) = Cert.ReferenceIdeal.Step.b40 j s := by
  unfold Cert.ReferenceIdeal.Step.b40
  rfl
set_option maxRecDepth 8192 in
theorem al_41 (h : Holds V0 s j) : (Host.dynamicUpdateSlice (V0 (Proc.devRef .tc main_v75_7)) (broadcastInDim S1x1x16x64x128 ![1, 2, 3, 4] bcast_S1x16x64x128_S1x1x16x64x128_1_2_3_4 (addf (shapeCast S1x16x64x128 (Host.dynamicSlice S1x1x16x64x128 (V0 (Proc.devRef .tc main_v75_4)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (Host.dotGeneral dot_S1x16x64x128_S1x16x128x128_S1x16x64x128_3_2_2_3_01_01 none (shapeCast S1x16x64x128 (Host.dynamicSlice S1x1x16x64x128 (V0 (Proc.devRef .tc main_v75_0)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (V0 (Proc.devRef .tc main_v75_6))))) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) updateFits_S128x1x16x64x128_S1x1x16x64x128 : (Proc.devRef .tc main_while0b_v112 : DevRef τ sig).ty.Contents (Elt F)) = Cert.ReferenceIdeal.Step.b41 j s := by
  unfold Cert.ReferenceIdeal.Step.b41
  rw [← al_36 h, ← al_37 h, ← al_38 h, ← al_39 h, ← al_40 h, h.f_7, h.n_5]
  try rfl

/-! One trip's step of the carried values is `step`, field by field; a counter steps to the next number. -/

theorem step_6 (h : Holds V0 s j) : step_main_v75_6 V0 = (step j s).main_v75_6 := by
  unfold step_main_v75_6 Cert.ReferenceIdeal.Step.step
  show id (addf (mulf (broadcastInDim S1x16x128x128 ![0, 1, 2, 3] bcast_S1x16x128x1_S1x16x128x128_0_1_2_3 (broadcastInDim S1x16x128x1 ![0, 1, 2] bcast_S1x16x128_S1x16x128x1_0_1_2 (shapeCast S1x16x128 (Host.dynamicSlice S1x1x16x128 (V0 (Proc.devRef .tc main_v75_3)) (fun k => (((![V0 (Proc.devRef .tc main_v75_5), constantI S_ 32 0#32, constantI S_ 32 0#32, constantI S_ 32 0#32] : Fin 4 → (⟨S_, .i32⟩ : BufTy).Contents (Elt F))) k (Shape.Idx.first h_S_)).toInt) sliceFits_S128x1x16x128_S1x1x16x128) shapeCasts_S1x1x16x128_S1x16x128))) (V0 (Proc.devRef .tc main_v75_6))) (Host.dotGeneral dot_S1x16x64x128_S1x16x64x128_S1x16x128x128_2_2_3_3_01_01 none (shapeCast S1x16x64x128 (Host.dynamicSlice S1x1x16x64x128 (V0 (Proc.devRef .tc main_v75_1)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (shapeCast S1x16x64x128 (Host.dynamicSlice S1x1x16x64x128 (V0 (Proc.devRef .tc main_v75_2)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128))) = _
  rw [al_35 h]
  try rfl
theorem step_7 (h : Holds V0 s j) : step_main_v75_7 V0 = (step j s).main_v75_7 := by
  unfold step_main_v75_7 Cert.ReferenceIdeal.Step.step
  show id (Host.dynamicUpdateSlice (V0 (Proc.devRef .tc main_v75_7)) (broadcastInDim S1x1x16x64x128 ![1, 2, 3, 4] bcast_S1x16x64x128_S1x1x16x64x128_1_2_3_4 (addf (shapeCast S1x16x64x128 (Host.dynamicSlice S1x1x16x64x128 (V0 (Proc.devRef .tc main_v75_4)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (Host.dotGeneral dot_S1x16x64x128_S1x16x128x128_S1x16x64x128_3_2_2_3_01_01 none (shapeCast S1x16x64x128 (Host.dynamicSlice S1x1x16x64x128 (V0 (Proc.devRef .tc main_v75_0)) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) sliceFits_S128x1x16x64x128_S1x1x16x64x128) shapeCasts_S1x1x16x64x128_S1x16x64x128) (V0 (Proc.devRef .tc main_v75_6))))) (fun k => (((![V0 (Proc.devRef .tc main_v75_5), constantI S_ 32 0#32, constantI S_ 32 0#32, constantI S_ 32 0#32, constantI S_ 32 0#32] : Fin 5 → (⟨S_, .i32⟩ : BufTy).Contents (Elt F))) k (Shape.Idx.first h_S_)).toInt) updateFits_S128x1x16x64x128_S1x1x16x64x128) = _
  exact al_41 h
theorem step_5 (h : Holds V0 s j) : step_main_v75_5 V0 = constantI S_ 32 (BitVec.ofNat 32 (j + 1)) := by
  unfold step_main_v75_5
  rw [h.n_5]
  funext i
  show BitVec.ofNat 32 j + 1#32 = BitVec.ofNat 32 (j + 1)
  simp only [BitVec.ofNat_add]

set_option maxRecDepth 8192 in
theorem out_main_v98_holds (h : Holds V0 s j) {x_main_arg0 : (⟨S8320x8192, .f32⟩ : BufTy).Contents (Elt F)} (h_main_arg0 : V0 (Proc.devRef .tc main_arg0) = x_main_arg0) {x_main_arg2 : (⟨S1x128, .f32⟩ : BufTy).Contents (Elt F)} (h_main_arg2 : V0 (Proc.devRef .tc main_arg2) = x_main_arg2) : out_main_v98 V0 = Cert.ReferenceIdeal.Step.R_main_v98 s x_main_arg0 x_main_arg2 := by
  unfold out_main_v98 Cert.ReferenceIdeal.Step.R_main_v98
  rw [h.f_7, h_main_arg0, h_main_arg2]
  try rfl

set_option maxRecDepth 8192 in
theorem out_main_v99_holds (h : Holds V0 s j) : out_main_v99 V0 = Cert.ReferenceIdeal.Step.R_main_v99 s := by
  unfold out_main_v99 Cert.ReferenceIdeal.Step.R_main_v99
  rw [h.f_6]
  try rfl

/-- One trip keeps the valuation holding: `step` of the state, the same set-up values, the next number. -/
theorem holds_step (h : Holds V0 s j) : Holds (STEP V0) (step j s) (j + 1) where
  f_6 := (STEP_main_v75_6 V0).trans (step_6 h)
  f_7 := (STEP_main_v75_7 V0).trans (step_7 h)
  n_5 := (STEP_main_v75_5 V0).trans (step_5 h)
  f_0 := (STEP_main_v75_0 V0).trans h.f_0
  f_1 := (STEP_main_v75_1 V0).trans h.f_1
  f_2 := (STEP_main_v75_2 V0).trans h.f_2
  f_3 := (STEP_main_v75_3 V0).trans h.f_3
  f_4 := (STEP_main_v75_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v98) = Cert.ReferenceIdeal.Step.R_main_v98 (it c 128) (m ((c.tc : Thread nD τ).loc main_arg0)) (m ((c.tc : Thread nD τ).loc main_arg2))
      ∧ r.2.mem ((c.tc : Thread nD τ).loc main_v99) = Cert.ReferenceIdeal.Step.R_main_v99 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 128
    ⟨(h c).1.trans (out_main_v98_holds hk (iter_main_arg0 m c 128) (iter_main_arg2 m c 128)), (h c).2.1.trans (out_main_v99_holds hk), (h c).2.2.1, (h c).2.2.2.1, (h c).2.2.2.2⟩) (Value.run m ρ)

end Cert.ReferenceIdeal.GlaRun

end
-- ==== Proof.GlaV.Spec.lean ====
/- The chunked gated linear attention of one head, one chunk of 64 rows, as formulas over the extended reals: what both programs
   compute. -/
module

public import Idealize.ShloMosaic.PureOps.Ideal
public import Idealize.ShloMosaic.Lib.Pointwise

@[expose] public section

noncomputable section

namespace Cert.GlaSpec

open Idealize.ShloMosaic

/-- The logistic function, as both programs spell it. -/
def logi (x : EReal) : EReal := Ideal.div 1 (1 + Ideal.exp (-x))
/-- `x` times its logistic. -/
def silu (x : EReal) : EReal := x * logi x
/-- The forget gate with its lower bound. -/
def gate (lb x : EReal) : EReal := lb + (1 - lb) * logi x

/-- The lower bound of the forget gate, of one channel's logits. -/
def lbOf (l : Fin 2 → EReal) : EReal :=
  Ideal.div (Ideal.exp (l 0 - Finset.fold max (Ideal.ofBits .f32 0xFF800000#32) l Finset.univ))
    (∑ x, Ideal.exp (l x - Finset.fold max (Ideal.ofBits .f32 0xFF800000#32) l Finset.univ))

/-- The sum of the last `s` terms of `g` up to and with term `i`. -/
def pre (g : ℕ → EReal) (s i : ℕ) : EReal := ∑ k ∈ Finset.range s, if k ≤ i then g (i - k) else 0

theorem pre_one (g : ℕ → EReal) (i : ℕ) : pre g 1 i = g i := by
  simp [pre]

/-- Twice the terms: the sum so far and the one `s` terms before. -/
theorem pre_double (g : ℕ → EReal) (s i : ℕ) : pre g (s + s) i = pre g s i + if s ≤ i then pre g s (i - s) else 0 := by
  unfold pre
  rw [Finset.sum_range_add]
  congr 1
  split
  · refine Finset.sum_congr rfl fun k _ => ?_
    by_cases hk : s + k ≤ i
    · rw [if_pos hk, if_pos (by omega), Nat.sub_add_eq]
    · rw [if_neg hk, if_neg (by omega)]
  · refine Finset.sum_eq_zero fun k _ => if_neg (by omega)

variable (lb : Fin 128 → EReal) (zq zf zi zg : Fin 64 → Fin 128 → EReal) (S : Fin 128 → Fin 128 → EReal)

/-- The log forget gate, 0 past the chunk. -/
def logGate (d : Fin 128) (i : ℕ) : EReal := if h : i < 64 then Ideal.log (gate (lb d) (zf ⟨i, h⟩ d)) else 0
/-- The running sum of the log forget gates inside the chunk. -/
def cumS (i : Fin 64) (d : Fin 128) : EReal := pre (logGate lb zf d) 64 i.val
/-- The masked scores. -/
def attS (i j : Fin 64) : EReal :=
  if j.val ≤ i.val then ∑ d, (silu (zq i d) * Ideal.exp (cumS lb zf i d - cumS lb zf 31 d))
    * ((1 - gate (lb d) (zf j d)) * Ideal.exp (cumS lb zf 31 d - cumS lb zf j d)) else 0
/-- The chunk's rows, from the state `S` (key by value) the chunk starts with. -/
def oS (i : Fin 64) (e : Fin 128) : EReal :=
  (∑ j, attS lb zq zf i j * zi j e) + ∑ d, (silu (zq i d) * Ideal.exp (cumS lb zf i d)) * S d e
/-- The state after the chunk. -/
def sS (d e : Fin 128) : EReal :=
  Ideal.exp (cumS lb zf 63 d) * S d e + ∑ i, ((1 - gate (lb d) (zf i d)) * Ideal.exp (cumS lb zf 63 d - cumS lb zf i d)) * zi i e
/-- The rows after the norm, the gain and the output gate. -/
def outS (gain : Fin 128 → EReal) (o : Fin 128 → EReal) (zg : Fin 128 → EReal) (e : Fin 128) : EReal :=
  (o e * Ideal.rsqrt (Ideal.div (∑ k, o k * o k) (Ideal.ofBits .f32 0x43000000#32) + Ideal.ofBits .f32 0x358637BD#32)) * gain e * silu (zg e)

/-! The whole arrays, cut into heads and chunks. -/

variable (Z : (⟨2, ![8320, 8192]⟩ : Shape).Idx → EReal) (L : (⟨2, ![2, 2048]⟩ : Shape).Idx → EReal) (h : Fin 16) (n : Fin 128)

/-- The queries, the gate logits, the values and the output gates of head `h` in chunk `n`. -/
def qZ : Fin 64 → Fin 128 → EReal := fun i d => Z (ix2 ⟨n.val * 64 + i.val, by omega⟩ ⟨h.val * 128 + d.val, by omega⟩)
@[inherit_doc qZ] def fZ : Fin 64 → Fin 128 → EReal := fun i d => Z (ix2 ⟨n.val * 64 + i.val, by omega⟩ ⟨2048 + (h.val * 128 + d.val), by omega⟩)
@[inherit_doc qZ] def iZ : Fin 64 → Fin 128 → EReal := fun i d => Z (ix2 ⟨n.val * 64 + i.val, by omega⟩ ⟨4096 + (h.val * 128 + d.val), by omega⟩)
@[inherit_doc qZ] def gZ : Fin 64 → Fin 128 → EReal := fun i d => Z (ix2 ⟨n.val * 64 + i.val, by omega⟩ ⟨6144 + (h.val * 128 + d.val), by omega⟩)
/-- The lower bounds of head `h`. -/
def lbL : Fin 128 → EReal := fun d => lbOf (fun k => L (ix2 k ⟨h.val * 128 + d.val, by omega⟩))

/-- The state of head `h` before chunk `n`. -/
def state (Z : (⟨2, ![8320, 8192]⟩ : Shape).Idx → EReal) (L : (⟨2, ![2, 2048]⟩ : Shape).Idx → EReal) (h : Fin 16) : ℕ → Fin 128 → Fin 128 → EReal
  | 0 => fun _ _ => 0
  | n + 1 => if hn : n < 128 then sS (lbL L h) (fZ Z h ⟨n, hn⟩) (iZ Z h ⟨n, hn⟩) (state Z L h n) else state Z L h n

theorem state_succ : state Z L h (n.val + 1) = sS (lbL L h) (fZ Z h n) (iZ Z h n) (state Z L h n.val) := by
  rw [state]; exact dif_pos n.isLt

/-- The rows of head `h` in chunk `n`, before the norm. -/
def rowsO : Fin 64 → Fin 128 → EReal := oS (lbL L h) (qZ Z h n) (fZ Z h n) (iZ Z h n) (state Z L h n.val)

/-- A column's head, a row's chunk, and their places in it. -/
def colHead (x : Fin 2048) : Fin 16 := ⟨x.val / 128, by omega⟩
@[inherit_doc colHead] def colIn (x : Fin 2048) : Fin 128 := ⟨x.val % 128, by omega⟩
@[inherit_doc colHead] def rowChunk (r : Fin 8192) : Fin 128 := ⟨r.val / 64, by omega⟩
@[inherit_doc colHead] def rowIn (r : Fin 8192) : Fin 64 := ⟨r.val % 64, by omega⟩

/-- The rows after the norm, the gain and the gate, and the final states, as whole arrays. -/
def outAll (G : (⟨2, ![1, 128]⟩ : Shape).Idx → EReal) : (⟨2, ![8192, 2048]⟩ : Shape).Idx → EReal := fun j =>
  outS (fun d => G (ix2 0 d)) (rowsO Z L (colHead (j 1)) (rowChunk (j 0)) (rowIn (j 0)))
    (gZ Z (colHead (j 1)) (rowChunk (j 0)) (rowIn (j 0))) (colIn (j 1))
@[inherit_doc outAll] def stateAll : (⟨3, ![16, 128, 128]⟩ : Shape).Idx → EReal := fun j => state Z L (j 0) 128 (j 1) (j 2)

theorem outAll_apply (G : (⟨2, ![1, 128]⟩ : Shape).Idx → EReal) (i : Fin 64) (e : Fin 128) (j : (⟨2, ![8192, 2048]⟩ : Shape).Idx)
    (h0 : (j 0).val = n.val * 64 + i.val) (h1 : (j 1).val = h.val * 128 + e.val) :
    outAll Z L G j = outS (fun d => G (ix2 0 d)) (rowsO Z L h n i) (gZ Z h n i) e := by
  have e1 : colHead (j 1) = h := Fin.ext (by show (j 1).val / 128 = h.val; omega)
  have e2 : rowChunk (j 0) = n := Fin.ext (by show (j 0).val / 64 = n.val; omega)
  have e3 : rowIn (j 0) = i := Fin.ext (by show (j 0).val % 64 = i.val; omega)
  have e4 : colIn (j 1) = e := Fin.ext (by show (j 1).val % 128 = e.val; omega)
  unfold outAll
  rw [e1, e2, e3, e4]

end Cert.GlaSpec

end
-- ==== Proof.GlaR.Window.lean ====
/- The host's float window sums at the ideal values: a window sum is the initial value plus the sum over the window; a running
   sum along an axis is a prefix sum. -/
module

public import proofs.«01_k».proof.Proof.GlaV.Spec
public import proofs.«01_k».proof.ReferenceIdeal
public import Idealize.ShloMosaic.Lib.Pointwise

@[expose] public section

set_option maxRecDepth 16384

noncomputable section

namespace Cert.GlaSpec

open Idealize.ShloMosaic

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A window sum as a sum over the window. -/
theorem window_sum {s t : Shape} (window strides lo hi : Fin s.rank → ℕ) (h : s.ReduceWindows window strides lo hi t)
    (x : s.Idx → EReal) (v : EReal) (j : t.Idx) :
    Ideal.hostReduceWindowAdd window strides lo hi h x v j
      = v + ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else v) := by
  unfold Ideal.hostReduceWindowAdd Host.reduceWindow
  dsimp only
  rw [foldl_add, ← Fin.sum_univ_def]
  congr 1
  exact Fintype.sum_equiv (⟨s.rank, window⟩ : Shape).rowMajor.symm _ _ (fun n => by congr)

open Cert.ReferenceIdeal

/-- A sum over a window that runs along the fourth of five axes. -/
theorem sum_window5 (F : (⟨5, ![1, 1, 1, 64, 1]⟩ : Shape).Idx → EReal) : ∑ w, F w = ∑ k : Fin 64, F (ix5 0 0 0 k 0) := by
  symm
  refine Fintype.sum_bijective (fun k : Fin 64 => (ix5 0 0 0 k 0 : (⟨5, ![1, 1, 1, 64, 1]⟩ : Shape).Idx)) ⟨?_, ?_⟩ _ _ (fun _ => rfl)
  · intro a b hab
    exact congrFun hab 3
  · intro w
    refine ⟨w 3, ?_⟩
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- The running sum inside a chunk is the prefix sum. -/
theorem cumsum5 (x : FVec Ideal S128x1x16x64x128 .f32) (init : S_.Idx → EReal) (hinit : ∀ i, init i = 0)
    (hw : S128x1x16x64x128.ReduceWindows (![1, 1, 1, 64, 1] : Fin 5 → ℕ) ![1, 1, 1, 1, 1] ![0, 0, 0, 63, 0] ![0, 0, 0, 0, 0] S128x1x16x64x128) (hu : 0 < S_.numel)
    (g : ℕ → EReal) (n : Fin 128) (b : Fin 1) (h : Fin 16) (i : Fin 64) (d : Fin 128)
    (hg : ∀ i : Fin 64, x (ix5 n b h i d) = g i.val) :
    Host.reduceWindowAdd (F := Ideal) ![1, 1, 1, 64, 1] ![1, 1, 1, 1, 1] ![0, 0, 0, 63, 0] ![0, 0, 0, 0, 0] x init hw hu (ix5 n b h i d)
      = pre g 64 i.val := by
  show Ideal.hostReduceWindowAdd _ _ _ _ hw x (init _) (ix5 n b h i d) = _
  rw [window_sum, hinit, zero_add, pre]
  refine (sum_window5 _).trans ?_
  rw [← Finset.sum_range_reflect, Finset.sum_range]
  refine Finset.sum_congr rfl fun k _ => ?_
  have hi := i.isLt
  have hk := k.isLt
  by_cases hc : 63 ≤ i.val + k.val
  · rw [if_pos (show 64 - 1 - k.val ≤ i.val by omega)]
    have hin : ∀ a : Fin 5, (![0, 0, 0, 63, 0] : Fin 5 → ℕ) a ≤ ((ix5 n b h i d : S128x1x16x64x128.Idx) a).val * (![1, 1, 1, 1, 1] : Fin 5 → ℕ) a + ((ix5 0 0 0 k 0 : (⟨5, ![1, 1, 1, 64, 1]⟩ : Shape).Idx) a).val
        ∧ ((ix5 n b h i d : S128x1x16x64x128.Idx) a).val * (![1, 1, 1, 1, 1] : Fin 5 → ℕ) a + ((ix5 0 0 0 k 0 : (⟨5, ![1, 1, 1, 64, 1]⟩ : Shape).Idx) a).val - (![0, 0, 0, 63, 0] : Fin 5 → ℕ) a < S128x1x16x64x128.size a := by
      intro a
      match a with
      | ⟨0, _⟩ => exact ⟨Nat.zero_le _, by show n.val * 1 + 0 - 0 < 128; omega⟩
      | ⟨1, _⟩ => exact ⟨Nat.zero_le _, by show b.val * 1 + 0 - 0 < 1; omega⟩
      | ⟨2, _⟩ => exact ⟨Nat.zero_le _, by show h.val * 1 + 0 - 0 < 16; omega⟩
      | ⟨3, _⟩ => exact ⟨by show 63 ≤ i.val * 1 + k.val; omega, by show i.val * 1 + k.val - 63 < 64; omega⟩
      | ⟨4, _⟩ => exact ⟨Nat.zero_le _, by show d.val * 1 + 0 - 0 < 128; omega⟩
    refine (dif_pos hin).trans ?_
    refine Eq.trans ?_ ((hg ⟨i.val - (64 - 1 - k.val), by omega⟩).trans rfl)
    congr 1
    funext a
    apply Fin.ext
    match a with
    | ⟨0, _⟩ => show n.val * 1 + 0 - 0 = n.val; omega
    | ⟨1, _⟩ => show b.val * 1 + 0 - 0 = b.val; omega
    | ⟨2, _⟩ => show h.val * 1 + 0 - 0 = h.val; omega
    | ⟨3, _⟩ => show i.val * 1 + k.val - 63 = i.val - (64 - 1 - k.val); omega
    | ⟨4, _⟩ => show d.val * 1 + 0 - 0 = d.val; omega
  · rw [if_neg (show ¬ 64 - 1 - k.val ≤ i.val by omega)]
    refine dif_neg fun hin => hc ?_
    have h3 : 63 ≤ i.val * 1 + k.val := (hin 3).1
    omega

/-- The first row of a running sum over two rows is the first row. -/
theorem cumsum2_row0 (x : FVec Ideal S2x2048 .f32) (init : S_.Idx → EReal) (hinit : ∀ i, init i = 0)
    (hw : S2x2048.ReduceWindows (![2, 1] : Fin 2 → ℕ) ![1, 1] ![1, 0] ![0, 0] S2x2048) (hu : 0 < S_.numel) (d : Fin 2048) :
    Host.reduceWindowAdd (F := Ideal) ![2, 1] ![1, 1] ![1, 0] ![0, 0] x init hw hu (ix2 0 d) = x (ix2 0 d) := by
  show Ideal.hostReduceWindowAdd _ _ _ _ hw x (init _) (ix2 0 d) = _
  rw [window_sum, hinit, zero_add]
  have hs : ∀ F : (⟨2, ![2, 1]⟩ : Shape).Idx → EReal, ∑ w, F w = F (ix2 0 0) + F (ix2 1 0) := fun F => by
    rw [← Fin.sum_univ_two (fun k => F (ix2 k 0))]
    symm
    refine Fintype.sum_bijective (fun k : Fin 2 => (ix2 k 0 : (⟨2, ![2, 1]⟩ : Shape).Idx)) ⟨fun a b hab => congrFun hab 0, fun w => ⟨w 0, ?_⟩⟩ _ _ (fun _ => rfl)
    funext a
    match a with
    | ⟨0, _⟩ => rfl
    | ⟨1, _⟩ => exact Subsingleton.elim (α := Fin 1) _ _
  refine (hs _).trans ?_
  have h0 : ∀ y z : EReal, y = 0 → z = x (ix2 0 d) → y + z = x (ix2 0 d) := fun y z hy hz => by rw [hy, hz, zero_add]
  refine h0 _ _ (dif_neg fun hin => ?_) ((dif_pos (fun a => ?_)).trans ?_)
  · have h := (hin 0).1
    exact absurd (show 1 ≤ 0 * 1 + 0 from h) (by decide)
  · match a with
    | ⟨0, _⟩ => exact ⟨by show 1 ≤ 0 * 1 + 1; omega, by show 0 * 1 + 1 - 1 < 2; omega⟩
    | ⟨1, _⟩ => exact ⟨Nat.zero_le _, by have := d.isLt; show d.val * 1 + 0 - 0 < 2048; omega⟩
  · congr 1
    funext a
    apply Fin.ext
    match a with
    | ⟨0, _⟩ => rfl
    | ⟨1, _⟩ => show d.val * 1 + 0 - 0 = d.val; omega

end Cert.GlaSpec

end
-- ==== Proof.GlaR.Setup.lean ====
/- What the reference computes before its loop, at the ideal values: the formulas of Spec.lean, chunk by chunk. -/
module

public import proofs.«01_k».proof.Proof.Gen.ReferenceIdeal.Step
public import proofs.«01_k».proof.Proof.GlaR.Window

@[expose] public section

set_option maxRecDepth 16384

noncomputable section

namespace Cert.ReferenceIdeal.Gla

open Cert.ReferenceIdeal Cert.ReferenceIdeal.Gen Cert.ReferenceIdeal.Step Cert.GlaSpec
open Idealize.ShloMosaic

variable (Z : (⟨S8320x8192, .f32⟩ : BufTy).Contents (Elt Ideal)) (L : (⟨S2x2048, .f32⟩ : BufTy).Contents (Elt Ideal))

theorem max_fold (b : EReal) (f : Fin 2 → EReal) : max b (Finset.fold max b f Finset.univ) = Finset.fold max b f Finset.univ :=
  max_eq_right ((Finset.le_fold_max b).mpr (Or.inl le_rfl))

theorem v13_apply (c : Fin 2048) :
    A_main_v13 (F := Ideal) Z L (ix1 c) = lbOf (fun k => L (ix2 k c)) := by
  pointwise [A_main_v13, A_main_v12, A_main_v11]
  rw [cumsum2_row0 _ _ (fun i => by pointwise [K_main_call0_call0_v0, K_main_call0_call0_cst])]
  pointwise [A_main_v10, A_main_v9, A_main_v8, A_main_v7, A_main_v6, A_main_v5, A_main_v4, A_main_v3, A_main_v2, A_main_v0, K_main_v1, K_main_cst, K_main_cst_0, K_main_cst_1, lbOf, max_fold]

variable (n : Fin 128) (h : Fin 16)

theorem v34_apply (r : Fin 8192) (d : Fin 128) :
    A_main_v34 (F := Ideal) Z L (ix4 0 r h d) = gate (lbL L h d) (Z (ix2 ⟨r.val, by omega⟩ ⟨2048 + (h.val * 128 + d.val), by omega⟩)) := by
  pointwise [A_main_v34, A_main_v33, A_main_v32, A_main_v31, A_main_v30, A_main_v29, A_main_v28, A_main_v21,
    A_main_v26, A_main_v24, A_main_v23, A_main_v22, A_main_v19, A_main_v17, A_main_v15, A_main_v14, K_main_v20, K_main_v25, K_main_v27, K_main_cst_2, K_main_cst_3, K_main_cst_4,
    v13_apply, gate, logi, lbL]

theorem v36_apply (r : Fin 8192) (d : Fin 128) :
    A_main_v36 (F := Ideal) Z L (ix4 0 r h d) = silu (Z (ix2 ⟨r.val, by omega⟩ ⟨h.val * 128 + d.val, by omega⟩)) := by
  pointwise [A_main_v36, A_main_v35, A_main_call1_v5, A_main_call1_v3, A_main_call1_v1, A_main_call1_v0, A_main_v16, A_main_v15, A_main_v14,
    K_main_call1_v2, K_main_call1_v4, K_main_call1_cst, K_main_call1_cst_0, silu, logi]

/-- The chunk's queries. -/
theorem v43_apply (i : Fin 64) (d : Fin 128) : A_main_v43 (F := Ideal) Z L (ix5 n 0 h i d) = silu (qZ Z h n i d) := by
  pointwise [A_main_v43, A_main_v42, v36_apply, qZ]

/-- The chunk's keys. -/
theorem v45_apply (i : Fin 64) (d : Fin 128) : A_main_v45 (F := Ideal) Z L (ix5 n 0 h i d) = 1 - gate (lbL L h d) (fZ Z h n i d) := by
  pointwise [A_main_v45, A_main_v44, A_main_v39, K_main_v38, K_main_cst_6, v34_apply, fZ]

/-- The chunk's values. -/
theorem v47_apply (i : Fin 64) (d : Fin 128) : A_main_v47 (F := Ideal) Z L (ix5 n 0 h i d) = iZ Z h n i d := by
  pointwise [A_main_v47, A_main_v46, A_main_v40, A_main_v18, A_main_v15, A_main_v14, iZ]

/-- The chunk's log forget gates. -/
theorem v49_apply (i : Fin 64) (d : Fin 128) : A_main_v49 (F := Ideal) Z L (ix5 n 0 h i d) = Ideal.log (gate (lbL L h d) (fZ Z h n i d)) := by
  pointwise [A_main_v49, A_main_v48, A_main_v41, v34_apply, fZ]

/-- Their running sums. -/
theorem v50_apply (i : Fin 64) (d : Fin 128) : A_main_v50 (F := Ideal) Z L (ix5 n 0 h i d) = cumS (lbL L h) (fZ Z h n) i d := by
  unfold A_main_v50 cumS
  refine cumsum5 _ _ (fun i => by pointwise [K_main_call2_call0_v0, K_main_call2_call0_cst]) _ _ (logGate (lbL L h) (fZ Z h n) d) n 0 h i d fun i => ?_
  rw [v49_apply, logGate, dif_pos i.isLt]

theorem mask_apply (a : Fin 128) (b : Fin 1) (i j : Fin 64) (x y : EReal) :
    Scalar.select (K_main_call4_v1 (F := Ideal) (ix5 a b h i j)) x y = if j.val ≤ i.val then x else y := by
  pointwise [K_main_call4_v1, K_main_v63, K_main_call3_v4, K_main_call3_v2, K_main_call3_v0, K_main_call3_v1, K_main_call3_c, K_main_call3_v3, K_main_v62, K_main_c, K_main_call3_v5, K_main_call3_c_0]
  have hh : ∀ i j : Fin 64, (IntOp.cmpi CmpIPredicate.sge (IntOp.addi (BitVec.ofNat 32 i.val) 0#32) (BitVec.ofNat 32 j.val)) = if j.val ≤ i.val then 1#1 else 0#1 := by decide
  rw [hh i j]
  by_cases hij : j.val ≤ i.val
  · rw [if_pos hij, if_pos hij]; rfl
  · rw [if_neg hij, if_neg hij]; rfl

theorem zero_apply (i : S128x1x16x64x64.Idx) : K_main_call4_v2 (F := Ideal) i = 0 := by
  unfold K_main_call4_v2 K_main_call4_v0 K_main_cst_7
  pointwise
  exact Ideal.ofBits_zero_f32

/-- The masked scores. -/
theorem v64_apply (i j : Fin 64) : A_main_v64 (F := Ideal) Z L (ix5 n 0 h i j) = attS (lbL L h) (qZ Z h n) (fZ Z h n) i j := by
  pointwise [A_main_v64, mask_apply, A_main_v61, A_main_v60, A_main_v59, A_main_v58, A_main_v57, A_main_v56, A_main_v55, A_main_v54, A_main_v53, A_main_v51,
    zero_apply, v43_apply, v45_apply, v50_apply, attS]

/-- The part of the chunk's rows that comes from the chunk itself. -/
theorem v65_apply (i : Fin 64) (e : Fin 128) :
    A_main_v65 (F := Ideal) Z L (ix5 n 0 h i e) = ∑ j, attS (lbL L h) (qZ Z h n) (fZ Z h n) i j * iZ Z h n j e := by
  pointwise [A_main_v65, v64_apply, v47_apply]

theorem v67_apply (i : Fin 64) (d : Fin 128) :
    A_main_v67 (F := Ideal) Z L (ix5 n 0 h i d) = silu (qZ Z h n i d) * Ideal.exp (cumS (lbL L h) (fZ Z h n) i d) := by
  pointwise [A_main_v67, A_main_v66, v43_apply, v50_apply]

theorem v71_apply (i : Fin 64) (d : Fin 128) :
    A_main_v71 (F := Ideal) Z L (ix5 n 0 h i d)
      = (1 - gate (lbL L h d) (fZ Z h n i d)) * Ideal.exp (cumS (lbL L h) (fZ Z h n) 63 d - cumS (lbL L h) (fZ Z h n) i d) := by
  pointwise [A_main_v71, A_main_v70, A_main_v69, A_main_v68, A_main_v52, v45_apply, v50_apply]

theorem v73_apply (d : Fin 128) : A_main_v73 (F := Ideal) Z L (ix4 n 0 h d) = Ideal.exp (cumS (lbL L h) (fZ Z h n) 63 d) := by
  pointwise [A_main_v73, A_main_v72, A_main_v52, v50_apply]

end Cert.ReferenceIdeal.Gla

end
-- ==== Proof.GlaR.Value.lean ====
/- The reference's loop over the chunks at the ideal values: the state before chunk `n` and the rows written so far; then its
   two results. -/
module

public import proofs.«01_k».proof.Proof.GlaR.Setup
public import Idealize.ShloMosaic.Lib.WordCmp

@[expose] public section

set_option maxRecDepth 16384

noncomputable section

namespace Cert.ReferenceIdeal.Gla

open Cert.ReferenceIdeal Cert.ReferenceIdeal.Gen Cert.ReferenceIdeal.Step Cert.GlaSpec
open Idealize.ShloMosaic Idealize.ShloMosaic.WordCmp

theorem toInt_ofNat (n : Fin 128) : (BitVec.ofNat 32 n.val).toInt = (n.val : ℤ) := by revert n; decide

theorem fits5 (n : Fin 128) : S128x1x16x64x128.Slices ![n.val, 0, 0, 0, 0] S1x1x16x64x128 := by
  refine ⟨rfl, fun a => ?_⟩
  match a with
  | ⟨0, _⟩ => have := n.isLt; show n.val + 1 ≤ 128; omega
  | ⟨1, _⟩ => exact (by omega : 0 + 1 ≤ 1)
  | ⟨2, _⟩ => exact (by omega : 0 + 16 ≤ 16)
  | ⟨3, _⟩ => exact (by omega : 0 + 64 ≤ 64)
  | ⟨4, _⟩ => exact (by omega : 0 + 128 ≤ 128)

theorem fits4 (n : Fin 128) : S128x1x16x128.Slices ![n.val, 0, 0, 0] S1x1x16x128 := by
  refine ⟨rfl, fun a => ?_⟩
  match a with
  | ⟨0, _⟩ => have := n.isLt; show n.val + 1 ≤ 128; omega
  | ⟨1, _⟩ => exact (by omega : 0 + 1 ≤ 1)
  | ⟨2, _⟩ => exact (by omega : 0 + 16 ≤ 16)
  | ⟨3, _⟩ => exact (by omega : 0 + 128 ≤ 128)

/-- The chunk a trip reads. -/
theorem slice5 (X : FVec Ideal S128x1x16x64x128 .f32) (st : Fin 5 → ℤ) (n : Fin 128) (hst : ∀ a, st a = ((![n.val, 0, 0, 0, 0] : Fin 5 → ℕ) a : ℤ))
    (h : Fin 16) (i : Fin 64) (d : Fin 128) :
    Host.dynamicSlice S1x1x16x64x128 X st sliceFits_S128x1x16x64x128_S1x1x16x64x128 (ix5 0 0 h i d) = X (ix5 n 0 h i d) := by
  refine (congrFun (dynamicSlice_eq_extract (s := S128x1x16x64x128) S1x1x16x64x128 X st _ ![n.val, 0, 0, 0, 0] (fits5 n) hst) (ix5 0 0 h i d)).trans ?_
  pointwise

theorem slice4 (X : FVec Ideal S128x1x16x128 .f32) (st : Fin 4 → ℤ) (n : Fin 128) (hst : ∀ a, st a = ((![n.val, 0, 0, 0] : Fin 4 → ℕ) a : ℤ))
    (h : Fin 16) (d : Fin 128) :
    Host.dynamicSlice S1x1x16x128 X st sliceFits_S128x1x16x128_S1x1x16x128 (ix4 0 0 h d) = X (ix4 n 0 h d) := by
  refine (congrFun (dynamicSlice_eq_extract (s := S128x1x16x128) S1x1x16x128 X st _ ![n.val, 0, 0, 0] (fits4 n) hst) (ix4 0 0 h d)).trans ?_
  pointwise

/-- The starts of a trip's slices. -/
theorem starts5 (n : Fin 128) (a : Fin 5) :
    ((![(constantI S_ 32 (BitVec.ofNat 32 n.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a (Shape.Idx.first h_S_)).toInt
      = ((![n.val, 0, 0, 0, 0] : Fin 5 → ℕ) a : ℤ) := by
  match a with
  | ⟨0, _⟩ => exact toInt_ofNat n
  | ⟨1, _⟩ => rfl
  | ⟨2, _⟩ => rfl
  | ⟨3, _⟩ => rfl
  | ⟨4, _⟩ => rfl

theorem starts4 (n : Fin 128) (a : Fin 4) :
    ((![(constantI S_ 32 (BitVec.ofNat 32 n.val) : (⟨S_, .i32⟩ : BufTy).Contents (Elt Ideal)), constantI S_ 32 0#32, constantI S_ 32 0#32, constantI S_ 32 0#32] : Fin 4 → (⟨S_, .i32⟩ : BufTy).Contents (Elt Ideal)) a (Shape.Idx.first h_S_)).toInt
      = ((![n.val, 0, 0, 0] : Fin 4 → ℕ) a : ℤ) := by
  match a with
  | ⟨0, _⟩ => exact toInt_ofNat n
  | ⟨1, _⟩ => rfl
  | ⟨2, _⟩ => rfl
  | ⟨3, _⟩ => rfl

variable (s : State Ideal) (n : Fin 128) (h : Fin 16)

theorem b5_apply (i : Fin 64) (d : Fin 128) : b5 n.val s (ix4 0 h i d) = s.main_v75_0 (ix5 n 0 h i d) := by
  rw [← slice5 s.main_v75_0 _ n (starts5 n) h i d]
  unfold b5 b4
  pointwise
  rfl

theorem b11_apply (i : Fin 64) (d : Fin 128) : b11 n.val s (ix4 0 h i d) = s.main_v75_1 (ix5 n 0 h i d) := by
  rw [← slice5 s.main_v75_1 _ n (starts5 n) h i d]
  unfold b11 b10
  pointwise
  rfl

theorem b17_apply (i : Fin 64) (d : Fin 128) : b17 n.val s (ix4 0 h i d) = s.main_v75_2 (ix5 n 0 h i d) := by
  rw [← slice5 s.main_v75_2 _ n (starts5 n) h i d]
  unfold b17 b16
  pointwise
  rfl

theorem b28_apply (i : Fin 64) (d : Fin 128) : b28 n.val s (ix4 0 h i d) = s.main_v75_4 (ix5 n 0 h i d) := by
  rw [← slice5 s.main_v75_4 _ n (starts5 n) h i d]
  unfold b28 b27
  pointwise
  rfl

theorem b22_apply (d : Fin 128) : b22 n.val s (ix3 0 h d) = s.main_v75_3 (ix4 n 0 h d) := by
  rw [← slice4 s.main_v75_3 _ n (starts4 n) h d]
  unfold b22 b21
  pointwise
  rfl

/-- The state after a trip. -/
theorem b35_apply (d e : Fin 128) :
    b35 n.val s (ix4 0 h d e) = s.main_v75_3 (ix4 n 0 h d) * s.main_v75_6 (ix4 0 h d e)
      + ∑ i : Fin 64, s.main_v75_1 (ix5 n 0 h i d) * s.main_v75_2 (ix5 n 0 h i e) := by
  pointwise [b35, b34, b33, b32, b31, b11_apply, b17_apply, b22_apply]

/-- The rows a trip makes. -/
theorem b30_apply (i : Fin 64) (e : Fin 128) :
    b30 n.val s (ix4 0 h i e) = s.main_v75_4 (ix5 n 0 h i e) + ∑ d : Fin 128, s.main_v75_0 (ix5 n 0 h i d) * s.main_v75_6 (ix4 0 h d e) := by
  pointwise [b30, b29, b28_apply, b5_apply]

/-- The rows after a trip: its own chunk is new, the others stay. -/
theorem b41_apply (m : Fin 128) (i : Fin 64) (e : Fin 128) :
    b41 n.val s (ix5 m 0 h i e) = if m = n then b30 n.val s (ix4 0 h i e) else s.main_v75_7 (ix5 m 0 h i e) := by
  refine (congrFun (dynamicUpdateSlice_eq_update (s := S128x1x16x64x128) (u := S1x1x16x64x128) s.main_v75_7 (b36 n.val s) _ updateFits_S128x1x16x64x128_S1x1x16x64x128 ![n.val, 0, 0, 0, 0]
    (fits5 n) (starts5 n)) (ix5 m 0 h i e)).trans ?_
  unfold updateSlice
  by_cases hmn : m = n
  · subst hmn
    rw [if_pos rfl]
    refine (dif_pos fun a => ?_).trans ?_
    · match a with
      | ⟨0, _⟩ => exact ⟨le_rfl, by show m.val < m.val + 1; omega⟩
      | ⟨1, _⟩ => exact ⟨le_rfl, (by omega : 0 < 0 + 1)⟩
      | ⟨2, _⟩ => exact ⟨Nat.zero_le _, by have := h.isLt; show h.val < 0 + 16; omega⟩
      | ⟨3, _⟩ => exact ⟨Nat.zero_le _, by have := i.isLt; show i.val < 0 + 64; omega⟩
      | ⟨4, _⟩ => exact ⟨Nat.zero_le _, by have := e.isLt; show e.val < 0 + 128; omega⟩
    · pointwise [b36]
  · rw [if_neg hmn]
    refine dif_neg fun hin => hmn (Fin.ext ?_)
    have h0 := hin 0
    have h1 : n.val ≤ m.val := h0.1
    have h2 : m.val < n.val + 1 := h0.2
    omega

variable (Z : (⟨S8320x8192, .f32⟩ : BufTy).Contents (Elt Ideal)) (L : (⟨S2x2048, .f32⟩ : BufTy).Contents (Elt Ideal))

/-- The loop's states. -/
def iter : ℕ → State Ideal
  | 0 => init Z L
  | n + 1 => step n (iter n)

theorem iter_fixed (n : ℕ) : (iter Z L n).main_v75_0 = A_main_v67 Z L ∧ (iter Z L n).main_v75_1 = A_main_v71 Z L
    ∧ (iter Z L n).main_v75_2 = A_main_v47 Z L ∧ (iter Z L n).main_v75_3 = A_main_v73 Z L ∧ (iter Z L n).main_v75_4 = A_main_v65 Z L := by
  induction n with
  | zero => exact ⟨rfl, rfl, rfl, rfl, rfl⟩
  | succ n ih => exact ih

/-- The carried state is the chunk state. -/
theorem iter_state (n : ℕ) (hn : n ≤ 128) (d e : Fin 128) : (iter Z L n).main_v75_6 (ix4 0 h d e) = state Z L h n d e := by
  induction n generalizing d e with
  | zero =>
    show K_main_v37 (F := Ideal) (ix4 0 h d e) = 0
    pointwise [K_main_v37, K_main_cst_5]
  | succ n ih =>
    obtain ⟨h0, h1, h2, h3, h4⟩ := iter_fixed Z L n
    have hb := b35_apply (iter Z L n) ⟨n, hn⟩ h d e
    rw [h1, h2, h3, ih (by omega)] at hb
    refine hb.trans ?_
    rw [state_succ Z L h ⟨n, hn⟩, v73_apply, sS]
    congr 1
    refine Finset.sum_congr rfl fun i _ => ?_
    rw [v71_apply, v47_apply]

/-- The rows of the chunks before `n` are written. -/
theorem iter_rows (n : ℕ) (hn : n ≤ 128) (m : Fin 128) (hm : m.val < n) (i : Fin 64) (e : Fin 128) :
    (iter Z L n).main_v75_7 (ix5 m 0 h i e) = rowsO Z L h m i e := by
  induction n with
  | zero => exact absurd hm (Nat.not_lt_zero _)
  | succ n ih =>
    obtain ⟨h0, h1, h2, h3, h4⟩ := iter_fixed Z L n
    refine (b41_apply (iter Z L n) ⟨n, hn⟩ h m i e).trans ?_
    by_cases hmn : m = ⟨n, hn⟩
    · subst hmn
      rw [if_pos rfl, b30_apply, h0, h4, v65_apply, rowsO, oS]
      congr 1
      refine Finset.sum_congr rfl fun d _ => ?_
      rw [v67_apply, iter_state h Z L n (by omega)]
    · rw [if_neg hmn]
      exact ih (by omega) (by have : m.val ≠ n := fun hh => hmn (Fin.ext hh); omega)

variable (G : (⟨S1x128, .f32⟩ : BufTy).Contents (Elt Ideal))

/-- The reference's first result. -/
theorem out_apply (i : Fin 64) (e : Fin 128) :
    R_main_v98 (iter Z L 128) Z G (ix2 ⟨n.val * 64 + i.val, by omega⟩ ⟨h.val * 128 + e.val, by omega⟩)
      = outS (fun d => G (ix2 0 d)) (rowsO Z L h n i) (gZ Z h n i) e := by
  have hr : ∀ e, (iter Z L 128).main_v75_7 (ix5 n 0 h i e) = rowsO Z L h n i e := iter_rows h Z L 128 le_rfl n n.isLt i
  generalize iter Z L 128 = s at hr
  pointwise [R_main_v98, outS, silu, logi]
  simp only [hr]
  rfl

/-- The reference's second result. -/
theorem state_apply (d e : Fin 128) : R_main_v99 (iter Z L 128) (ix3 h d e) = state Z L h 128 d e := by
  rw [← iter_state h Z L 128 le_rfl]
  pointwise [R_main_v99]

/-- The reference's two results as whole arrays. -/
theorem out_eq : R_main_v98 (iter Z L 128) Z G = outAll Z L G := by
  funext j
  have h0 : (j 0).val < 8192 := (j 0).isLt
  have h1 : (j 1).val < 2048 := (j 1).isLt
  rw [outAll_apply Z L ⟨(j 1).val / 128, by omega⟩ ⟨(j 0).val / 64, by omega⟩ G ⟨(j 0).val % 64, by omega⟩ ⟨(j 1).val % 128, by omega⟩ j
    (by show _ = (j 0).val / 64 * 64 + (j 0).val % 64; omega) (by show _ = (j 1).val / 128 * 128 + (j 1).val % 128; omega), ← out_apply]
  congr 1
  funext a
  apply Fin.ext
  match a with
  | ⟨0, _⟩ => show (j 0).val = (j 0).val / 64 * 64 + (j 0).val % 64; omega
  | ⟨1, _⟩ => show (j 1).val = (j 1).val / 128 * 128 + (j 1).val % 128; omega

theorem state_eq : R_main_v99 (iter Z L 128) = stateAll Z L := by
  funext j
  obtain ⟨h, d, e, rfl⟩ : ∃ (h : Fin 16) (d e : Fin 128), j = ix3 h d e := ⟨_, _, _, eq_ix3 j⟩
  rw [state_apply]
  rfl

end Cert.ReferenceIdeal.Gla

end
-- ==== Proof.GlaV.Chunk.lean ====
/- One chunk of the kernel's trip at the ideal values: the formulas of Spec.lean. -/
module

public import proofs.«01_k».proof.Proof.GlaI.Frame
public import proofs.«01_k».proof.Proof.GlaV.Spec
public import Idealize.ShloMosaic.Lib.Pointwise

@[expose] public section

set_option maxRecDepth 16384

noncomputable section

namespace Cert.KernelIdeal.Gla

open Cert.KernelIdeal Cert.KernelIdeal.Gen Cert.GlaSpec
open Idealize.ShloMosaic

theorem pay2_apply (x4 : Vec Ideal S2x128 .f32) (d : Fin 128) : k0_pay2 x4 (ix2 0 d) = lbOf (fun k => x4 (ix2 k d)) := by
  pointwise [k0_pay2, lbOf]
  congr 1
  exact Fin.sum_univ_one _

theorem pay5_apply (v14 : FVec Ideal S1x128 .f32) (zf : Vec Ideal S64x128 .f32) (i : Fin 64) (d : Fin 128) :
    k0_pay5 v14 zf (ix2 i d) = gate (v14 (ix2 0 d)) (zf (ix2 i d)) := by
  pointwise [k0_pay5, gate, logi, zero_sub]

theorem pay6_apply (zq : Vec Ideal S64x128 .f32) (i : Fin 64) (d : Fin 128) :
    k0_pay6 zq (ix2 i d) = silu (zq (ix2 i d)) := by
  pointwise [k0_pay6, silu, logi, zero_sub]

theorem pay7_apply (v14 : FVec Ideal S1x128 .f32) (zf : Vec Ideal S64x128 .f32) (i : Fin 64) (d : Fin 128) :
    k0_pay7 v14 zf (ix2 i d) = 1 - gate (v14 (ix2 0 d)) (zf (ix2 i d)) := by
  pointwise [k0_pay7, pay5_apply]

theorem sge_ofNat (a b : ℕ) (ha : a < 64) (hb : b < 64) (x y : EReal) :
    Scalar.select (IntOp.cmpi CmpIPredicate.sge (BitVec.ofNat 32 a) (BitVec.ofNat 32 b)) x y = if b ≤ a then x else y := by
  have h : ∀ a b : Fin 64, (IntOp.cmpi CmpIPredicate.sge (BitVec.ofNat 32 a.val) (BitVec.ofNat 32 b.val)) = if b.val ≤ a.val then 1#1 else 0#1 := by decide
  rw [h ⟨a, ha⟩ ⟨b, hb⟩]
  by_cases hab : b ≤ a
  · rw [if_pos hab, if_pos hab]; rfl
  · rw [if_neg hab, if_neg hab]; rfl

/-- One doubling step of the running sum. -/
theorem roll_step (s : ℕ) (hs : s ≤ 32) (X : FVec Ideal S64x128 .f32) (g : Fin 128 → ℕ → EReal)
    (hX : ∀ i d, X (ix2 i d) = pre (g d) s i.val) (i : Fin 64) (d : Fin 128) :
    addf X (select (cmpi .sge (iota .tc S64x128 32 [0] iota_S64x128_d0_w32) (broadcast S64x128 (BitVec.ofNat 32 s)))
      (dynamicRotate 0 (BitVec.ofNat 32 s) none X rotates_S64x128_d0) (broadcast S64x128 (Scalar.ofBits .f32 0x00000000#32))) (ix2 i d)
      = pre (g d) (s + s) i.val := by
  rw [pre_double]
  pointwise
  rw [sge_ofNat _ _ i.isLt (by omega), hX, hX]
  congr 1
  by_cases h : s ≤ i.val
  · rw [if_pos h, if_pos h]
    congr 1
    show (i.val + 64 - (BitVec.ofNat 32 s).toNat % 64) % 64 = i.val - s
    rw [BitVec.toNat_ofNat]
    omega
  · rw [if_neg h, if_neg h]

variable (x4 : Vec Ideal S2x128 .f32) (zq zf zi zg : Vec Ideal S64x128 .f32) (st : Vec Ideal S128x128 .f32)

/-- The kernel's running sums are the prefix sums. -/
theorem cum_apply (i : Fin 64) (d : Fin 128) :
    cum (F := Ideal) x4 zf (ix2 i d) = cumS (fun d => lbOf (fun k => x4 (ix2 k d))) (fun i d => zf (ix2 i d)) i d := by
  have h1 := roll_step 1 (by decide) (log (k0_pay5 (k0_pay2 x4) zf)) (logGate (fun d => lbOf (fun k => x4 (ix2 k d))) (fun i d => zf (ix2 i d)))
    (fun i d => by
      rw [pre_one]
      pointwise [pay5_apply, pay2_apply, logGate])
  have h2 := roll_step 2 (by decide) _ _ h1
  have h3 := roll_step 4 (by decide) _ _ h2
  have h4 := roll_step 8 (by decide) _ _ h3
  have h5 := roll_step 16 (by decide) _ _ h4
  exact roll_step 32 (by decide) _ _ h5 i d

theorem cumLast_apply (d : Fin 128) :
    cumLast (F := Ideal) x4 zf (ix2 0 d) = cumS (fun d => lbOf (fun k => x4 (ix2 k d))) (fun i d => zf (ix2 i d)) 63 d := by
  rw [← cum_apply]
  pointwise [cumLast, k0_pay12, cum]

theorem att_apply (i j : Fin 64) :
    att (F := Ideal) rowIx colIx x4 zq zf (ix2 i j)
      = attS (fun d => lbOf (fun k => x4 (ix2 k d))) (fun i d => zq (ix2 i d)) (fun i d => zf (ix2 i d)) i j := by
  unfold att k0_pay13
  generalize hC : k0_pay11 (F := Ideal) _ _ _ _ = C
  have hC' : ∀ i d, C (ix2 i d) = cumS (fun d => lbOf (fun k => x4 (ix2 k d))) (fun i d => zf (ix2 i d)) i d := fun i d => by
    rw [← hC]; exact cum_apply x4 zf i d
  pointwise [rowIx, colIx, pay6_apply, pay7_apply, hC', pay2_apply]
  rw [sge_ofNat _ _ i.isLt j.isLt]
  rfl

theorem stNext_apply (e d : Fin 128) :
    stNext (F := Ideal) x4 zf zi st (ix2 e d)
      = sS (fun d => lbOf (fun k => x4 (ix2 k d))) (fun i d => zf (ix2 i d)) (fun i d => zi (ix2 i d)) (fun d e => st (ix2 e d)) d e := by
  pointwise [stNext, k0_pay14, k0_pay8, pay7_apply, cum_apply, cumLast_apply, pay2_apply, sS]
  congr 1
  refine Finset.sum_congr rfl fun k _ => mul_comm _ _

theorem oNext_apply (x5 : Vec Ideal S1x128 .f32) (i : Fin 64) (e : Fin 128) :
    oNext (F := Ideal) rowIx colIx x4 x5 zq zf zi zg st (ix2 i e)
      = outS (fun d => x5 (ix2 0 d)) (oS (fun d => lbOf (fun k => x4 (ix2 k d))) (fun i d => zq (ix2 i d)) (fun i d => zf (ix2 i d)) (fun i d => zi (ix2 i d)) (fun d e => st (ix2 e d)) i)
        (fun d => zg (ix2 i d)) e := by
  pointwise [oNext, k0_pay15, k0_pay8, k0_pay3, pay6_apply, att_apply, cum_apply, outS, oS, silu, logi, zero_sub]

theorem pay4_apply (a : Fin 1) (d e : Fin 128) : k0_pay4 (F := Ideal) st (ix3 a d e) = st (ix2 e d) := by
  pointwise [k0_pay4]

theorem pay1_apply (d e : Fin 128) : k0_pay1 (F := Ideal) (ix2 d e) = 0 := by
  pointwise [k0_pay1]

end Cert.KernelIdeal.Gla

end
-- ==== Proof.GlaV.Value.lean ====
/- The kernel's two result arrays at the ideal values: the blocks read off the argument, the state carried through the
   points of a head, the output rows of a point, and from them the whole arrays. -/
module

public import proofs.«01_k».proof.Proof.GlaV.Chunk
public import Idealize.ShloMosaic.Lib.Pipeline.ValueKit

@[expose] public section

set_option maxRecDepth 16384

noncomputable section

namespace Cert.KernelIdeal.Gla

open Cert.KernelIdeal Cert.KernelIdeal.Gen Cert.GlaSpec
open Idealize.ShloMosaic Idealize.ShloMosaic.TcCoe Idealize.SL.Sem

theorem idx0 : ∀ t : Fin cfg0.N, win0_0.index t (0 : Fin 2) = t.val % 16 ∧ win0_0.index t (1 : Fin 2) = t.val / 16 := (by decide +kernel : ∀ t : Fin grid0.N, _)
theorem idx1 : ∀ t : Fin cfg0.N, win0_1.index t (0 : Fin 2) = t.val % 16 ∧ win0_1.index t (1 : Fin 2) = t.val / 16 + 16 := (by decide +kernel : ∀ t : Fin grid0.N, _)
theorem idx2 : ∀ t : Fin cfg0.N, win0_2.index t (0 : Fin 2) = t.val % 16 ∧ win0_2.index t (1 : Fin 2) = t.val / 16 + 32 := (by decide +kernel : ∀ t : Fin grid0.N, _)
theorem idx3 : ∀ t : Fin cfg0.N, win0_3.index t (0 : Fin 2) = t.val % 16 ∧ win0_3.index t (1 : Fin 2) = t.val / 16 + 48 := (by decide +kernel : ∀ t : Fin grid0.N, _)
theorem idx4 : ∀ t : Fin cfg0.N, win0_4.index t (0 : Fin 2) = 0 ∧ win0_4.index t (1 : Fin 2) = t.val / 16 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val % 16 ∧ win0_6.index t (1 : Fin 2) = t.val / 16 := (by decide +kernel : ∀ t : Fin grid0.N, _)
theorem idx7 : ∀ t : Fin cfg0.N, win0_7.index t (0 : Fin 3) = t.val / 16 ∧ win0_7.index t (1 : Fin 3) = 0 ∧ win0_7.index t (2 : Fin 3) = 0 := (by decide +kernel : ∀ t : Fin grid0.N, _)

/-- A point's head, and the chunk of its trip `k`. -/
def headOf (t : Fin cfg0.N) : Fin 16 := ⟨t.val / 16, by have : t.val < 256 := lt_of_lt_of_eq t.isLt (show cfg0.N = 256 from N_0); omega⟩
def chunkOf (t : Fin cfg0.N) (k : Fin 8) : Fin 128 := ⟨t.val % 16 * 8 + k.val, by omega⟩

variable (m : (ℓ : Loc nD τ sig) → Buf (Elt Ideal) ℓ) (c : Dev nD) (t : Fin cfg0.N)

/-- The arguments. -/
abbrev argZ : (⟨2, ![8320, 8192]⟩ : Shape).Idx → EReal := m ((c : Thread nD τ).loc main_arg0)
abbrev argL : (⟨2, ![2, 2048]⟩ : Shape).Idx → EReal := m ((c : Thread nD τ).loc main_arg1)
abbrev argG : (⟨2, ![1, 128]⟩ : Shape).Idx → EReal := m ((c : Thread nD τ).loc main_arg2)

theorem trip_lt (k : Fin k0_t1_loop.trips) : k.val < 8 := lt_of_lt_of_eq k.isLt trips_eq

/-- A trip's rows of a block. -/
theorem rows_apply (k : Fin k0_t1_loop.trips) (x : Vec Ideal S512x128 .f32) (i : Fin 64) (d : Fin 128) :
    rows k x (ix2 i d) = x (ix2 ⟨k.val * 64 + i.val, by have := trip_lt k; omega⟩ d) := by
  show x ((rowsRect k).emb (ix2 i d)) = _
  congr 1
  funext a
  apply Fin.ext
  rw [show (((rowsRect k).emb (ix2 i d)) a).val = (k0_off1 k) a + 1 * ((ix2 i d) a).val from rfl, k0_off1_eq]
  match a with
  | ⟨0, _⟩ => show 64 * k.val + 1 * i.val = k.val * 64 + i.val; omega
  | ⟨1, _⟩ => show 0 + 1 * d.val = d.val; omega

theorem rows0 (k : Fin 8) (i : Fin 64) (d : Fin 128) : rows ⟨k.val, by rw [trips_eq]; exact k.isLt⟩ (X0_0 m c t) (ix2 i d) = qZ (argZ m c) (headOf t) (chunkOf t k) i d := by
  rw [rows_apply]
  unfold X0_0 Pipeline.Window.fill
  rw [dif_pos (moved0_0 t _)]
  show V m c main_arg0 (((cfg0.win 0).blk t).view.emb _) = _
  rw [V_main_arg0]
  unfold qZ
  refine congrArg (argZ m c) ?_
  funext a
  apply Fin.ext
  obtain ⟨e0, e1⟩ := idx0 t
  match a with
  | ⟨0, _⟩ => show win0_0.index t (0 : Fin 2) * 512 + 1 * (k.val * 64 + i.val) = (t.val % 16 * 8 + k.val) * 64 + i.val; omega
  | ⟨1, _⟩ => show win0_0.index t (1 : Fin 2) * 128 + 1 * d.val = t.val / 16 * 128 + d.val; omega

theorem rows1 (k : Fin 8) (i : Fin 64) (d : Fin 128) : rows ⟨k.val, by rw [trips_eq]; exact k.isLt⟩ (X0_1 m c t) (ix2 i d) = fZ (argZ m c) (headOf t) (chunkOf t k) i d := by
  rw [rows_apply]
  unfold X0_1 Pipeline.Window.fill
  rw [dif_pos (moved0_1 t _)]
  show V m c main_arg0 (((cfg0.win 1).blk t).view.emb _) = _
  rw [V_main_arg0]
  unfold fZ
  refine congrArg (argZ m c) ?_
  funext a
  apply Fin.ext
  obtain ⟨e0, e1⟩ := idx1 t
  match a with
  | ⟨0, _⟩ => show win0_1.index t (0 : Fin 2) * 512 + 1 * (k.val * 64 + i.val) = (t.val % 16 * 8 + k.val) * 64 + i.val; omega
  | ⟨1, _⟩ => show win0_1.index t (1 : Fin 2) * 128 + 1 * d.val = 2048 + (t.val / 16 * 128 + d.val); omega

theorem rows2 (k : Fin 8) (i : Fin 64) (d : Fin 128) : rows ⟨k.val, by rw [trips_eq]; exact k.isLt⟩ (X0_2 m c t) (ix2 i d) = iZ (argZ m c) (headOf t) (chunkOf t k) i d := by
  rw [rows_apply]
  unfold X0_2 Pipeline.Window.fill
  rw [dif_pos (moved0_2 t _)]
  show V m c main_arg0 (((cfg0.win 2).blk t).view.emb _) = _
  rw [V_main_arg0]
  unfold iZ
  refine congrArg (argZ m c) ?_
  funext a
  apply Fin.ext
  obtain ⟨e0, e1⟩ := idx2 t
  match a with
  | ⟨0, _⟩ => show win0_2.index t (0 : Fin 2) * 512 + 1 * (k.val * 64 + i.val) = (t.val % 16 * 8 + k.val) * 64 + i.val; omega
  | ⟨1, _⟩ => show win0_2.index t (1 : Fin 2) * 128 + 1 * d.val = 4096 + (t.val / 16 * 128 + d.val); omega

theorem rows3 (k : Fin 8) (i : Fin 64) (d : Fin 128) : rows ⟨k.val, by rw [trips_eq]; exact k.isLt⟩ (X0_3 m c t) (ix2 i d) = gZ (argZ m c) (headOf t) (chunkOf t k) i d := by
  rw [rows_apply]
  unfold X0_3 Pipeline.Window.fill
  rw [dif_pos (moved0_3 t _)]
  show V m c main_arg0 (((cfg0.win 3).blk t).view.emb _) = _
  rw [V_main_arg0]
  unfold gZ
  refine congrArg (argZ m c) ?_
  funext a
  apply Fin.ext
  obtain ⟨e0, e1⟩ := idx3 t
  match a with
  | ⟨0, _⟩ => show win0_3.index t (0 : Fin 2) * 512 + 1 * (k.val * 64 + i.val) = (t.val % 16 * 8 + k.val) * 64 + i.val; omega
  | ⟨1, _⟩ => show win0_3.index t (1 : Fin 2) * 128 + 1 * d.val = 6144 + (t.val / 16 * 128 + d.val); omega

theorem lb_eq : (fun d : Fin 128 => lbOf (fun k => iblk m c 4 t (ix2 k d))) = lbL (argL m c) (headOf t) := by
  funext d
  unfold lbL
  congr 1
  funext k
  show V m c main_arg1 (((cfg0.win 4).blk t).view.emb _) = _
  rw [V_main_arg1]
  refine congrArg (argL m c) ?_
  funext a
  apply Fin.ext
  obtain ⟨e0, e1⟩ := idx4 t
  match a with
  | ⟨0, _⟩ => show win0_4.index t (0 : Fin 2) * 2 + 1 * k.val = k.val; omega
  | ⟨1, _⟩ => show win0_4.index t (1 : Fin 2) * 128 + 1 * d.val = t.val / 16 * 128 + d.val; omega

/-- The host's two reshapes give the gain back. -/
theorem V_gain : V m c main_v1 = argG m c := by
  have e : V m c main_v1 = shapeCast S1x128 (shapeCast S128 (argG m c) shapeCasts_S1x128_S128) shapeCasts_S128_S1x128 := by
    show StableHlo.after hostOps0 _ (Proc.devRef .tc main_v1) = _
    after_results
    rfl
  rw [e, shapeCast_shapeCast]

theorem gain_eq : (fun d : Fin 128 => iblk m c 5 t (ix2 0 d)) = fun d => argG m c (ix2 0 d) := by
  funext d
  show V m c main_v1 (((cfg0.win 5).blk t).view.emb _) = _
  rw [V_gain]
  refine congrArg (argG m c) ?_
  funext a
  apply Fin.ext
  obtain ⟨e0, e1⟩ := idx5 t
  match a with
  | ⟨0, _⟩ => show win0_5.index t (0 : Fin 2) * 1 + 1 * 0 = 0; omega
  | ⟨1, _⟩ => show win0_5.index t (1 : Fin 2) * 128 + 1 * d.val = d.val; omega

/-- A point's trips carry the chunk state on. -/
theorem stAt_apply (st : Vec Ideal S128x128 .f32) (hst : ∀ d e, st (ix2 e d) = state (argZ m c) (argL m c) (headOf t) (t.val % 16 * 8) d e)
    (k : ℕ) (hk : k ≤ 8) (d e : Fin 128) :
    stAt (X0_1 m c t) (X0_2 m c t) (iblk m c 4 t) st k (ix2 e d) = state (argZ m c) (argL m c) (headOf t) (t.val % 16 * 8 + k) d e := by
  induction k generalizing d e with
  | zero => exact hst d e
  | succ k ih =>
    have hlt : k < k0_t1_loop.trips := by rw [trips_eq]; exact hk
    rw [show k + 1 = (⟨k, hlt⟩ : Fin k0_t1_loop.trips).val + 1 from rfl, stAt_succ, stNext_apply, lb_eq]
    rw [show t.val % 16 * 8 + ((⟨k, hlt⟩ : Fin k0_t1_loop.trips).val + 1) = (chunkOf t ⟨k, hk⟩).val + 1 from rfl, state_succ]
    have e1 : (fun i d => rows ⟨k, hlt⟩ (X0_1 m c t) (ix2 i d)) = fZ (argZ m c) (headOf t) (chunkOf t ⟨k, hk⟩) := by
      funext i d; exact rows1 m c t ⟨k, hk⟩ i d
    have e2 : (fun i d => rows ⟨k, hlt⟩ (X0_2 m c t) (ix2 i d)) = iZ (argZ m c) (headOf t) (chunkOf t ⟨k, hk⟩) := by
      funext i d; exact rows2 m c t ⟨k, hk⟩ i d
    have e3 : (fun d e => stAt (X0_1 m c t) (X0_2 m c t) (iblk m c 4 t) st k (ix2 e d)) = state (argZ m c) (argL m c) (headOf t) (chunkOf t ⟨k, hk⟩).val := by
      funext d e; exact ih (by omega) d e
    rw [e1, e2]
    exact congrArg (fun S => sS _ _ _ S d e) e3

/-- The state a point leaves. -/
theorem stEnd_apply (n : ℕ) (hn : n < cfg0.N) (d e : Fin 128) :
    stEnd m c n hn (ix2 e d) = state (argZ m c) (argL m c) (headOf ⟨n, hn⟩) (n % 16 * 8 + 8) d e := by
  induction n using Nat.strong_induction_on generalizing d e with
  | _ n ih =>
    rw [show stEnd m c n hn = stOn m c ⟨n, hn⟩ (stIn m c ⟨n, hn⟩) from stEnd_eq m c ⟨n, hn⟩]
    refine stAt_apply m c ⟨n, hn⟩ _ (fun d e => ?_) 8 le_rfl d e
    by_cases h0 : n % 16 = 0
    · rw [stIn_first m c ⟨n, hn⟩ h0, pay1_apply]
      show 0 = state _ _ _ (n % 16 * 8) d e
      rw [h0, Nat.zero_mul]; rfl
    · have hpos : n ≠ 0 := fun h => h0 (by rw [h])
      have e1 : headOf ⟨n - 1, Nat.lt_of_le_of_lt (Nat.sub_le _ _) hn⟩ = headOf ⟨n, hn⟩ := Fin.ext (by show (n - 1) / 16 = n / 16; omega)
      rw [stIn_next m c ⟨n, hn⟩ h0]
      refine (ih (n - 1) (by omega) _ d e).trans ?_
      rw [e1]
      show _ = state _ _ _ (n % 16 * 8) d e
      rw [show (n - 1) % 16 * 8 + 8 = n % 16 * 8 from by omega]

/-- The state a point starts from. -/
theorem stIn_apply (d e : Fin 128) : stIn m c t (ix2 e d) = state (argZ m c) (argL m c) (headOf t) (t.val % 16 * 8) d e := by
  by_cases h0 : t.val % 16 = 0
  · rw [stIn_first m c t h0, pay1_apply, h0, Nat.zero_mul]; rfl
  · rw [stIn_next m c t h0, stEnd_apply]
    have e1 : headOf ⟨t.val - 1, Nat.lt_of_le_of_lt (Nat.sub_le _ _) t.isLt⟩ = headOf t := Fin.ext (by show (t.val - 1) / 16 = t.val / 16; omega)
    rw [e1, show (t.val - 1) % 16 * 8 + 8 = t.val % 16 * 8 from by omega]

/-- The rows a point's trip `k` writes. -/
theorem oAt_apply (k : Fin 8) (i : Fin 64) (e : Fin 128) :
    oAt rowIx colIx (X0_0 m c t) (X0_1 m c t) (X0_2 m c t) (X0_3 m c t) (iblk m c 4 t) (iblk m c 5 t) (stIn m c t) ⟨k.val, by rw [trips_eq]; exact k.isLt⟩ (ix2 i e)
      = outS (fun d => argG m c (ix2 0 d)) (rowsO (argZ m c) (argL m c) (headOf t) (chunkOf t k) i) (gZ (argZ m c) (headOf t) (chunkOf t k) i) e := by
  unfold oAt
  rw [oNext_apply, lb_eq, gain_eq]
  have e0 : (fun i d => rows ⟨k.val, by rw [trips_eq]; exact k.isLt⟩ (X0_0 m c t) (ix2 i d)) = qZ (argZ m c) (headOf t) (chunkOf t k) := by
    funext i d; exact rows0 m c t k i d
  have e1 : (fun i d => rows ⟨k.val, by rw [trips_eq]; exact k.isLt⟩ (X0_1 m c t) (ix2 i d)) = fZ (argZ m c) (headOf t) (chunkOf t k) := by
    funext i d; exact rows1 m c t k i d
  have e2 : (fun i d => rows ⟨k.val, by rw [trips_eq]; exact k.isLt⟩ (X0_2 m c t) (ix2 i d)) = iZ (argZ m c) (headOf t) (chunkOf t k) := by
    funext i d; exact rows2 m c t k i d
  have e3 : (fun d => rows ⟨k.val, by rw [trips_eq]; exact k.isLt⟩ (X0_3 m c t) (ix2 i d)) = gZ (argZ m c) (headOf t) (chunkOf t k) i := by
    funext d; exact rows3 m c t k i d
  have e4 : (fun d e => stAt (X0_1 m c t) (X0_2 m c t) (iblk m c 4 t) (stIn m c t) k.val (ix2 e d)) = state (argZ m c) (argL m c) (headOf t) (chunkOf t k).val := by
    funext d e; exact stAt_apply m c t _ (stIn_apply m c t) k.val (by omega) d e
  rw [e0, e1, e2, e3]
  exact congrArg (fun S => outS _ (oS _ _ _ _ S i) _ e) e4

theorem oEnd_apply (j : S512x128.Idx) (J : (⟨2, ![8192, 2048]⟩ : Shape).Idx) (h0 : (J 0).val = t.val % 16 * 512 + (j 0).val) (h1 : (J 1).val = t.val / 16 * 128 + (j 1).val) :
    oEnd m c t j = outAll (argZ m c) (argL m c) (argG m c) J := by
  have hj : (j 0).val < 512 := (j 0).isLt
  have hj1 : (j 1).val < 128 := (j 1).isLt
  refine (oAt_apply m c t ⟨(j 0).val / 64, by omega⟩ ⟨(j 0).val % 64, by omega⟩ ⟨(j 1).val, hj1⟩).trans (Eq.symm ?_)
  refine outAll_apply _ _ _ _ _ _ _ _ ?_ ?_
  · show _ = (t.val % 16 * 8 + (j 0).val / 64) * 64 + (j 0).val % 64; omega
  · exact h1

/-- The first result array after the run. -/
theorem final6 : (dats m 0 c).arrAt 6 cfg0.N = outAll (argZ m c) (argL m c) (argG m c) := by
  refine (dats m 0 c).arrAt_eq_of_covers 6 _ (by decide +kernel) fun t hf y => ?_
  rw [after0_6]
  obtain ⟨e0, e1⟩ := idx6 t
  refine oEnd_apply m c t _ _ ?_ ?_
  · show win0_6.index t (0 : Fin 2) * 512 + 1 * (y 0).val = t.val % 16 * 512 + (y 0).val; omega
  · show win0_6.index t (1 : Fin 2) * 128 + 1 * (y 1).val = t.val / 16 * 128 + (y 1).val; omega

/-- The second. -/
theorem final7 : (dats m 0 c).arrAt 7 cfg0.N = stateAll (argZ m c) (argL m c) := by
  refine (dats m 0 c).arrAt_eq_of_covers 7 _ (by decide +kernel) fun t hf y => ?_
  rw [after0_7]
  obtain ⟨e0, e1, e2⟩ := idx7 t
  have h15 := (flush0_7 t).mp hf
  have hy0 : (y 0).val < 1 := (y 0).isLt
  have hy1 : (y 1).val < 128 := (y 1).isLt
  have hy2 : (y 2).val < 128 := (y 2).isLt
  have e3 : ((cfg0.win 7).blk t).view.emb y = ix3 (headOf t) ⟨(y 1).val, hy1⟩ ⟨(y 2).val, hy2⟩ := by
    funext a
    apply Fin.ext
    match a with
    | ⟨0, _⟩ => show win0_7.index t (0 : Fin 3) * 1 + 1 * (y 0).val = t.val / 16; omega
    | ⟨1, _⟩ => show win0_7.index t (1 : Fin 3) * 128 + 1 * (y 1).val = (y 1).val; omega
    | ⟨2, _⟩ => show win0_7.index t (2 : Fin 3) * 128 + 1 * (y 2).val = (y 2).val; omega
  rw [e3]
  have e4 : ((cfg0.win 7).xinj (cfg0.grid.coords t) y : S1x128x128.Idx) = ix3 0 ⟨(y 1).val, hy1⟩ ⟨(y 2).val, hy2⟩ := by
    funext a
    apply Fin.ext
    match a with
    | ⟨0, _⟩ => show (y 0).val = 0; omega
    | ⟨1, _⟩ => rfl
    | ⟨2, _⟩ => rfl
  show k0_pay4 (stEnd m c t.val t.isLt) ((cfg0.win 7).xinj (cfg0.grid.coords t) y) = _
  rw [e4, pay4_apply, stEnd_apply, h15]
  rfl

/-- The kernel's run with its two results as functions of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v2_0) = outAll (argZ m c) (argL m c) (argG m c)
      ∧ r.2.mem ((c.tc : Thread nD τ).loc main_v2_1) = stateAll (argZ m c) (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 6).trans (final6 m c), ((h.1 c).1 7).trans (final7 m c), h.2 c⟩)
    (θ_run_and (run_main m ρ) (unchanged m ρ))

end Cert.KernelIdeal.Gla

end
-- ==== Proof.UpV.Loop.lean ====
/- The rows' loop of the first product of the feed-forward part: what its trips write. -/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Up

open Cert.Kernel2Ideal Cert.Kernel2Ideal.Gen
open Idealize.ShloMosaic Idealize.ShloMosaic.TcCoe Idealize.SL.Sem

variable (𝒱 : Variants) (c : Dev nD) (bd : Option 𝒱.V) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1040x512 .bf16) (harg6 : arg6.IsWhole) (arg7 : Memref sig .tc .vmem S1040x2048 .bf16) (harg7 : arg7.IsWhole)
  (h1 : k0_cond1 i = 1#1) (v21 : Vec Ideal S1x2048 .f32) (X : BufTy.Contents (Elt Ideal) arg2.view.ty)

theorem tripL_eq (k : Fin k0_t1_loop.trips) :
    tripL_k0_t1 (F := Ideal) 𝒱 c bd i arg2 harg2 arg3 harg3 arg4 harg4 arg5 harg5 arg6 harg6 arg7 harg7 h1 v21 X k
      = [⟨Rect.unit (s := S1040x2048) (k0_off1 k) S16x2048.size (k0_off1_inb i k h1),
          k0_pay1 v21 (arg2.view.readAt (Elt Ideal) (Rect.unit (s := S1040x2048) (k0_off1 k) S16x2048.size (k0_off1_inb i k h1)).toLoadRect X)⟩] := by
  unfold tripL_k0_t1 trip_k0_t1
  dsimp only

/-- Every piece written before trip `k` holds its rows' values. -/
theorem allAt_pb (y : S1040x2048.Idx) (v : Elt Ideal .bf16)
    (h : ∀ k : Fin k0_t1_loop.trips, View.RectAt (Val := Elt Ideal) (e := .bf16) y (Rect.unit (s := S1040x2048) (k0_off1 k) S16x2048.size (k0_off1_inb i k h1))
      (k0_pay1 v21 (arg2.view.readAt (Elt Ideal) (Rect.unit (s := S1040x2048) (k0_off1 k) S16x2048.size (k0_off1_inb i k h1)).toLoadRect X)) v) :
    ∀ n, n ≤ k0_t1_loop.trips → View.AllAt (pb_k0_t1 (F := Ideal) 𝒱 c bd i arg2 harg2 arg3 harg3 arg4 harg4 arg5 harg5 arg6 harg6 arg7 harg7 h1 v21 X n) y v
  | 0, _ => View.allAt_nil (Val := Elt Ideal) (e := .bf16) y v
  | n + 1, hn => by
    rw [pb_k0_t1_succ (F := Ideal) 𝒱 c bd i arg2 harg2 arg3 harg3 arg4 harg4 arg5 harg5 arg6 harg6 arg7 harg7 h1 v21 X ⟨n, hn⟩, tripL_eq]
    exact View.allAt_cons (Val := Elt Ideal) (e := .bf16) _ _ _ (h ⟨n, hn⟩) (allAt_pb y v h n (Nat.le_of_succ_le hn))

/-- A row over the root of its mean square, times the gain. -/
def rms (x g : Fin 2048 → EReal) (d : Fin 2048) : EReal :=
  x d * Ideal.rsqrt (Ideal.div (∑ k, x k * x k) (Ideal.ofBits .f32 0x45000000#32) + Ideal.ofBits .f32 0x358637BD#32) * g d

/-- `x` times its logistic. -/
def silu (x : EReal) : EReal := x * Ideal.div 1 (1 + Ideal.exp (0 - x))

theorem pay1_apply (g : Vec Ideal S1x2048 .f32) (x : Vec Ideal S16x2048 .f32) (r : Fin 16) (d : Fin 2048) :
    k0_pay1 g x (ix2 r d) = rms (fun k => x (ix2 r k)) (fun k => g (ix2 0 k)) d := by
  pointwise [k0_pay1, rms]

theorem pay2_apply (x : Vec Ideal S1040x2048 .bf16) (wa wu : Vec Ideal S2048x512 .f32) (r : Fin 1040) (d : Fin 512) :
    k0_pay2 x wa wu (ix2 r d) = silu (∑ k, x (ix2 r k) * wa (ix2 k d)) * ∑ k, x (ix2 r k) * wu (ix2 k d) := by
  pointwise [k0_pay2, silu]

/-- The normalised rows of a block. -/
def blkN (x : Vec Ideal S1040x2048 .f32) (g : Vec Ideal S1x2048 .f32) : Vec Ideal S1040x2048 .bf16 :=
  fun y => rms (fun k => x (ix2 (y 0) k)) (fun k => g (ix2 0 k)) (y 1)

theorem off_eq : ∀ k : Fin k0_t1_loop.trips, k0_off1 k 0 = 16 * k.val ∧ k0_off1 k 1 = 0 := by decide +kernel

theorem rect_rows (x : Vec Ideal S1040x2048 .f32) (g : Vec Ideal S1x2048 .f32) (k : Fin k0_t1_loop.trips) (y : S1040x2048.Idx) :
    View.RectAt (Val := Elt Ideal) (e := .bf16) y (Rect.unit (s := S1040x2048) (k0_off1 k) S16x2048.size (k0_off1_inb i k h1))
      (k0_pay1 g (View.ld x (Rect.unit (s := S1040x2048) (k0_off1 k) S16x2048.size (k0_off1_inb i k h1)))) (blkN x g y) := by
  intro z hz
  obtain ⟨r, d, rfl⟩ : ∃ (r : Fin 16) (d : Fin 2048), z = ix2 r d := ⟨_, _, eq_ix2 z⟩
  obtain ⟨e0, e1⟩ := off_eq k
  rw [pay1_apply]
  have h0 : (y 0).val = k0_off1 k 0 + 1 * r.val := by rw [← hz]; rfl
  have hd : (y 1).val = k0_off1 k 1 + 1 * d.val := by rw [← hz]; rfl
  have hy1 : y 1 = d := Fin.ext (by omega)
  unfold blkN
  rw [hy1]
  refine congrArg (fun f => rms f _ d) (funext fun q => ?_)
  show x _ = x _
  refine congrArg x (funext fun a => Fin.ext ?_)
  match a with
  | ⟨0, _⟩ => show k0_off1 k 0 + 1 * r.val = (y 0).val; omega
  | ⟨1, _⟩ => show k0_off1 k 1 + 1 * q.val = q.val; omega

end Cert.Kernel2Ideal.Up

end
-- ==== Proof.UpV.Cases.lean ====
/- The first product of the feed-forward part: what its body leaves, case by case. -/
module

public import proofs.«01_k».proof.Proof.UpV.Loop
public import Idealize.ShloMosaic.Lib.Pointwise
public import Idealize.ShloMosaic.Lib.Pipeline.ValueKit

@[expose] public section

set_option maxRecDepth 16384

noncomputable section

namespace Cert.Kernel2Ideal.Up

open Cert.Kernel2Ideal Cert.Kernel2Ideal.Gen
open Idealize.ShloMosaic Idealize.ShloMosaic.TcCoe Idealize.SL.Sem

theorem hz : (![0, 0] : Fin 2 → ℕ) = fun _ => 0 := by funext a; match a with | ⟨0, _⟩ => rfl | ⟨1, _⟩ => rfl

variable (c : Dev nD) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1040x512 .bf16) (harg6 : arg6.IsWhole) (arg7 : Memref sig .tc .vmem S1040x2048 .bf16) (harg7 : arg7.IsWhole)
  (x0 : Vec Ideal S1040x2048 .f32) (x1 : Vec Ideal S1x2048 .f32) (x2 : Vec Ideal S2048x512 .f32) (x3 : Vec Ideal S2048x512 .f32) (xs0 : Vec Ideal S1040x2048 .bf16)

theorem out_B (hc0 : ¬cond0_0 i) : out0_B_4 c i arg2 harg2 arg3 harg3 arg4 harg4 arg5 harg5 arg6 harg6 arg7 harg7 hc0 x0 x1 x2 x3 xs0 = k0_pay2 xs0 x2 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg4.read_unread, harg5.read_unread, harg7.read_unread, View.ld_unit_zero (S := S1040x2048) hz, View.ld_unit_zero (S := S2048x512) hz]

theorem sout_A (hc0 : cond0_0 i) : sout0_A_0 c i arg2 harg2 arg3 harg3 arg4 harg4 arg5 harg5 arg6 harg6 arg7 harg7 hc0 x0 x1 x2 x3 = blkN x0 x1 := by
  have hc := scover0_A_0 c i arg2 harg2 arg3 harg3 arg4 harg4 arg5 harg5 arg6 harg6 arg7 harg7 hc0 x0 x1 x2 x3
  unfold sout0_A_0
  rw [View.read_writes_eq_canon _ _ _ hc]
  funext y
  refine View.canon_eq_of_allAt _ y _ (hc y) ?_
  unfold kernelRun0_A
  dsimp only
  sl_unfold_words
  refine allAt_pb _ _ _ _ _ _ _ _ _ _ _ _ _ _ _ _ _ _ _ y _ (fun k => ?_) _ le_rfl
  simp only [View.readAt_eq_ld, harg2.read_unread, harg3.read_unread, View.ld_unit_zero (S := S1x2048) hz]
  exact rect_rows i hc0 x0 x1 k y

theorem out_A (hc0 : cond0_0 i) : out0_A_4 c i arg2 harg2 arg3 harg3 arg4 harg4 arg5 harg5 arg6 harg6 arg7 harg7 hc0 x0 x1 x2 x3 = k0_pay2 (blkN x0 x1) x2 x3 := by
  have hs := sout_A c i arg2 harg2 arg3 harg3 arg4 harg4 arg5 harg5 arg6 harg6 arg7 harg7 x0 x1 x2 x3 hc0
  have hc := scover0_A_0 c i arg2 harg2 arg3 harg3 arg4 harg4 arg5 harg5 arg6 harg6 arg7 harg7 hc0 x0 x1 x2 x3
  unfold sout0_A_0 at hs
  rw [View.read_writes_eq_canon _ _ _ hc] at hs
  unfold out0_A_4
  rw [View.read_writes_eq_canon _ _ _ (cover0_A_4 c i arg2 harg2 arg3 harg3 arg4 harg4 arg5 harg5 arg6 harg6 arg7 harg7 hc0 x0 x1 x2 x3)]
  unfold kernelRun0_A at hs ⊢
  dsimp only at hs ⊢
  sl_unfold_words
  rw [View.canon_unit_zero hz, View.readCov_eq_canon', hs]
  simp only [View.readAt_eq_ld, harg4.read_unread, harg5.read_unread, View.ld_unit_zero (S := S2048x512) hz]
  exact congrArg (fun f => k0_pay2 f x2 x3) (View.ld_unit_zero (S := S1040x2048) hz _ _)

end Cert.Kernel2Ideal.Up

end
-- ==== Proof.UpV.Value.lean ====
/- The first product of the feed-forward part: the kernel's result array, and the reference's, at the ideal values. -/
module

public import proofs.«01_k».proof.Proof.UpV.Cases
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Kernel2Ideal.Up

open Cert.Kernel2Ideal Cert.Kernel2Ideal.Gen
open Idealize.ShloMosaic Idealize.ShloMosaic.TcCoe Idealize.SL.Sem

/-- The gated product of the normalised rows. -/
def upS (x : (⟨2, ![8320, 2048]⟩ : Shape).Idx → EReal) (g : (⟨1, ![2048]⟩ : Shape).Idx → EReal) (w : (⟨2, ![2048, 11264]⟩ : Shape).Idx → EReal) :
    (⟨2, ![8320, 5632]⟩ : Shape).Idx → EReal :=
  fun J => silu (∑ k : Fin 2048, rms (fun q => x (ix2 (J 0) q)) (fun q => g (ix1 q)) k * w (ix2 k ⟨(J 1).val, by have := (J 1).isLt; have h : (J 1).val < 5632 := this; omega⟩))
    * ∑ k : Fin 2048, rms (fun q => x (ix2 (J 0) q)) (fun q => g (ix1 q)) k * w (ix2 k ⟨(J 1).val + 5632, by have := (J 1).isLt; have h : (J 1).val < 5632 := this; omega⟩)

theorem upS_apply (x : (⟨2, ![8320, 2048]⟩ : Shape).Idx → EReal) (g : (⟨1, ![2048]⟩ : Shape).Idx → EReal) (w : (⟨2, ![2048, 11264]⟩ : Shape).Idx → EReal)
    (I : Fin 8320) (J : Fin 5632) (Ja Ju : Fin 11264) (ha : Ja.val = J.val) (hu : Ju.val = J.val + 5632) :
    upS x g w (ix2 I J) = silu (∑ k : Fin 2048, rms (fun q => x (ix2 I q)) (fun q => g (ix1 q)) k * w (ix2 k Ja))
      * ∑ k : Fin 2048, rms (fun q => x (ix2 I q)) (fun q => g (ix1 q)) k * w (ix2 k Ju) := by
  obtain ⟨Ja, hJa⟩ := Ja
  obtain ⟨Ju, hJu⟩ := Ju
  subst ha
  dsimp only at hu
  subst hu
  rfl

theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 2) = 0 ∧ win0_3.index t (1 : Fin 2) = t.val % 11 + 11 := (by decide +kernel : ∀ t : Fin grid0.N, _)
theorem idx4 : ∀ t : Fin cfg0.N, win0_4.index t (0 : Fin 2) = t.val / 11 ∧ win0_4.index t (1 : Fin 2) = t.val % 11 := (by decide +kernel : ∀ t : Fin grid0.N, _)

variable (m : (ℓ : Loc nD τ sig) → Buf (Elt Ideal) ℓ) (c : Dev nD) (t : Fin cfg0.N)

/-- The arguments. -/
abbrev argX : (⟨2, ![8320, 2048]⟩ : Shape).Idx → EReal := m ((c : Thread nD τ).loc main_arg0)
abbrev argG : (⟨1, ![2048]⟩ : Shape).Idx → EReal := m ((c : Thread nD τ).loc main_arg1)
abbrev argW : (⟨2, ![2048, 11264]⟩ : Shape).Idx → EReal := m ((c : Thread nD τ).loc main_arg2)

theorem blk0 (i : Fin 1040) (k : Fin 2048) (I : Fin 8320) (hI : I.val = t.val / 11 * 1040 + i.val) :
    iblk m c 0 t (ix2 i k) = argX m c (ix2 I k) := by
  show V m c main_arg0 (((cfg0.win 0).blk t).view.emb _) = _
  rw [V_main_arg0]
  refine congrArg (argX m c) ?_
  funext a
  apply Fin.ext
  obtain ⟨e0, e1⟩ := idx0 t
  match a with
  | ⟨0, _⟩ => show win0_0.index t (0 : Fin 2) * 1040 + 1 * i.val = I.val; omega
  | ⟨1, _⟩ => show win0_0.index t (1 : Fin 2) * 2048 + 1 * k.val = k.val; omega

/-- The gain's window is the argument as one row. -/
theorem gain : (V m c main_v0 : Vec Ideal S1x2048 .f32) = shapeCast S1x2048 (argG m c : Vec Ideal S2048 .f32) shapeCasts_S2048_S1x2048 := by
  show StableHlo.after hostOps0 _ (Proc.devRef .tc main_v0) = _
  after_results
  rfl

theorem blk1 (k : Fin 2048) : iblk m c 1 t (ix2 0 k) = argG m c (ix1 k) := by
  have e : (iblk m c 1 t : Vec Ideal S1x2048 .f32) (ix2 0 k) = V m c main_v0 (ix2 0 k) := by
    show V m c main_v0 (((cfg0.win 1).blk t).view.emb _) = _
    refine congrArg (V m c main_v0) ?_
    funext a
    apply Fin.ext
    obtain ⟨e0, e1⟩ := idx1 t
    match a with
    | ⟨0, _⟩ => show win0_1.index t (0 : Fin 2) * 1 + 1 * 0 = 0; omega
    | ⟨1, _⟩ => show win0_1.index t (1 : Fin 2) * 2048 + 1 * k.val = k.val; omega
  refine e.trans ((congrFun (gain m c) (ix2 0 k)).trans ?_)
  pointwise []

theorem blk2 (k : Fin 2048) (j : Fin 512) (J : Fin 11264) (hJ : J.val = t.val % 11 * 512 + j.val) :
    iblk m c 2 t (ix2 k j) = argW m c (ix2 k J) := by
  show V m c main_arg2 (((cfg0.win 2).blk t).view.emb _) = _
  rw [V_main_arg2]
  refine congrArg (argW m c) ?_
  funext a
  apply Fin.ext
  obtain ⟨e0, e1⟩ := idx2 t
  match a with
  | ⟨0, _⟩ => show win0_2.index t (0 : Fin 2) * 2048 + 1 * k.val = k.val; omega
  | ⟨1, _⟩ => show win0_2.index t (1 : Fin 2) * 512 + 1 * j.val = J.val; omega

theorem blk3 (k : Fin 2048) (j : Fin 512) (J : Fin 11264) (hJ : J.val = t.val % 11 * 512 + j.val + 5632) :
    iblk m c 3 t (ix2 k j) = argW m c (ix2 k J) := by
  show V m c main_arg2 (((cfg0.win 3).blk t).view.emb _) = _
  rw [V_main_arg2]
  refine congrArg (argW m c) ?_
  funext a
  apply Fin.ext
  obtain ⟨e0, e1⟩ := idx3 t
  match a with
  | ⟨0, _⟩ => show win0_3.index t (0 : Fin 2) * 2048 + 1 * k.val = k.val; omega
  | ⟨1, _⟩ => show win0_3.index t (1 : Fin 2) * 512 + 1 * j.val = J.val; omega

/-- The scratch after a point holds the normalised rows of the point's row block. -/
theorem scratch_apply (r : Fin 1040) (d : Fin 2048) (I : Fin 8320) : ∀ (n : ℕ) (hn : n < cfg0.N), I.val = n / 11 * 1040 + r.val →
    (outsAt0 m c n hn).2 (ix2 r d) = rms (fun q => argX m c (ix2 I q)) (fun q => argG m c (ix1 q)) d := by
  intro n
  induction n with
  | zero =>
    intro hn hI
    rw [show outsAt0 m c 0 hn = _ from outsAt0_A m c ⟨0, hn⟩ (Nat.zero_mod _), sout_A]
    show rms (fun k => iblk m c 0 ⟨0, hn⟩ (ix2 r k)) (fun k => iblk m c 1 ⟨0, hn⟩ (ix2 0 k)) d = _
    rw [funext fun k => blk0 m c ⟨0, hn⟩ r k I hI, funext fun k => blk1 m c ⟨0, hn⟩ k]
  | succ n ih =>
    intro hn hI
    by_cases h : (n + 1) % 11 = 0
    · rw [show outsAt0 m c (n + 1) hn = _ from outsAt0_A m c ⟨n + 1, hn⟩ h, sout_A]
      show rms (fun k => iblk m c 0 ⟨n + 1, hn⟩ (ix2 r k)) (fun k => iblk m c 1 ⟨n + 1, hn⟩ (ix2 0 k)) d = _
      rw [funext fun k => blk0 m c ⟨n + 1, hn⟩ r k I hI, funext fun k => blk1 m c ⟨n + 1, hn⟩ k]
    · rw [show outsAt0 m c (n + 1) hn = _ from outsAt0_B m c ⟨n + 1, hn⟩ h]
      exact ih (Nat.lt_of_succ_lt hn) (by omega)

/-- The output block after a point, of the scratch after it. -/
theorem out_eq : (outsAt0 m c t.val t.isLt).1 = k0_pay2 (outsAt0 m c t.val t.isLt).2 (iblk m c 2 t) (iblk m c 3 t) := by
  by_cases h : t.val % 11 = 0
  · rw [outsAt0_A m c t h, out_A, sout_A]
  · rw [outsAt0_B m c t h, out_B]
    rfl

theorem block_apply (i : Fin 1040) (j : Fin 512) (I : Fin 8320) (J : Fin 5632) (hI : I.val = t.val / 11 * 1040 + i.val) (hJ : J.val = t.val % 11 * 512 + j.val) :
    k0_pay2 (outsAt0 m c t.val t.isLt).2 (iblk m c 2 t) (iblk m c 3 t) (ix2 i j) = upS (argX m c) (argG m c) (argW m c) (ix2 I J) := by
  have hJ' := J.isLt
  rw [pay2_apply, upS_apply _ _ _ I J ⟨J.val, by omega⟩ ⟨J.val + 5632, by omega⟩ rfl rfl]
  have e (k : Fin 2048) := scratch_apply m c i k I t.val t.isLt hI
  congr 1
  · congr 1
    refine Finset.sum_congr rfl fun k _ => ?_
    rw [e k, blk2 m c t k j ⟨J.val, by omega⟩ hJ]
  · refine Finset.sum_congr rfl fun k _ => ?_
    rw [e k, blk3 m c t k j ⟨J.val + 5632, by omega⟩ (by dsimp only; omega)]

/-- The result array after the run. -/
theorem final4 : (dats m 0 c).arrAt 4 cfg0.N = upS (argX m c) (argG m c) (argW m c) := by
  refine (dats m 0 c).arrAt_eq_of_covers 4 _ (by decide +kernel) fun t hf y => ?_
  rw [after0_4, out_eq]
  obtain ⟨e0, e1⟩ := idx4 t
  have hy0 : (y 0).val < 1040 := (y 0).isLt
  have hy1 : (y 1).val < 512 := (y 1).isLt
  have ht : t.val < 88 := lt_of_lt_of_eq t.isLt (show cfg0.N = 88 from N_0)
  have e3 : ((cfg0.win 4).blk t).view.emb y = ix2 ⟨t.val / 11 * 1040 + (y 0).val, by omega⟩ ⟨t.val % 11 * 512 + (y 1).val, by omega⟩ := by
    funext a
    apply Fin.ext
    match a with
    | ⟨0, _⟩ => show win0_4.index t (0 : Fin 2) * 1040 + 1 * (y 0).val = t.val / 11 * 1040 + (y 0).val; omega
    | ⟨1, _⟩ => show win0_4.index t (1 : Fin 2) * 512 + 1 * (y 1).val = t.val % 11 * 512 + (y 1).val; omega
  have e4 : ((cfg0.win 4).xinj (cfg0.grid.coords t) y : S1040x512.Idx) = ix2 ⟨(y 0).val, hy0⟩ ⟨(y 1).val, hy1⟩ := by
    funext a
    match a with
    | ⟨0, _⟩ => rfl
    | ⟨1, _⟩ => rfl
  show k0_pay2 (outsAt0 m c t.val t.isLt).2 (iblk m c 2 t) (iblk m c 3 t) ((cfg0.win 4).xinj (cfg0.grid.coords t) y) = _
  rw [e3, e4]
  exact block_apply m c t _ _ _ _ rfl rfl

/-- The kernel's run with its result as a function of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v1) = upS (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1).trans (final4 m c), (h c).2⟩) (Value.run_blocks m ρ)

end Cert.Kernel2Ideal.Up

namespace Cert.Reference2Ideal.Up

open Cert.Reference2Ideal Cert.Reference2Ideal.Gen
open Idealize.ShloMosaic Idealize.ShloMosaic.TcCoe Idealize.SL.Sem
open Cert.Kernel2Ideal.Up (upS silu rms upS_apply)

/-- The reference's run with its result as the same function of the arguments. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v18) = upS (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨((h c).1).trans ?_, (h c).2⟩) (Value.run m ρ)
  generalize (m ((c.tc : Thread nD τ).loc main_arg0) : FVec Ideal S8320x2048 .f32) = x
  generalize (m ((c.tc : Thread nD τ).loc main_arg1) : FVec Ideal S2048 .f32) = g
  generalize (m ((c.tc : Thread nD τ).loc main_arg2) : FVec Ideal S2048x11264 .f32) = w
  funext J
  obtain ⟨I, J, rfl⟩ : ∃ (I : Fin 8320) (j : Fin 5632), J = ix2 I j := ⟨_, _, eq_ix2 J⟩
  have hJ := J.isLt
  rw [upS_apply _ _ _ I J ⟨J.val, by omega⟩ ⟨5632 + J.val, by omega⟩ rfl (Nat.add_comm _ _)]
  pointwise [silu, rms, zero_sub]

end Cert.Reference2Ideal.Up

end
-- ==== Proof.DownV.Value.lean ====
/- The second product of the feed-forward part, added to the residual: the kernel's result array, and the reference's,
   at the ideal values. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Kernel3Ideal.Down

open Cert.Kernel3Ideal Cert.Kernel3Ideal.Gen
open Idealize.ShloMosaic Idealize.ShloMosaic.TcCoe Idealize.SL.Sem

/-- The residual and the product of a row by a column. -/
def downS (a : (⟨2, ![8320, 5632]⟩ : Shape).Idx → EReal) (w : (⟨2, ![5632, 2048]⟩ : Shape).Idx → EReal)
    (r : (⟨2, ![8320, 2048]⟩ : Shape).Idx → EReal) : (⟨2, ![8320, 2048]⟩ : Shape).Idx → EReal :=
  fun J => r J + ∑ k : Fin 5632, a (ix2 (J 0) k) * w (ix2 k (J 1))

theorem pay1_apply (r : Vec Ideal S1040x256 .f32) (a : Vec Ideal S1040x5632 .bf16) (w : Vec Ideal S5632x256 .f32) (i : Fin 1040) (j : Fin 256) :
    k0_pay1 r a w (ix2 i j) = r (ix2 i j) + ∑ k : Fin 5632, a (ix2 i k) * w (ix2 k j) := by
  pointwise [k0_pay1]

theorem out_eq (x0 : Vec Ideal S1040x5632 .bf16) (x1 : Vec Ideal S5632x256 .f32) (x2 : Vec Ideal S1040x256 .f32) :
    out0_3 x0 x1 x2 = k0_pay1 x2 x0 x1 := by
  have hz : (![0, 0] : Fin 2 → ℕ) = fun _ => 0 := by funext a; match a with | ⟨0, _⟩ => rfl | ⟨1, _⟩ => rfl
  unfold out0_3
  rw [View.canon_unit_zero hz, View.ld_unit_zero hz, View.ld_unit_zero hz, View.ld_unit_zero hz]

theorem idx0 : ∀ t : Fin cfg0.N, win0_0.index t (0 : Fin 2) = t.val / 8 ∧ win0_0.index t (1 : Fin 2) = 0 := (by decide +kernel : ∀ t : Fin grid0.N, _)
theorem idx1 : ∀ t : Fin cfg0.N, win0_1.index t (0 : Fin 2) = 0 ∧ win0_1.index t (1 : Fin 2) = t.val % 8 := (by decide +kernel : ∀ t : Fin grid0.N, _)
theorem idx2 : ∀ t : Fin cfg0.N, win0_2.index t (0 : Fin 2) = t.val / 8 ∧ win0_2.index t (1 : Fin 2) = t.val % 8 := (by decide +kernel : ∀ t : Fin grid0.N, _)
theorem idx3 : ∀ t : Fin cfg0.N, win0_3.index t (0 : Fin 2) = t.val / 8 ∧ win0_3.index t (1 : Fin 2) = t.val % 8 := (by decide +kernel : ∀ t : Fin grid0.N, _)

variable (m : (ℓ : Loc nD τ sig) → Buf (Elt Ideal) ℓ) (c : Dev nD) (t : Fin cfg0.N)

/-- The arguments. -/
abbrev argA : (⟨2, ![8320, 5632]⟩ : Shape).Idx → EReal := m ((c : Thread nD τ).loc main_arg0)
abbrev argW : (⟨2, ![5632, 2048]⟩ : Shape).Idx → EReal := m ((c : Thread nD τ).loc main_arg1)
abbrev argR : (⟨2, ![8320, 2048]⟩ : Shape).Idx → EReal := m ((c : Thread nD τ).loc main_arg2)

theorem blk0 (i : Fin 1040) (k : Fin 5632) (I : Fin 8320) (hI : I.val = t.val / 8 * 1040 + i.val) :
    iblk m c 0 t (ix2 i k) = argA m c (ix2 I k) := by
  show V m c main_arg0 (((cfg0.win 0).blk t).view.emb _) = _
  rw [V_main_arg0]
  refine congrArg (argA m c) ?_
  funext a
  apply Fin.ext
  obtain ⟨e0, e1⟩ := idx0 t
  match a with
  | ⟨0, _⟩ => show win0_0.index t (0 : Fin 2) * 1040 + 1 * i.val = I.val; omega
  | ⟨1, _⟩ => show win0_0.index t (1 : Fin 2) * 5632 + 1 * k.val = k.val; omega

theorem blk1 (k : Fin 5632) (j : Fin 256) (J : Fin 2048) (hJ : J.val = t.val % 8 * 256 + j.val) :
    iblk m c 1 t (ix2 k j) = argW m c (ix2 k J) := by
  show V m c main_arg1 (((cfg0.win 1).blk t).view.emb _) = _
  rw [V_main_arg1]
  refine congrArg (argW m c) ?_
  funext a
  apply Fin.ext
  obtain ⟨e0, e1⟩ := idx1 t
  match a with
  | ⟨0, _⟩ => show win0_1.index t (0 : Fin 2) * 5632 + 1 * k.val = k.val; omega
  | ⟨1, _⟩ => show win0_1.index t (1 : Fin 2) * 256 + 1 * j.val = J.val; omega

theorem blk2 (i : Fin 1040) (j : Fin 256) (I : Fin 8320) (J : Fin 2048) (hI : I.val = t.val / 8 * 1040 + i.val) (hJ : J.val = t.val % 8 * 256 + j.val) :
    iblk m c 2 t (ix2 i j) = argR m c (ix2 I J) := by
  show V m c main_arg2 (((cfg0.win 2).blk t).view.emb _) = _
  rw [V_main_arg2]
  refine congrArg (argR m c) ?_
  funext a
  apply Fin.ext
  obtain ⟨e0, e1⟩ := idx2 t
  match a with
  | ⟨0, _⟩ => show win0_2.index t (0 : Fin 2) * 1040 + 1 * i.val = I.val; omega
  | ⟨1, _⟩ => show win0_2.index t (1 : Fin 2) * 256 + 1 * j.val = J.val; omega

theorem block_apply (i : Fin 1040) (j : Fin 256) (I : Fin 8320) (J : Fin 2048) (hI : I.val = t.val / 8 * 1040 + i.val) (hJ : J.val = t.val % 8 * 256 + j.val) :
    k0_pay1 (iblk m c 2 t) (iblk m c 0 t) (iblk m c 1 t) (ix2 i j) = downS (argA m c) (argW m c) (argR m c) (ix2 I J) := by
  rw [pay1_apply, blk2 m c t i j I J hI hJ]
  unfold downS
  refine congrArg (argR m c (ix2 I J) + ·) (Finset.sum_congr rfl fun k _ => ?_)
  rw [blk0 m c t i k I hI, blk1 m c t k j J hJ]
  rfl

/-- The result array after the run. -/
theorem final3 : (dats m 0 c).arrAt 3 cfg0.N = downS (argA m c) (argW m c) (argR m c) := by
  refine (dats m 0 c).arrAt_eq_of_covers 3 _ (by decide +kernel) fun t hf y => ?_
  rw [after0_3, out_eq]
  obtain ⟨e0, e1⟩ := idx3 t
  have hy0 : (y 0).val < 1040 := (y 0).isLt
  have hy1 : (y 1).val < 256 := (y 1).isLt
  have ht : t.val < 64 := lt_of_lt_of_eq t.isLt (show cfg0.N = 64 from N_0)
  have e3 : ((cfg0.win 3).blk t).view.emb y = ix2 ⟨t.val / 8 * 1040 + (y 0).val, by omega⟩ ⟨t.val % 8 * 256 + (y 1).val, by omega⟩ := by
    funext a
    apply Fin.ext
    match a with
    | ⟨0, _⟩ => show win0_3.index t (0 : Fin 2) * 1040 + 1 * (y 0).val = t.val / 8 * 1040 + (y 0).val; omega
    | ⟨1, _⟩ => show win0_3.index t (1 : Fin 2) * 256 + 1 * (y 1).val = t.val % 8 * 256 + (y 1).val; omega
  have e4 : ((cfg0.win 3).xinj (cfg0.grid.coords t) y : S1040x256.Idx) = ix2 ⟨(y 0).val, hy0⟩ ⟨(y 1).val, hy1⟩ := by
    funext a
    match a with
    | ⟨0, _⟩ => rfl
    | ⟨1, _⟩ => rfl
  show k0_pay1 (iblk m c 2 t) (iblk m c 0 t) (iblk m c 1 t) ((cfg0.win 3).xinj (cfg0.grid.coords t) y) = _
  rw [e3, e4]
  exact block_apply m c t _ _ _ _ rfl rfl

/-- The kernel's run with its result as a function of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v0) = downS (argA m c) (argW m c) (argR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1).trans (final3 m c), (h c).2⟩) (Value.run_blocks m ρ)

/-- The reference's result is the same function of the arguments. -/
theorem ref_eq (a : FVec Ideal Cert.Reference3Ideal.S8320x5632 .bf16) (w : FVec Ideal Cert.Reference3Ideal.S5632x2048 .f32)
    (r : FVec Ideal Cert.Reference3Ideal.S8320x2048 .f32) :
    (addf r (Host.dotGeneral (F := Ideal) Cert.Reference3Ideal.dot_S8320x5632_S5632x2048_S8320x2048_1_0_0_1_n_n none
      (extf .f32 a Cert.Reference3Ideal.Gen.bitsLt_bf16_f32) w)) = downS a w r := by
  funext J
  obtain ⟨i, j, rfl⟩ : ∃ i j, J = ix2 i j := ⟨_, _, eq_ix2 J⟩
  pointwise [downS]

end Cert.Kernel3Ideal.Down

end
-- ==== Proof.InV.Loop.lean ====
/- The rows' loop of the input product of the recurrence: what its trips write. -/
module

public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.In

open Cert.Kernel4Ideal Cert.Kernel4Ideal.Gen
open Idealize.ShloMosaic Idealize.ShloMosaic.TcCoe Idealize.SL.Sem

variable (𝒱 : Variants) (c : Dev nD) (bd : Option 𝒱.V) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S1040x512 .f32) (harg6 : arg6.IsWhole) (arg7 : Memref sig .tc .vmem S1040x2048 .bf16) (harg7 : arg7.IsWhole)
  (h1 : k0_cond1 i = 1#1) (v21 : Vec Ideal S1x2048 .f32) (X : BufTy.Contents (Elt Ideal) arg2.view.ty)

theorem tripL_eq (k : Fin k0_t1_loop.trips) :
    tripL_k0_t1 (F := Ideal) 𝒱 c bd i arg2 harg2 arg3 harg3 arg4 harg4 arg5 harg5 arg6 harg6 arg7 harg7 h1 v21 X k
      = [⟨Rect.unit (s := S1040x2048) (k0_off1 k) S16x2048.size (k0_off1_inb i k h1),
          k0_pay1 v21 (arg2.view.readAt (Elt Ideal) (Rect.unit (s := S1040x2048) (k0_off1 k) S16x2048.size (k0_off1_inb i k h1)).toLoadRect X)⟩] := by
  unfold tripL_k0_t1 trip_k0_t1
  dsimp only

/-- Every piece written before trip `k` holds its rows' values. -/
theorem allAt_pb (y : S1040x2048.Idx) (v : Elt Ideal .bf16)
    (h : ∀ k : Fin k0_t1_loop.trips, View.RectAt (Val := Elt Ideal) (e := .bf16) y (Rect.unit (s := S1040x2048) (k0_off1 k) S16x2048.size (k0_off1_inb i k h1))
      (k0_pay1 v21 (arg2.view.readAt (Elt Ideal) (Rect.unit (s := S1040x2048) (k0_off1 k) S16x2048.size (k0_off1_inb i k h1)).toLoadRect X)) v) :
    ∀ n, n ≤ k0_t1_loop.trips → View.AllAt (pb_k0_t1 (F := Ideal) 𝒱 c bd i arg2 harg2 arg3 harg3 arg4 harg4 arg5 harg5 arg6 harg6 arg7 harg7 h1 v21 X n) y v
  | 0, _ => View.allAt_nil (Val := Elt Ideal) (e := .bf16) y v
  | n + 1, hn => by
    rw [pb_k0_t1_succ (F := Ideal) 𝒱 c bd i arg2 harg2 arg3 harg3 arg4 harg4 arg5 harg5 arg6 harg6 arg7 harg7 h1 v21 X ⟨n, hn⟩, tripL_eq]
    exact View.allAt_cons (Val := Elt Ideal) (e := .bf16) _ _ _ (h ⟨n, hn⟩) (allAt_pb y v h n (Nat.le_of_succ_le hn))

/-- A row over the root of its mean square, times the gain. -/
def rms (x g : Fin 2048 → EReal) (d : Fin 2048) : EReal :=
  x d * Ideal.rsqrt (Ideal.div (∑ k, x k * x k) (Ideal.ofBits .f32 0x45000000#32) + Ideal.ofBits .f32 0x358637BD#32) * g d

theorem pay1_apply (g : Vec Ideal S1x2048 .f32) (x : Vec Ideal S16x2048 .f32) (r : Fin 16) (d : Fin 2048) :
    k0_pay1 g x (ix2 r d) = rms (fun k => x (ix2 r k)) (fun k => g (ix2 0 k)) d := by
  pointwise [k0_pay1, rms]

theorem pay2_apply (x : Vec Ideal S1040x2048 .bf16) (w : Vec Ideal S2048x512 .f32) (r : Fin 1040) (d : Fin 512) :
    k0_pay2 x w (ix2 r d) = ∑ k, x (ix2 r k) * w (ix2 k d) := by
  pointwise [k0_pay2]

/-- The normalised rows of a block. -/
def blkN (x : Vec Ideal S1040x2048 .f32) (g : Vec Ideal S1x2048 .f32) : Vec Ideal S1040x2048 .bf16 :=
  fun y => rms (fun k => x (ix2 (y 0) k)) (fun k => g (ix2 0 k)) (y 1)

theorem off_eq : ∀ k : Fin k0_t1_loop.trips, k0_off1 k 0 = 16 * k.val ∧ k0_off1 k 1 = 0 := by decide +kernel

theorem rect_rows (x : Vec Ideal S1040x2048 .f32) (g : Vec Ideal S1x2048 .f32) (k : Fin k0_t1_loop.trips) (y : S1040x2048.Idx) :
    View.RectAt (Val := Elt Ideal) (e := .bf16) y (Rect.unit (s := S1040x2048) (k0_off1 k) S16x2048.size (k0_off1_inb i k h1))
      (k0_pay1 g (View.ld x (Rect.unit (s := S1040x2048) (k0_off1 k) S16x2048.size (k0_off1_inb i k h1)))) (blkN x g y) := by
  intro z hz
  obtain ⟨r, d, rfl⟩ : ∃ (r : Fin 16) (d : Fin 2048), z = ix2 r d := ⟨_, _, eq_ix2 z⟩
  obtain ⟨e0, e1⟩ := off_eq k
  rw [pay1_apply]
  have h0 : (y 0).val = k0_off1 k 0 + 1 * r.val := by rw [← hz]; rfl
  have hd : (y 1).val = k0_off1 k 1 + 1 * d.val := by rw [← hz]; rfl
  have hy1 : y 1 = d := Fin.ext (by omega)
  unfold blkN
  rw [hy1]
  refine congrArg (fun f => rms f _ d) (funext fun q => ?_)
  show x _ = x _
  refine congrArg x (funext fun a => Fin.ext ?_)
  match a with
  | ⟨0, _⟩ => show k0_off1 k 0 + 1 * r.val = (y 0).val; omega
  | ⟨1, _⟩ => show k0_off1 k 1 + 1 * q.val = q.val; omega

end Cert.Kernel4Ideal.In

end
-- ==== Proof.InV.Cases.lean ====
/- The input product of the recurrence: what its body leaves, case by case. -/
module

public import proofs.«01_k».proof.Proof.InV.Loop
public import Idealize.ShloMosaic.Lib.Pointwise
public import Idealize.ShloMosaic.Lib.Pipeline.ValueKit

@[expose] public section

set_option maxRecDepth 16384

noncomputable section

namespace Cert.Kernel4Ideal.In

open Cert.Kernel4Ideal Cert.Kernel4Ideal.Gen
open Idealize.ShloMosaic Idealize.ShloMosaic.TcCoe Idealize.SL.Sem

theorem hz : (![0, 0] : Fin 2 → ℕ) = fun _ => 0 := by funext a; match a with | ⟨0, _⟩ => rfl | ⟨1, _⟩ => rfl

variable (c : Dev nD) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S1040x512 .f32) (harg6 : arg6.IsWhole) (arg7 : Memref sig .tc .vmem S1040x2048 .bf16) (harg7 : arg7.IsWhole)
  (x0 : Vec Ideal S1040x2048 .f32) (x1 : Vec Ideal S1x2048 .f32) (x2 : Vec Ideal S2048x512 .f32) (x3 : Vec Ideal S1x128 .f32) (xs0 : Vec Ideal S1040x2048 .bf16)

theorem out_B (hc0 : ¬cond0_0 i) : out0_B_4 c i arg2 harg2 arg3 harg3 arg4 harg4 arg5 harg5 arg6 harg6 arg7 harg7 hc0 x0 x1 x2 x3 xs0 = k0_pay2 xs0 x2 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg4.read_unread, harg7.read_unread, View.ld_unit_zero (S := S1040x2048) hz, View.ld_unit_zero (S := S2048x512) hz]

theorem sout_A (hc0 : cond0_0 i) : sout0_A_0 c i arg2 harg2 arg3 harg3 arg4 harg4 arg5 harg5 arg6 harg6 arg7 harg7 hc0 x0 x1 x2 x3 = blkN x0 x1 := by
  have hc := scover0_A_0 c i arg2 harg2 arg3 harg3 arg4 harg4 arg5 harg5 arg6 harg6 arg7 harg7 hc0 x0 x1 x2 x3
  unfold sout0_A_0
  rw [View.read_writes_eq_canon _ _ _ hc]
  funext y
  refine View.canon_eq_of_allAt _ y _ (hc y) ?_
  unfold kernelRun0_A
  dsimp only
  sl_unfold_words
  refine allAt_pb _ _ _ _ _ _ _ _ _ _ _ _ _ _ _ _ _ _ _ y _ (fun k => ?_) _ le_rfl
  simp only [View.readAt_eq_ld, harg2.read_unread, harg3.read_unread, View.ld_unit_zero (S := S1x2048) hz]
  exact rect_rows i hc0 x0 x1 k y

theorem out_A (hc0 : cond0_0 i) : out0_A_4 c i arg2 harg2 arg3 harg3 arg4 harg4 arg5 harg5 arg6 harg6 arg7 harg7 hc0 x0 x1 x2 x3 = k0_pay2 (blkN x0 x1) x2 := by
  have hs := sout_A c i arg2 harg2 arg3 harg3 arg4 harg4 arg5 harg5 arg6 harg6 arg7 harg7 x0 x1 x2 x3 hc0
  have hc := scover0_A_0 c i arg2 harg2 arg3 harg3 arg4 harg4 arg5 harg5 arg6 harg6 arg7 harg7 hc0 x0 x1 x2 x3
  unfold sout0_A_0 at hs
  rw [View.read_writes_eq_canon _ _ _ hc] at hs
  unfold out0_A_4
  rw [View.read_writes_eq_canon _ _ _ (cover0_A_4 c i arg2 harg2 arg3 harg3 arg4 harg4 arg5 harg5 arg6 harg6 arg7 harg7 hc0 x0 x1 x2 x3)]
  unfold kernelRun0_A at hs ⊢
  dsimp only at hs ⊢
  sl_unfold_words
  rw [View.canon_unit_zero hz, View.readCov_eq_canon', hs]
  simp only [View.readAt_eq_ld, harg4.read_unread, View.ld_unit_zero (S := S2048x512) hz]
  exact congrArg (fun f => k0_pay2 f x2) (View.ld_unit_zero (S := S1040x2048) hz _ _)

end Cert.Kernel4Ideal.In

end
-- ==== Proof.InV.Value.lean ====
/- The input product of the recurrence: the kernel's result array, and the reference's, at the ideal values. -/
module

public import proofs.«01_k».proof.Proof.InV.Cases
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.In

open Cert.Kernel4Ideal Cert.Kernel4Ideal.Gen
open Idealize.ShloMosaic Idealize.ShloMosaic.TcCoe Idealize.SL.Sem

/-- The product of the normalised rows. -/
def inS (x : (⟨2, ![8320, 2048]⟩ : Shape).Idx → EReal) (g : (⟨1, ![2048]⟩ : Shape).Idx → EReal) (w : (⟨2, ![2048, 8192]⟩ : Shape).Idx → EReal) :
    (⟨2, ![8320, 8192]⟩ : Shape).Idx → EReal :=
  fun J => ∑ k : Fin 2048, rms (fun q => x (ix2 (J 0) q)) (fun q => g (ix1 q)) k * w (ix2 k (J 1))

theorem idx0 : ∀ t : Fin cfg0.N, win0_0.index t (0 : Fin 2) = t.val / 16 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 16 := (by decide +kernel : ∀ t : Fin grid0.N, _)
theorem idx4 : ∀ t : Fin cfg0.N, win0_4.index t (0 : Fin 2) = t.val / 16 ∧ win0_4.index t (1 : Fin 2) = t.val % 16 := (by decide +kernel : ∀ t : Fin grid0.N, _)

variable (m : (ℓ : Loc nD τ sig) → Buf (Elt Ideal) ℓ) (c : Dev nD) (t : Fin cfg0.N)

/-- The arguments. -/
abbrev argX : (⟨2, ![8320, 2048]⟩ : Shape).Idx → EReal := m ((c : Thread nD τ).loc main_arg0)
abbrev argG : (⟨1, ![2048]⟩ : Shape).Idx → EReal := m ((c : Thread nD τ).loc main_arg1)
abbrev argW : (⟨2, ![2048, 8192]⟩ : Shape).Idx → EReal := m ((c : Thread nD τ).loc main_arg2)

theorem blk0 (i : Fin 1040) (k : Fin 2048) (I : Fin 8320) (hI : I.val = t.val / 16 * 1040 + i.val) :
    iblk m c 0 t (ix2 i k) = argX m c (ix2 I k) := by
  show V m c main_arg0 (((cfg0.win 0).blk t).view.emb _) = _
  rw [V_main_arg0]
  refine congrArg (argX m c) ?_
  funext a
  apply Fin.ext
  obtain ⟨e0, e1⟩ := idx0 t
  match a with
  | ⟨0, _⟩ => show win0_0.index t (0 : Fin 2) * 1040 + 1 * i.val = I.val; omega
  | ⟨1, _⟩ => show win0_0.index t (1 : Fin 2) * 2048 + 1 * k.val = k.val; omega

/-- The gain's window is the argument as one row. -/
theorem gain : (V m c main_v1 : Vec Ideal S1x2048 .f32) = shapeCast S1x2048 (argG m c : Vec Ideal S2048 .f32) shapeCasts_S2048_S1x2048 := by
  show StableHlo.after hostOps0 _ (Proc.devRef .tc main_v1) = _
  after_results
  rfl

theorem blk1 (k : Fin 2048) : iblk m c 1 t (ix2 0 k) = argG m c (ix1 k) := by
  have e : (iblk m c 1 t : Vec Ideal S1x2048 .f32) (ix2 0 k) = V m c main_v1 (ix2 0 k) := by
    show V m c main_v1 (((cfg0.win 1).blk t).view.emb _) = _
    refine congrArg (V m c main_v1) ?_
    funext a
    apply Fin.ext
    obtain ⟨e0, e1⟩ := idx1 t
    match a with
    | ⟨0, _⟩ => show win0_1.index t (0 : Fin 2) * 1 + 1 * 0 = 0; omega
    | ⟨1, _⟩ => show win0_1.index t (1 : Fin 2) * 2048 + 1 * k.val = k.val; omega
  refine e.trans ((congrFun (gain m c) (ix2 0 k)).trans ?_)
  pointwise []

theorem blk2 (k : Fin 2048) (j : Fin 512) (J : Fin 8192) (hJ : J.val = t.val % 16 * 512 + j.val) :
    iblk m c 2 t (ix2 k j) = argW m c (ix2 k J) := by
  show V m c main_arg2 (((cfg0.win 2).blk t).view.emb _) = _
  rw [V_main_arg2]
  refine congrArg (argW m c) ?_
  funext a
  apply Fin.ext
  obtain ⟨e0, e1⟩ := idx2 t
  match a with
  | ⟨0, _⟩ => show win0_2.index t (0 : Fin 2) * 2048 + 1 * k.val = k.val; omega
  | ⟨1, _⟩ => show win0_2.index t (1 : Fin 2) * 512 + 1 * j.val = J.val; omega

/-- The scratch after a point holds the normalised rows of the point's row block. -/
theorem scratch_apply (r : Fin 1040) (d : Fin 2048) (I : Fin 8320) : ∀ (n : ℕ) (hn : n < cfg0.N), I.val = n / 16 * 1040 + r.val →
    (outsAt0 m c n hn).2 (ix2 r d) = rms (fun q => argX m c (ix2 I q)) (fun q => argG m c (ix1 q)) d := by
  intro n
  induction n with
  | zero =>
    intro hn hI
    rw [show outsAt0 m c 0 hn = _ from outsAt0_A m c ⟨0, hn⟩ (Nat.zero_mod _), sout_A]
    show rms (fun k => iblk m c 0 ⟨0, hn⟩ (ix2 r k)) (fun k => iblk m c 1 ⟨0, hn⟩ (ix2 0 k)) d = _
    rw [funext fun k => blk0 m c ⟨0, hn⟩ r k I hI, funext fun k => blk1 m c ⟨0, hn⟩ k]
  | succ n ih =>
    intro hn hI
    by_cases h : (n + 1) % 16 = 0
    · rw [show outsAt0 m c (n + 1) hn = _ from outsAt0_A m c ⟨n + 1, hn⟩ h, sout_A]
      show rms (fun k => iblk m c 0 ⟨n + 1, hn⟩ (ix2 r k)) (fun k => iblk m c 1 ⟨n + 1, hn⟩ (ix2 0 k)) d = _
      rw [funext fun k => blk0 m c ⟨n + 1, hn⟩ r k I hI, funext fun k => blk1 m c ⟨n + 1, hn⟩ k]
    · rw [show outsAt0 m c (n + 1) hn = _ from outsAt0_B m c ⟨n + 1, hn⟩ h]
      exact ih (Nat.lt_of_succ_lt hn) (by omega)

/-- The output block after a point, of the scratch after it. -/
theorem out_eq : (outsAt0 m c t.val t.isLt).1 = k0_pay2 (outsAt0 m c t.val t.isLt).2 (iblk m c 2 t) := by
  by_cases h : t.val % 16 = 0
  · rw [outsAt0_A m c t h, out_A, sout_A]
  · rw [outsAt0_B m c t h, out_B]
    rfl

theorem block_apply (i : Fin 1040) (j : Fin 512) (I : Fin 8320) (J : Fin 8192) (hI : I.val = t.val / 16 * 1040 + i.val) (hJ : J.val = t.val % 16 * 512 + j.val) :
    k0_pay2 (outsAt0 m c t.val t.isLt).2 (iblk m c 2 t) (ix2 i j) = inS (argX m c) (argG m c) (argW m c) (ix2 I J) := by
  rw [pay2_apply]
  show _ = ∑ k : Fin 2048, rms (fun q => argX m c (ix2 I q)) (fun q => argG m c (ix1 q)) k * argW m c (ix2 k J)
  refine Finset.sum_congr rfl fun k _ => ?_
  rw [scratch_apply m c i k I t.val t.isLt hI, blk2 m c t k j J hJ]

/-- The result array after the run. -/
theorem final4 : (dats m 0 c).arrAt 4 cfg0.N = inS (argX m c) (argG m c) (argW m c) := by
  refine (dats m 0 c).arrAt_eq_of_covers 4 _ (by decide +kernel) fun t hf y => ?_
  rw [after0_4, out_eq]
  obtain ⟨e0, e1⟩ := idx4 t
  have hy0 : (y 0).val < 1040 := (y 0).isLt
  have hy1 : (y 1).val < 512 := (y 1).isLt
  have ht : t.val < 128 := lt_of_lt_of_eq t.isLt (show cfg0.N = 128 from N_0)
  have e3 : ((cfg0.win 4).blk t).view.emb y = ix2 ⟨t.val / 16 * 1040 + (y 0).val, by omega⟩ ⟨t.val % 16 * 512 + (y 1).val, by omega⟩ := by
    funext a
    apply Fin.ext
    match a with
    | ⟨0, _⟩ => show win0_4.index t (0 : Fin 2) * 1040 + 1 * (y 0).val = t.val / 16 * 1040 + (y 0).val; omega
    | ⟨1, _⟩ => show win0_4.index t (1 : Fin 2) * 512 + 1 * (y 1).val = t.val % 16 * 512 + (y 1).val; omega
  have e4 : ((cfg0.win 4).xinj (cfg0.grid.coords t) y : S1040x512.Idx) = ix2 ⟨(y 0).val, hy0⟩ ⟨(y 1).val, hy1⟩ := by
    funext a
    match a with
    | ⟨0, _⟩ => rfl
    | ⟨1, _⟩ => rfl
  show k0_pay2 (outsAt0 m c t.val t.isLt).2 (iblk m c 2 t) ((cfg0.win 4).xinj (cfg0.grid.coords t) y) = _
  rw [e3, e4]
  exact block_apply m c t _ _ _ _ rfl rfl

/-- The kernel's run with its result as a function of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v3) = inS (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1).trans (final4 m c), (h c).2⟩) (Value.run_blocks m ρ)

end Cert.Kernel4Ideal.In

namespace Cert.Reference4Ideal.In

open Cert.Reference4Ideal Cert.Reference4Ideal.Gen
open Idealize.ShloMosaic Idealize.ShloMosaic.TcCoe Idealize.SL.Sem
open Cert.Kernel4Ideal.In (inS rms)

/-- The reference's run with its result as the same function of the arguments. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = inS (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨((h c).1).trans ?_, (h c).2⟩) (Value.run m ρ)
  generalize (m ((c.tc : Thread nD τ).loc main_arg0) : FVec Ideal S8320x2048 .f32) = x
  generalize (m ((c.tc : Thread nD τ).loc main_arg1) : FVec Ideal S2048 .f32) = g
  generalize (m ((c.tc : Thread nD τ).loc main_arg2) : FVec Ideal S2048x8192 .f32) = w
  funext J
  obtain ⟨I, J, rfl⟩ : ∃ (I : Fin 8320) (j : Fin 8192), J = ix2 I j := ⟨_, _, eq_ix2 J⟩
  pointwise [inS, rms]

end Cert.Reference4Ideal.In

end
-- ==== Proof.OutV.Value.lean ====
/- The output product of the recurrence, added to the residual: the kernel's result array, and the reference's,
   at the ideal values. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Kernel5Ideal.Out

open Cert.Kernel5Ideal Cert.Kernel5Ideal.Gen
open Idealize.ShloMosaic Idealize.ShloMosaic.TcCoe Idealize.SL.Sem

/-- The residual and the product of a row by a column. -/
def outS (a : (⟨2, ![8320, 2048]⟩ : Shape).Idx → EReal) (w : (⟨2, ![2048, 2048]⟩ : Shape).Idx → EReal)
    (r : (⟨2, ![8320, 2048]⟩ : Shape).Idx → EReal) : (⟨2, ![8320, 2048]⟩ : Shape).Idx → EReal :=
  fun J => r J + ∑ k : Fin 2048, a (ix2 (J 0) k) * w (ix2 k (J 1))

theorem pay1_apply (r : Vec Ideal S1040x512 .f32) (a : Vec Ideal S1040x2048 .bf16) (w : Vec Ideal S2048x512 .f32) (i : Fin 1040) (j : Fin 512) :
    k0_pay1 r a w (ix2 i j) = r (ix2 i j) + ∑ k : Fin 2048, a (ix2 i k) * w (ix2 k j) := by
  pointwise [k0_pay1]

theorem out_eq (x0 : Vec Ideal S1040x2048 .bf16) (x1 : Vec Ideal S2048x512 .f32) (x2 : Vec Ideal S1040x512 .f32) :
    out0_3 x0 x1 x2 = k0_pay1 x2 x0 x1 := by
  have hz : (![0, 0] : Fin 2 → ℕ) = fun _ => 0 := by funext a; match a with | ⟨0, _⟩ => rfl | ⟨1, _⟩ => rfl
  unfold out0_3
  rw [View.canon_unit_zero hz, View.ld_unit_zero hz, View.ld_unit_zero hz, View.ld_unit_zero hz]

theorem idx0 : ∀ t : Fin cfg0.N, win0_0.index t (0 : Fin 2) = t.val / 4 ∧ win0_0.index t (1 : Fin 2) = 0 := (by decide +kernel : ∀ t : Fin grid0.N, _)
theorem idx1 : ∀ t : Fin cfg0.N, win0_1.index t (0 : Fin 2) = 0 ∧ win0_1.index t (1 : Fin 2) = t.val % 4 := (by decide +kernel : ∀ t : Fin grid0.N, _)
theorem idx2 : ∀ t : Fin cfg0.N, win0_2.index t (0 : Fin 2) = t.val / 4 ∧ win0_2.index t (1 : Fin 2) = t.val % 4 := (by decide +kernel : ∀ t : Fin grid0.N, _)
theorem idx3 : ∀ t : Fin cfg0.N, win0_3.index t (0 : Fin 2) = t.val / 4 ∧ win0_3.index t (1 : Fin 2) = t.val % 4 := (by decide +kernel : ∀ t : Fin grid0.N, _)

variable (m : (ℓ : Loc nD τ sig) → Buf (Elt Ideal) ℓ) (c : Dev nD) (t : Fin cfg0.N)

/-- The arguments. -/
abbrev argA : (⟨2, ![8320, 2048]⟩ : Shape).Idx → EReal := m ((c : Thread nD τ).loc main_arg0)
abbrev argW : (⟨2, ![2048, 2048]⟩ : Shape).Idx → EReal := m ((c : Thread nD τ).loc main_arg1)
abbrev argR : (⟨2, ![8320, 2048]⟩ : Shape).Idx → EReal := m ((c : Thread nD τ).loc main_arg2)

theorem blk0 (i : Fin 1040) (k : Fin 2048) (I : Fin 8320) (hI : I.val = t.val / 4 * 1040 + i.val) :
    iblk m c 0 t (ix2 i k) = argA m c (ix2 I k) := by
  show V m c main_arg0 (((cfg0.win 0).blk t).view.emb _) = _
  rw [V_main_arg0]
  refine congrArg (argA m c) ?_
  funext a
  apply Fin.ext
  obtain ⟨e0, e1⟩ := idx0 t
  match a with
  | ⟨0, _⟩ => show win0_0.index t (0 : Fin 2) * 1040 + 1 * i.val = I.val; omega
  | ⟨1, _⟩ => show win0_0.index t (1 : Fin 2) * 2048 + 1 * k.val = k.val; omega

theorem blk1 (k : Fin 2048) (j : Fin 512) (J : Fin 2048) (hJ : J.val = t.val % 4 * 512 + j.val) :
    iblk m c 1 t (ix2 k j) = argW m c (ix2 k J) := by
  show V m c main_arg1 (((cfg0.win 1).blk t).view.emb _) = _
  rw [V_main_arg1]
  refine congrArg (argW m c) ?_
  funext a
  apply Fin.ext
  obtain ⟨e0, e1⟩ := idx1 t
  match a with
  | ⟨0, _⟩ => show win0_1.index t (0 : Fin 2) * 2048 + 1 * k.val = k.val; omega
  | ⟨1, _⟩ => show win0_1.index t (1 : Fin 2) * 512 + 1 * j.val = J.val; omega

theorem blk2 (i : Fin 1040) (j : Fin 512) (I : Fin 8320) (J : Fin 2048) (hI : I.val = t.val / 4 * 1040 + i.val) (hJ : J.val = t.val % 4 * 512 + j.val) :
    iblk m c 2 t (ix2 i j) = argR m c (ix2 I J) := by
  show V m c main_arg2 (((cfg0.win 2).blk t).view.emb _) = _
  rw [V_main_arg2]
  refine congrArg (argR m c) ?_
  funext a
  apply Fin.ext
  obtain ⟨e0, e1⟩ := idx2 t
  match a with
  | ⟨0, _⟩ => show win0_2.index t (0 : Fin 2) * 1040 + 1 * i.val = I.val; omega
  | ⟨1, _⟩ => show win0_2.index t (1 : Fin 2) * 512 + 1 * j.val = J.val; omega

theorem block_apply (i : Fin 1040) (j : Fin 512) (I : Fin 8320) (J : Fin 2048) (hI : I.val = t.val / 4 * 1040 + i.val) (hJ : J.val = t.val % 4 * 512 + j.val) :
    k0_pay1 (iblk m c 2 t) (iblk m c 0 t) (iblk m c 1 t) (ix2 i j) = outS (argA m c) (argW m c) (argR m c) (ix2 I J) := by
  rw [pay1_apply, blk2 m c t i j I J hI hJ]
  unfold outS
  refine congrArg (argR m c (ix2 I J) + ·) (Finset.sum_congr rfl fun k _ => ?_)
  rw [blk0 m c t i k I hI, blk1 m c t k j J hJ]
  rfl

/-- The result array after the run. -/
theorem final3 : (dats m 0 c).arrAt 3 cfg0.N = outS (argA m c) (argW m c) (argR m c) := by
  refine (dats m 0 c).arrAt_eq_of_covers 3 _ (by decide +kernel) fun t hf y => ?_
  rw [after0_3, out_eq]
  obtain ⟨e0, e1⟩ := idx3 t
  have hy0 : (y 0).val < 1040 := (y 0).isLt
  have hy1 : (y 1).val < 512 := (y 1).isLt
  have ht : t.val < 32 := lt_of_lt_of_eq t.isLt (show cfg0.N = 32 from N_0)
  have e3 : ((cfg0.win 3).blk t).view.emb y = ix2 ⟨t.val / 4 * 1040 + (y 0).val, by omega⟩ ⟨t.val % 4 * 512 + (y 1).val, by omega⟩ := by
    funext a
    apply Fin.ext
    match a with
    | ⟨0, _⟩ => show win0_3.index t (0 : Fin 2) * 1040 + 1 * (y 0).val = t.val / 4 * 1040 + (y 0).val; omega
    | ⟨1, _⟩ => show win0_3.index t (1 : Fin 2) * 512 + 1 * (y 1).val = t.val % 4 * 512 + (y 1).val; omega
  have e4 : ((cfg0.win 3).xinj (cfg0.grid.coords t) y : S1040x512.Idx) = ix2 ⟨(y 0).val, hy0⟩ ⟨(y 1).val, hy1⟩ := by
    funext a
    match a with
    | ⟨0, _⟩ => rfl
    | ⟨1, _⟩ => rfl
  show k0_pay1 (iblk m c 2 t) (iblk m c 0 t) (iblk m c 1 t) ((cfg0.win 3).xinj (cfg0.grid.coords t) y) = _
  rw [e3, e4]
  exact block_apply m c t _ _ _ _ rfl rfl

/-- The kernel's run with its result as a function of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v0) = outS (argA m c) (argW m c) (argR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1).trans (final3 m c), (h c).2⟩) (Value.run_blocks m ρ)

/-- The reference's result is the same function of the arguments. -/
theorem ref_eq (a : FVec Ideal Cert.Reference5Ideal.S8320x2048 .bf16) (w : FVec Ideal Cert.Reference5Ideal.S2048x2048 .f32)
    (r : FVec Ideal Cert.Reference5Ideal.S8320x2048 .f32) :
    (addf r (Host.dotGeneral (F := Ideal) Cert.Reference5Ideal.dot_S8320x2048_S2048x2048_S8320x2048_1_0_0_1_n_n none
      (extf .f32 a Cert.Reference5Ideal.Gen.bitsLt_bf16_f32) w)) = outS a w r := by
  funext J
  obtain ⟨i, j, rfl⟩ : ∃ i j, J = ix2 i j := ⟨_, _, eq_ix2 J⟩
  pointwise [outS]

end Cert.Kernel5Ideal.Out

end
-- ==== Proof.KvV.Loop.lean ====
/- The rows' loop of the key and value projection: what its trips write. -/
module

public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Kernel6Ideal.Kv

open Cert.Kernel6Ideal Cert.Kernel6Ideal.Gen
open Idealize.ShloMosaic Idealize.ShloMosaic.TcCoe Idealize.SL.Sem

variable (𝒱 : Variants) (c : Dev nD) (bd : Option 𝒱.V) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S1040x512 .f32) (harg6 : arg6.IsWhole) (arg7 : Memref sig .tc .vmem S1040x2048 .bf16) (harg7 : arg7.IsWhole)
  (h1 : k0_cond1 i = 1#1) (v21 : Vec Ideal S1x2048 .f32) (X : BufTy.Contents (Elt Ideal) arg2.view.ty)

theorem tripL_eq (k : Fin k0_t1_loop.trips) :
    tripL_k0_t1 (F := Ideal) 𝒱 c bd i arg2 harg2 arg3 harg3 arg4 harg4 arg5 harg5 arg6 harg6 arg7 harg7 h1 v21 X k
      = [⟨Rect.unit (s := S1040x2048) (k0_off1 k) S16x2048.size (k0_off1_inb i k h1),
          k0_pay1 v21 (arg2.view.readAt (Elt Ideal) (Rect.unit (s := S1040x2048) (k0_off1 k) S16x2048.size (k0_off1_inb i k h1)).toLoadRect X)⟩] := by
  unfold tripL_k0_t1 trip_k0_t1
  dsimp only

/-- Every piece written before trip `k` holds its rows' values. -/
theorem allAt_pb (y : S1040x2048.Idx) (v : Elt Ideal .bf16)
    (h : ∀ k : Fin k0_t1_loop.trips, View.RectAt (Val := Elt Ideal) (e := .bf16) y (Rect.unit (s := S1040x2048) (k0_off1 k) S16x2048.size (k0_off1_inb i k h1))
      (k0_pay1 v21 (arg2.view.readAt (Elt Ideal) (Rect.unit (s := S1040x2048) (k0_off1 k) S16x2048.size (k0_off1_inb i k h1)).toLoadRect X)) v) :
    ∀ n, n ≤ k0_t1_loop.trips → View.AllAt (pb_k0_t1 (F := Ideal) 𝒱 c bd i arg2 harg2 arg3 harg3 arg4 harg4 arg5 harg5 arg6 harg6 arg7 harg7 h1 v21 X n) y v
  | 0, _ => View.allAt_nil (Val := Elt Ideal) (e := .bf16) y v
  | n + 1, hn => by
    rw [pb_k0_t1_succ (F := Ideal) 𝒱 c bd i arg2 harg2 arg3 harg3 arg4 harg4 arg5 harg5 arg6 harg6 arg7 harg7 h1 v21 X ⟨n, hn⟩, tripL_eq]
    exact View.allAt_cons (Val := Elt Ideal) (e := .bf16) _ _ _ (h ⟨n, hn⟩) (allAt_pb y v h n (Nat.le_of_succ_le hn))

/-- A row over the root of its mean square, times the gain. -/
def rms (x g : Fin 2048 → EReal) (d : Fin 2048) : EReal :=
  x d * Ideal.rsqrt (Ideal.div (∑ k, x k * x k) (Ideal.ofBits .f32 0x45000000#32) + Ideal.ofBits .f32 0x358637BD#32) * g d

theorem pay1_apply (g : Vec Ideal S1x2048 .f32) (x : Vec Ideal S16x2048 .f32) (r : Fin 16) (d : Fin 2048) :
    k0_pay1 g x (ix2 r d) = rms (fun k => x (ix2 r k)) (fun k => g (ix2 0 k)) d := by
  pointwise [k0_pay1, rms]

theorem pay2_apply (x : Vec Ideal S1040x2048 .bf16) (w : Vec Ideal S2048x512 .f32) (r : Fin 1040) (d : Fin 512) :
    k0_pay2 x w (ix2 r d) = ∑ k, x (ix2 r k) * w (ix2 k d) := by
  pointwise [k0_pay2]

/-- The normalised rows of a block. -/
def blkN (x : Vec Ideal S1040x2048 .f32) (g : Vec Ideal S1x2048 .f32) : Vec Ideal S1040x2048 .bf16 :=
  fun y => rms (fun k => x (ix2 (y 0) k)) (fun k => g (ix2 0 k)) (y 1)

theorem off_eq : ∀ k : Fin k0_t1_loop.trips, k0_off1 k 0 = 16 * k.val ∧ k0_off1 k 1 = 0 := by decide +kernel

theorem rect_rows (x : Vec Ideal S1040x2048 .f32) (g : Vec Ideal S1x2048 .f32) (k : Fin k0_t1_loop.trips) (y : S1040x2048.Idx) :
    View.RectAt (Val := Elt Ideal) (e := .bf16) y (Rect.unit (s := S1040x2048) (k0_off1 k) S16x2048.size (k0_off1_inb i k h1))
      (k0_pay1 g (View.ld x (Rect.unit (s := S1040x2048) (k0_off1 k) S16x2048.size (k0_off1_inb i k h1)))) (blkN x g y) := by
  intro z hz
  obtain ⟨r, d, rfl⟩ : ∃ (r : Fin 16) (d : Fin 2048), z = ix2 r d := ⟨_, _, eq_ix2 z⟩
  obtain ⟨e0, e1⟩ := off_eq k
  rw [pay1_apply]
  have h0 : (y 0).val = k0_off1 k 0 + 1 * r.val := by rw [← hz]; rfl
  have hd : (y 1).val = k0_off1 k 1 + 1 * d.val := by rw [← hz]; rfl
  have hy1 : y 1 = d := Fin.ext (by omega)
  unfold blkN
  rw [hy1]
  refine congrArg (fun f => rms f _ d) (funext fun q => ?_)
  show x _ = x _
  refine congrArg x (funext fun a => Fin.ext ?_)
  match a with
  | ⟨0, _⟩ => show k0_off1 k 0 + 1 * r.val = (y 0).val; omega
  | ⟨1, _⟩ => show k0_off1 k 1 + 1 * q.val = q.val; omega

/-- A head's row over the root of its mean square, times the gain. -/
def rmsH (x g : Fin 128 → EReal) (d : Fin 128) : EReal :=
  x d * Ideal.rsqrt (Ideal.div (∑ k, x k * x k) (Ideal.ofBits .f32 0x43000000#32) + Ideal.ofBits .f32 0x358637BD#32) * g d

theorem pay5_apply (v : FVec Ideal S1040x512 .f32) (g : Vec Ideal S1x128 .f32) (r : Fin 1040) (d : Fin 128) :
    k0_pay5 v g (ix2 r d) = rmsH (fun q => v (ix2 r ⟨q.val, by omega⟩)) (fun q => g (ix2 0 q)) d := by
  pointwise [k0_pay5, rmsH]

theorem pay6_apply (v : FVec Ideal S1040x512 .f32) (g : Vec Ideal S1x128 .f32) (r : Fin 1040) (d : Fin 128) :
    k0_pay6 v g (ix2 r d) = rmsH (fun q => v (ix2 r ⟨128 + q.val, by omega⟩)) (fun q => g (ix2 0 q)) d := by
  pointwise [k0_pay6, rmsH]

theorem pay3_apply (v : FVec Ideal S1040x512 .f32) (g : Vec Ideal S1x128 .f32) (r : Fin 1040) (d : Fin 128) :
    k0_pay3 (k0_pay7 v) (k0_pay8 g) (k0_pay9 v) (ix2 r d) = rmsH (fun q => v (ix2 r ⟨256 + q.val, by omega⟩)) (fun q => g (ix2 0 q)) d := by
  pointwise [k0_pay3, k0_pay7, k0_pay8, k0_pay9, rmsH]

theorem pay4_apply (x : Vec Ideal S1040x2048 .bf16) (w : Vec Ideal S2048x512 .f32) (g : Vec Ideal S1x128 .f32) (r : Fin 1040) (d : Fin 128) :
    k0_pay4 x w g (ix2 r d) = rmsH (fun q => k0_pay2 x w (ix2 r ⟨384 + q.val, by omega⟩)) (fun q => g (ix2 0 q)) d := by
  unfold k0_pay4
  generalize k0_pay2 x w = v
  pointwise [rmsH]

/-- The column `q` of the head that holds column `j`. -/
def hcol (j : Fin 512) (q : Fin 128) : Fin 512 := ⟨j.val / 128 * 128 + q.val, by omega⟩

/-- A block with each head's rows normalised. -/
def blkH (v : FVec Ideal S1040x512 .f32) (g : Vec Ideal S1x128 .f32) : Vec Ideal S1040x512 .f32 :=
  fun y => rmsH (fun q => v (ix2 (y 0) (hcol (y 1) q))) (fun q => g (ix2 0 q)) ⟨(y 1).val % 128, Nat.mod_lt _ (by decide)⟩

/-- A piece of one head's columns holds the normalised block's values. -/
theorem rect_head (v : FVec Ideal S1040x512 .f32) (g : Vec Ideal S1x128 .f32) (o h : ℕ) (ho : o = h * 128) (inb : ∀ a, ![0, o] a + S1040x128.size a ≤ S1040x512.size a)
    (w : Vec Ideal S1040x128 .f32) (hlt : ∀ q : Fin 128, o + q.val < 512)
    (hw : ∀ (r : Fin 1040) (d : Fin 128), w (ix2 r d) = rmsH (fun q => v (ix2 r ⟨o + q.val, hlt q⟩)) (fun q => g (ix2 0 q)) d) (y : S1040x512.Idx) :
    View.RectAt (Val := Elt Ideal) (e := .f32) y (Rect.unit (s := S1040x512) ![0, o] S1040x128.size inb) w (blkH v g y) := by
  intro z hz
  obtain ⟨r, d, rfl⟩ : ∃ (r : Fin 1040) (d : Fin 128), z = ix2 r d := ⟨_, _, eq_ix2 z⟩
  have h0 : (y 0).val = 0 + 1 * r.val := by rw [← hz]; rfl
  have hd : (y 1).val = o + 1 * d.val := by rw [← hz]; rfl
  have hy0 : y 0 = r := Fin.ext (by omega)
  have hdl := d.isLt
  rw [hw]
  unfold blkH
  rw [hy0, show (⟨(y 1).val % 128, Nat.mod_lt _ (by decide)⟩ : Fin 128) = d from Fin.ext (by show (y 1).val % 128 = d.val; omega)]
  refine congrArg (fun f => rmsH f _ d) (funext fun q => congrArg (fun j => v (ix2 r j)) (Fin.ext ?_))
  show o + q.val = (y 1).val / 128 * 128 + q.val
  omega

end Cert.Kernel6Ideal.Kv

end
-- ==== Proof.KvV.Cases.lean ====
/- The key and value projection: what its body leaves, case by case. -/
module

public import proofs.«01_k».proof.Proof.KvV.Loop
public import Idealize.ShloMosaic.Lib.Pointwise
public import Idealize.ShloMosaic.Lib.Pipeline.ValueKit

@[expose] public section

set_option maxRecDepth 16384

noncomputable section

namespace Cert.Kernel6Ideal.Kv

open Cert.Kernel6Ideal Cert.Kernel6Ideal.Gen
open Idealize.ShloMosaic Idealize.ShloMosaic.TcCoe Idealize.SL.Sem

theorem hz : (![0, 0] : Fin 2 → ℕ) = fun _ => 0 := by funext a; match a with | ⟨0, _⟩ => rfl | ⟨1, _⟩ => rfl

theorem heads_allAt (x x' : Vec Ideal S1040x2048 .bf16) (hx : x = x') (w : Vec Ideal S2048x512 .f32) (g : Vec Ideal S1x128 .f32) (y : S1040x512.Idx) :
    View.AllAt (Val := Elt Ideal) (e := .f32)
      [⟨Rect.unit (s := S1040x512) ![0, 384] S1040x128.size inb_S1040x512_S1040x128_0_384, k0_pay4 x w g⟩,
       ⟨Rect.unit (s := S1040x512) ![0, 256] S1040x128.size inb_S1040x512_S1040x128_0_256, k0_pay3 (k0_pay7 (k0_pay2 x w)) (k0_pay8 g) (k0_pay9 (k0_pay2 x w))⟩,
       ⟨Rect.unit (s := S1040x512) ![0, 128] S1040x128.size inb_S1040x512_S1040x128_0_128, k0_pay6 (k0_pay2 x w) g⟩,
       ⟨Rect.unit (s := S1040x512) ![0, 0] S1040x128.size inb_S1040x512_S1040x128_0_0, k0_pay5 (k0_pay2 x w) g⟩] y (blkH (k0_pay2 x' w) g y) := by
  subst hx
  exact View.allAt_cons (Val := Elt Ideal) (e := .f32) _ _ _ (rect_head _ _ 384 3 rfl _ _ (fun q => by omega) (pay4_apply x w g) y)
    (View.allAt_cons (Val := Elt Ideal) (e := .f32) _ _ _ (rect_head _ _ 256 2 rfl _ _ (fun q => by omega) (pay3_apply (k0_pay2 x w) g) y)
      (View.allAt_cons (Val := Elt Ideal) (e := .f32) _ _ _ (rect_head _ _ 128 1 rfl _ _ (fun q => by omega) (pay6_apply (k0_pay2 x w) g) y)
        (View.allAt_cons (Val := Elt Ideal) (e := .f32) _ _ _ (rect_head _ _ 0 0 rfl _ _ (fun q => by omega)
            (fun r d => (pay5_apply (k0_pay2 x w) g r d).trans (congrArg (fun f => rmsH f _ d) (funext fun q => congrArg (fun j => k0_pay2 x w (ix2 r j)) (Fin.ext (Nat.zero_add _).symm)))) y)
          (View.allAt_nil (Val := Elt Ideal) (e := .f32) y _))))

variable (c : Dev nD) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S1040x512 .f32) (harg6 : arg6.IsWhole) (arg7 : Memref sig .tc .vmem S1040x2048 .bf16) (harg7 : arg7.IsWhole)
  (x0 : Vec Ideal S1040x2048 .f32) (x1 : Vec Ideal S1x2048 .f32) (x2 : Vec Ideal S2048x512 .f32) (x3 : Vec Ideal S1x128 .f32) (xs0 : Vec Ideal S1040x2048 .bf16)

theorem out_B (hc0 : ¬cond0_0 i) (hc1 : ¬cond0_1 i) (hc2 : cond0_2 i) : out0_B_4 c i arg2 harg2 arg3 harg3 arg4 harg4 arg5 harg5 arg6 harg6 arg7 harg7 hc0 hc1 hc2 x0 x1 x2 x3 xs0 = k0_pay2 xs0 x2 := by
  unfold out0_B_4
  rw [View.read_writes_eq_canon _ _ _ (cover0_B_4 c i arg2 harg2 arg3 harg3 arg4 harg4 arg5 harg5 arg6 harg6 arg7 harg7 hc0 hc1 hc2 x0 x1 x2 x3 xs0)]
  unfold kernelRun0_B
  dsimp only
  sl_unfold_words
  rw [View.canon_unit_zero hz]
  simp only [View.readAt_eq_ld, harg4.read_unread, harg7.read_unread, View.ld_unit_zero (S := S1040x2048) hz, View.ld_unit_zero (S := S2048x512) hz]

theorem sout_A (hc0 : cond0_0 i) (hc1 : cond0_1 i) (hc2 : ¬cond0_2 i) : sout0_A_0 c i arg2 harg2 arg3 harg3 arg4 harg4 arg5 harg5 arg6 harg6 arg7 harg7 hc0 hc1 hc2 x0 x1 x2 x3 = blkN x0 x1 := by
  have hc := scover0_A_0 c i arg2 harg2 arg3 harg3 arg4 harg4 arg5 harg5 arg6 harg6 arg7 harg7 hc0 hc1 hc2 x0 x1 x2 x3
  unfold sout0_A_0
  rw [View.read_writes_eq_canon _ _ _ hc]
  funext y
  refine View.canon_eq_of_allAt _ y _ (hc y) ?_
  unfold kernelRun0_A
  dsimp only
  sl_unfold_words
  refine allAt_pb _ _ _ _ _ _ _ _ _ _ _ _ _ _ _ _ _ _ _ y _ (fun k => ?_) _ le_rfl
  simp only [View.readAt_eq_ld, harg2.read_unread, harg3.read_unread, View.ld_unit_zero (S := S1x2048) hz]
  exact rect_rows i hc0 x0 x1 k y

theorem out_A (hc0 : cond0_0 i) (hc1 : cond0_1 i) (hc2 : ¬cond0_2 i) : out0_A_4 c i arg2 harg2 arg3 harg3 arg4 harg4 arg5 harg5 arg6 harg6 arg7 harg7 hc0 hc1 hc2 x0 x1 x2 x3 = blkH (k0_pay2 (blkN x0 x1) x2) x3 := by
  have hs := sout_A c i arg2 harg2 arg3 harg3 arg4 harg4 arg5 harg5 arg6 harg6 arg7 harg7 x0 x1 x2 x3 hc0 hc1 hc2
  have hc := scover0_A_0 c i arg2 harg2 arg3 harg3 arg4 harg4 arg5 harg5 arg6 harg6 arg7 harg7 hc0 hc1 hc2 x0 x1 x2 x3
  have ho := cover0_A_4 c i arg2 harg2 arg3 harg3 arg4 harg4 arg5 harg5 arg6 harg6 arg7 harg7 hc0 hc1 hc2 x0 x1 x2 x3
  unfold sout0_A_0 at hs
  rw [View.read_writes_eq_canon _ _ _ hc] at hs
  unfold out0_A_4
  rw [View.read_writes_eq_canon _ _ _ ho]
  funext y
  refine View.canon_eq_of_allAt _ y _ (ho y) ?_
  unfold kernelRun0_A at hs ⊢
  dsimp only at hs ⊢
  sl_unfold_words
  rw [View.readCov_eq_canon', hs]
  simp only [View.readAt_eq_ld, harg4.read_unread, harg5.read_unread, View.ld_unit_zero (S := S1x128) hz, View.ld_unit_zero (S := S2048x512) hz]
  exact heads_allAt _ (blkN x0 x1) (View.ld_unit_zero (S := S1040x2048) hz _ _) x2 x3 y

end Cert.Kernel6Ideal.Kv

end
-- ==== Proof.KvV.Value.lean ====
/- The key and value projection: the kernel's result array, and the reference's, at the ideal values. -/
module

public import proofs.«01_k».proof.Proof.KvV.Cases
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Kernel6Ideal.Kv

open Cert.Kernel6Ideal Cert.Kernel6Ideal.Gen
open Idealize.ShloMosaic Idealize.ShloMosaic.TcCoe Idealize.SL.Sem

/-- The product of the normalised rows. -/
def prodS (x : (⟨2, ![8320, 2048]⟩ : Shape).Idx → EReal) (g : (⟨1, ![2048]⟩ : Shape).Idx → EReal) (w : (⟨2, ![2048, 1024]⟩ : Shape).Idx → EReal) :
    (⟨2, ![8320, 1024]⟩ : Shape).Idx → EReal :=
  fun J => ∑ k : Fin 2048, rms (fun q => x (ix2 (J 0) q)) (fun q => g (ix1 q)) k * w (ix2 k (J 1))

/-- The column `q` of the head that holds column `j`. -/
def hcolN (j : Fin 1024) (q : Fin 128) : Fin 1024 := ⟨j.val / 128 * 128 + q.val, by omega⟩

/-- The product with each key head's row normalised, and the values as they are. -/
def kvS (x : (⟨2, ![8320, 2048]⟩ : Shape).Idx → EReal) (g : (⟨1, ![2048]⟩ : Shape).Idx → EReal) (w : (⟨2, ![2048, 1024]⟩ : Shape).Idx → EReal) (kg : (⟨1, ![128]⟩ : Shape).Idx → EReal) :
    (⟨2, ![8320, 1024]⟩ : Shape).Idx → EReal :=
  fun J => if (J 1).val < 512 then rmsH (fun q => prodS x g w (ix2 (J 0) (hcolN (J 1) q))) (fun q => kg (ix1 q)) ⟨(J 1).val % 128, Nat.mod_lt _ (by decide)⟩ else prodS x g w J

theorem idx0 : ∀ t : Fin cfg0.N, win0_0.index t (0 : Fin 2) = t.val / 2 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 2 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val / 2 ∧ win0_4.index t (1 : Fin 2) = t.val % 2 := (by decide +kernel : ∀ t : Fin grid0.N, _)

variable (m : (ℓ : Loc nD τ sig) → Buf (Elt Ideal) ℓ) (c : Dev nD) (t : Fin cfg0.N)

/-- The arguments. -/
abbrev argX : (⟨2, ![8320, 2048]⟩ : Shape).Idx → EReal := m ((c : Thread nD τ).loc main_arg0)
abbrev argG : (⟨1, ![2048]⟩ : Shape).Idx → EReal := m ((c : Thread nD τ).loc main_arg1)
abbrev argW : (⟨2, ![2048, 1024]⟩ : Shape).Idx → EReal := m ((c : Thread nD τ).loc main_arg2)
abbrev argK : (⟨1, ![128]⟩ : Shape).Idx → EReal := m ((c : Thread nD τ).loc main_arg3)

theorem blk0 (i : Fin 1040) (k : Fin 2048) (I : Fin 8320) (hI : I.val = t.val / 2 * 1040 + i.val) :
    iblk m c 0 t (ix2 i k) = argX m c (ix2 I k) := by
  show V m c main_arg0 (((cfg0.win 0).blk t).view.emb _) = _
  rw [V_main_arg0]
  refine congrArg (argX m c) ?_
  funext a
  apply Fin.ext
  obtain ⟨e0, e1⟩ := idx0 t
  match a with
  | ⟨0, _⟩ => show win0_0.index t (0 : Fin 2) * 1040 + 1 * i.val = I.val; omega
  | ⟨1, _⟩ => show win0_0.index t (1 : Fin 2) * 2048 + 1 * k.val = k.val; omega

/-- The gain's window is the argument as one row. -/
theorem gain : (V m c main_v0 : Vec Ideal S1x2048 .f32) = shapeCast S1x2048 (argG m c : Vec Ideal S2048 .f32) shapeCasts_S2048_S1x2048 := by
  show StableHlo.after hostOps0 _ (Proc.devRef .tc main_v0) = _
  after_results
  rfl

theorem blk1 (k : Fin 2048) : iblk m c 1 t (ix2 0 k) = argG m c (ix1 k) := by
  have e : (iblk m c 1 t : Vec Ideal S1x2048 .f32) (ix2 0 k) = V m c main_v0 (ix2 0 k) := by
    show V m c main_v0 (((cfg0.win 1).blk t).view.emb _) = _
    refine congrArg (V m c main_v0) ?_
    funext a
    apply Fin.ext
    obtain ⟨e0, e1⟩ := idx1 t
    match a with
    | ⟨0, _⟩ => show win0_1.index t (0 : Fin 2) * 1 + 1 * 0 = 0; omega
    | ⟨1, _⟩ => show win0_1.index t (1 : Fin 2) * 2048 + 1 * k.val = k.val; omega
  refine e.trans ((congrFun (gain m c) (ix2 0 k)).trans ?_)
  pointwise []

theorem blk2 (k : Fin 2048) (j : Fin 512) (J : Fin 1024) (hJ : J.val = t.val % 2 * 512 + j.val) :
    iblk m c 2 t (ix2 k j) = argW m c (ix2 k J) := by
  show V m c main_arg2 (((cfg0.win 2).blk t).view.emb _) = _
  rw [V_main_arg2]
  refine congrArg (argW m c) ?_
  funext a
  apply Fin.ext
  obtain ⟨e0, e1⟩ := idx2 t
  match a with
  | ⟨0, _⟩ => show win0_2.index t (0 : Fin 2) * 2048 + 1 * k.val = k.val; omega
  | ⟨1, _⟩ => show win0_2.index t (1 : Fin 2) * 512 + 1 * j.val = J.val; omega

/-- The head gain's window is the argument as one row. -/
theorem hgain : (V m c main_v1 : Vec Ideal S1x128 .f32) = shapeCast S1x128 (argK m c : Vec Ideal S128 .f32) shapeCasts_S128_S1x128 := by
  show StableHlo.after hostOps0 _ (Proc.devRef .tc main_v1) = _
  after_results
  rfl

theorem blk3 (k : Fin 128) : iblk m c 3 t (ix2 0 k) = argK m c (ix1 k) := by
  have e : (iblk m c 3 t : Vec Ideal S1x128 .f32) (ix2 0 k) = V m c main_v1 (ix2 0 k) := by
    show V m c main_v1 (((cfg0.win 3).blk t).view.emb _) = _
    refine congrArg (V m c main_v1) ?_
    funext a
    apply Fin.ext
    obtain ⟨e0, e1⟩ := idx3 t
    match a with
    | ⟨0, _⟩ => show win0_3.index t (0 : Fin 2) * 1 + 1 * 0 = 0; omega
    | ⟨1, _⟩ => show win0_3.index t (1 : Fin 2) * 128 + 1 * k.val = k.val; omega
  refine e.trans ((congrFun (hgain m c) (ix2 0 k)).trans ?_)
  pointwise []

/-- The scratch after a point holds the normalised rows of the point's row block. -/
theorem scratch_apply (r : Fin 1040) (d : Fin 2048) (I : Fin 8320) : ∀ (n : ℕ) (hn : n < cfg0.N), I.val = n / 2 * 1040 + r.val →
    (outsAt0 m c n hn).2 (ix2 r d) = rms (fun q => argX m c (ix2 I q)) (fun q => argG m c (ix1 q)) d := by
  intro n
  induction n with
  | zero =>
    intro hn hI
    rw [show outsAt0 m c 0 hn = _ from outsAt0_A m c ⟨0, hn⟩ (Nat.zero_mod _) (Nat.zero_mod _) (fun h => by simp at h), sout_A]
    show rms (fun k => iblk m c 0 ⟨0, hn⟩ (ix2 r k)) (fun k => iblk m c 1 ⟨0, hn⟩ (ix2 0 k)) d = _
    rw [funext fun k => blk0 m c ⟨0, hn⟩ r k I hI, funext fun k => blk1 m c ⟨0, hn⟩ k]
  | succ n ih =>
    intro hn hI
    by_cases h : (n + 1) % 2 = 0
    · rw [show outsAt0 m c (n + 1) hn = _ from outsAt0_A m c ⟨n + 1, hn⟩ h h (fun h' => by dsimp only at h'; omega), sout_A]
      show rms (fun k => iblk m c 0 ⟨n + 1, hn⟩ (ix2 r k)) (fun k => iblk m c 1 ⟨n + 1, hn⟩ (ix2 0 k)) d = _
      rw [funext fun k => blk0 m c ⟨n + 1, hn⟩ r k I hI, funext fun k => blk1 m c ⟨n + 1, hn⟩ k]
    · rw [show outsAt0 m c (n + 1) hn = _ from outsAt0_B m c ⟨n + 1, hn⟩ h h (by dsimp only; omega)]
      exact ih (Nat.lt_of_succ_lt hn) (by omega)

theorem prod_apply (i : Fin 1040) (j : Fin 512) (I : Fin 8320) (J : Fin 1024) (hI : I.val = t.val / 2 * 1040 + i.val) (hJ : J.val = t.val % 2 * 512 + j.val) :
    k0_pay2 (outsAt0 m c t.val t.isLt).2 (iblk m c 2 t) (ix2 i j) = prodS (argX m c) (argG m c) (argW m c) (ix2 I J) := by
  rw [pay2_apply]
  show _ = ∑ k : Fin 2048, rms (fun q => argX m c (ix2 I q)) (fun q => argG m c (ix1 q)) k * argW m c (ix2 k J)
  refine Finset.sum_congr rfl fun k _ => ?_
  rw [scratch_apply m c i k I t.val t.isLt hI, blk2 m c t k j J hJ]

/-- A normalised block at a place is the normalised product there. -/
theorem head_apply (i : Fin 1040) (j : Fin 512) (I : Fin 8320) (J : Fin 1024) (hI : I.val = t.val / 2 * 1040 + i.val) (hJ : J.val = t.val % 2 * 512 + j.val) :
    blkH (k0_pay2 (outsAt0 m c t.val t.isLt).2 (iblk m c 2 t)) (iblk m c 3 t) (ix2 i j)
      = rmsH (fun q => prodS (argX m c) (argG m c) (argW m c) (ix2 I (hcolN J q))) (fun q => argK m c (ix1 q)) ⟨J.val % 128, Nat.mod_lt _ (by decide)⟩ := by
  show rmsH (fun q => k0_pay2 (outsAt0 m c t.val t.isLt).2 (iblk m c 2 t) (ix2 i (hcol j q))) (fun q => iblk m c 3 t (ix2 0 q)) ⟨j.val % 128, _⟩ = _
  rw [funext fun q => prod_apply m c t i (hcol j q) I (hcolN J q) hI (by show J.val / 128 * 128 + q.val = t.val % 2 * 512 + (j.val / 128 * 128 + q.val); omega),
    funext fun q => blk3 m c t q]
  exact congrArg _ (Fin.ext (by show j.val % 128 = J.val % 128; omega))

theorem block_apply (i : Fin 1040) (j : Fin 512) (I : Fin 8320) (J : Fin 1024) (hI : I.val = t.val / 2 * 1040 + i.val) (hJ : J.val = t.val % 2 * 512 + j.val) :
    (outsAt0 m c t.val t.isLt).1 (ix2 i j) = kvS (argX m c) (argG m c) (argW m c) (argK m c) (ix2 I J) := by
  have hj := j.isLt
  show _ = if J.val < 512 then rmsH (fun q => prodS (argX m c) (argG m c) (argW m c) (ix2 I (hcolN J q))) (fun q => argK m c (ix1 q)) ⟨J.val % 128, _⟩ else prodS (argX m c) (argG m c) (argW m c) (ix2 I J)
  by_cases h : t.val % 2 = 0
  · rw [if_pos (by omega), ← head_apply m c t i j I J hI hJ, outsAt0_A m c t h h (by omega), out_A, sout_A]
  · rw [if_neg (by omega), ← prod_apply m c t i j I J hI hJ, outsAt0_B m c t h h (by omega), out_B]
    rfl

/-- The result array after the run. -/
theorem final4 : (dats m 0 c).arrAt 4 cfg0.N = kvS (argX m c) (argG m c) (argW m c) (argK m c) := by
  refine (dats m 0 c).arrAt_eq_of_covers 4 _ (by decide +kernel) fun t hf y => ?_
  rw [after0_4]
  obtain ⟨e0, e1⟩ := idx4 t
  have hy0 : (y 0).val < 1040 := (y 0).isLt
  have hy1 : (y 1).val < 512 := (y 1).isLt
  have ht : t.val < 16 := lt_of_lt_of_eq t.isLt (show cfg0.N = 16 from N_0)
  have e3 : ((cfg0.win 4).blk t).view.emb y = ix2 ⟨t.val / 2 * 1040 + (y 0).val, by omega⟩ ⟨t.val % 2 * 512 + (y 1).val, by omega⟩ := by
    funext a
    apply Fin.ext
    match a with
    | ⟨0, _⟩ => show win0_4.index t (0 : Fin 2) * 1040 + 1 * (y 0).val = t.val / 2 * 1040 + (y 0).val; omega
    | ⟨1, _⟩ => show win0_4.index t (1 : Fin 2) * 512 + 1 * (y 1).val = t.val % 2 * 512 + (y 1).val; omega
  have e4 : ((cfg0.win 4).xinj (cfg0.grid.coords t) y : S1040x512.Idx) = ix2 ⟨(y 0).val, hy0⟩ ⟨(y 1).val, hy1⟩ := by
    funext a
    match a with
    | ⟨0, _⟩ => rfl
    | ⟨1, _⟩ => rfl
  show (outsAt0 m c t.val t.isLt).1 ((cfg0.win 4).xinj (cfg0.grid.coords t) y) = _
  rw [e3, e4]
  exact block_apply m c t _ _ _ _ rfl rfl

/-- The kernel's run with its result as a function of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v2) = kvS (argX m c) (argG m c) (argW m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1).trans (final4 m c), (h c).2⟩) (Value.run_blocks m ρ)

end Cert.Kernel6Ideal.Kv

namespace Cert.Reference6Ideal.Kv

open Cert.Reference6Ideal Cert.Reference6Ideal.Gen
open Idealize.ShloMosaic Idealize.ShloMosaic.TcCoe Idealize.SL.Sem
open Cert.Kernel6Ideal.Kv (kvS prodS rms rmsH hcolN)

/-- The reference's result is the same function of the arguments. -/
theorem res_eq (m : (ℓ : Loc nD τ sig) → Buf (Elt Ideal) ℓ) (c : Dev nD) :
    Value.res_out0 m c = kvS (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v31
  generalize (m ((c.tc : Thread nD τ).loc main_arg0) : FVec Ideal S8320x2048 .f32) = x
  generalize (m ((c.tc : Thread nD τ).loc main_arg1) : FVec Ideal S2048 .f32) = g
  generalize (m ((c.tc : Thread nD τ).loc main_arg2) : FVec Ideal S2048x1024 .f32) = w
  generalize (m ((c.tc : Thread nD τ).loc main_arg3) : FVec Ideal S128 .f32) = kg
  funext J
  obtain ⟨I, J, rfl⟩ : ∃ (I : Fin 8320) (j : Fin 1024), J = ix2 I j := ⟨_, _, eq_ix2 J⟩
  pointwise [kvS, prodS, rms, rmsH, hcolN]
  by_cases h : J.val < 512
  · rw [dif_pos h, if_pos h]
  · rw [dif_neg h, if_neg h]
    exact congrArg (fun j => ∑ k : Fin 2048, rms (fun q => x (ix2 I q)) (fun q => g (ix1 q)) k * (w (ix2 k j) : EReal)) (Fin.ext (show 512 + (J.val - 512) = J.val by omega))

end Cert.Reference6Ideal.Kv

end
-- ==== Proof.QV.Loop.lean ====
/- The rows' loop of the query projection: what its trips write. -/
module

public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.Kernel7Ideal.Qp

open Cert.Kernel7Ideal Cert.Kernel7Ideal.Gen
open Idealize.ShloMosaic Idealize.ShloMosaic.TcCoe Idealize.SL.Sem

variable (𝒱 : Variants) (c : Dev nD) (bd : Option 𝒱.V) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S1040x512 .f32) (harg6 : arg6.IsWhole) (arg7 : Memref sig .tc .vmem S1040x2048 .bf16) (harg7 : arg7.IsWhole)
  (h1 : k0_cond1 i = 1#1) (v21 : Vec Ideal S1x2048 .f32) (X : BufTy.Contents (Elt Ideal) arg2.view.ty)

theorem tripL_eq (k : Fin k0_t1_loop.trips) :
    tripL_k0_t1 (F := Ideal) 𝒱 c bd i arg2 harg2 arg3 harg3 arg4 harg4 arg5 harg5 arg6 harg6 arg7 harg7 h1 v21 X k
      = [⟨Rect.unit (s := S1040x2048) (k0_off1 k) S16x2048.size (k0_off1_inb i k h1),
          k0_pay1 v21 (arg2.view.readAt (Elt Ideal) (Rect.unit (s := S1040x2048) (k0_off1 k) S16x2048.size (k0_off1_inb i k h1)).toLoadRect X)⟩] := by
  unfold tripL_k0_t1 trip_k0_t1
  dsimp only

/-- Every piece written before trip `k` holds its rows' values. -/
theorem allAt_pb (y : S1040x2048.Idx) (v : Elt Ideal .bf16)
    (h : ∀ k : Fin k0_t1_loop.trips, View.RectAt (Val := Elt Ideal) (e := .bf16) y (Rect.unit (s := S1040x2048) (k0_off1 k) S16x2048.size (k0_off1_inb i k h1))
      (k0_pay1 v21 (arg2.view.readAt (Elt Ideal) (Rect.unit (s := S1040x2048) (k0_off1 k) S16x2048.size (k0_off1_inb i k h1)).toLoadRect X)) v) :
    ∀ n, n ≤ k0_t1_loop.trips → View.AllAt (pb_k0_t1 (F := Ideal) 𝒱 c bd i arg2 harg2 arg3 harg3 arg4 harg4 arg5 harg5 arg6 harg6 arg7 harg7 h1 v21 X n) y v
  | 0, _ => View.allAt_nil (Val := Elt Ideal) (e := .bf16) y v
  | n + 1, hn => by
    rw [pb_k0_t1_succ (F := Ideal) 𝒱 c bd i arg2 harg2 arg3 harg3 arg4 harg4 arg5 harg5 arg6 harg6 arg7 harg7 h1 v21 X ⟨n, hn⟩, tripL_eq]
    exact View.allAt_cons (Val := Elt Ideal) (e := .bf16) _ _ _ (h ⟨n, hn⟩) (allAt_pb y v h n (Nat.le_of_succ_le hn))

/-- A row over the root of its mean square, times the gain. -/
def rms (x g : Fin 2048 → EReal) (d : Fin 2048) : EReal :=
  x d * Ideal.rsqrt (Ideal.div (∑ k, x k * x k) (Ideal.ofBits .f32 0x45000000#32) + Ideal.ofBits .f32 0x358637BD#32) * g d

theorem pay1_apply (g : Vec Ideal S1x2048 .f32) (x : Vec Ideal S16x2048 .f32) (r : Fin 16) (d : Fin 2048) :
    k0_pay1 g x (ix2 r d) = rms (fun k => x (ix2 r k)) (fun k => g (ix2 0 k)) d := by
  pointwise [k0_pay1, rms]

theorem pay2_apply (x : Vec Ideal S1040x2048 .bf16) (w : Vec Ideal S2048x512 .f32) (r : Fin 1040) (d : Fin 512) :
    k0_pay2 x w (ix2 r d) = ∑ k, x (ix2 r k) * w (ix2 k d) := by
  pointwise [k0_pay2]

/-- The normalised rows of a block. -/
def blkN (x : Vec Ideal S1040x2048 .f32) (g : Vec Ideal S1x2048 .f32) : Vec Ideal S1040x2048 .bf16 :=
  fun y => rms (fun k => x (ix2 (y 0) k)) (fun k => g (ix2 0 k)) (y 1)

theorem off_eq : ∀ k : Fin k0_t1_loop.trips, k0_off1 k 0 = 16 * k.val ∧ k0_off1 k 1 = 0 := by decide +kernel

theorem rect_rows (x : Vec Ideal S1040x2048 .f32) (g : Vec Ideal S1x2048 .f32) (k : Fin k0_t1_loop.trips) (y : S1040x2048.Idx) :
    View.RectAt (Val := Elt Ideal) (e := .bf16) y (Rect.unit (s := S1040x2048) (k0_off1 k) S16x2048.size (k0_off1_inb i k h1))
      (k0_pay1 g (View.ld x (Rect.unit (s := S1040x2048) (k0_off1 k) S16x2048.size (k0_off1_inb i k h1)))) (blkN x g y) := by
  intro z hz
  obtain ⟨r, d, rfl⟩ : ∃ (r : Fin 16) (d : Fin 2048), z = ix2 r d := ⟨_, _, eq_ix2 z⟩
  obtain ⟨e0, e1⟩ := off_eq k
  rw [pay1_apply]
  have h0 : (y 0).val = k0_off1 k 0 + 1 * r.val := by rw [← hz]; rfl
  have hd : (y 1).val = k0_off1 k 1 + 1 * d.val := by rw [← hz]; rfl
  have hy1 : y 1 = d := Fin.ext (by omega)
  unfold blkN
  rw [hy1]
  refine congrArg (fun f => rms f _ d) (funext fun q => ?_)
  show x _ = x _
  refine congrArg x (funext fun a => Fin.ext ?_)
  match a with
  | ⟨0, _⟩ => show k0_off1 k 0 + 1 * r.val = (y 0).val; omega
  | ⟨1, _⟩ => show k0_off1 k 1 + 1 * q.val = q.val; omega

/-- A head's row over the root of its mean square, times the gain. -/
def rmsH (x g : Fin 128 → EReal) (d : Fin 128) : EReal :=
  x d * Ideal.rsqrt (Ideal.div (∑ k, x k * x k) (Ideal.ofBits .f32 0x43000000#32) + Ideal.ofBits .f32 0x358637BD#32) * g d

theorem pay5_apply (v : FVec Ideal S1040x512 .f32) (g : Vec Ideal S1x128 .f32) (r : Fin 1040) (d : Fin 128) :
    k0_pay5 v g (ix2 r d) = rmsH (fun q => v (ix2 r ⟨q.val, by omega⟩)) (fun q => g (ix2 0 q)) d := by
  pointwise [k0_pay5, rmsH]

theorem pay6_apply (v : FVec Ideal S1040x512 .f32) (g : Vec Ideal S1x128 .f32) (r : Fin 1040) (d : Fin 128) :
    k0_pay6 v g (ix2 r d) = rmsH (fun q => v (ix2 r ⟨128 + q.val, by omega⟩)) (fun q => g (ix2 0 q)) d := by
  pointwise [k0_pay6, rmsH]

theorem pay3_apply (v : FVec Ideal S1040x512 .f32) (g : Vec Ideal S1x128 .f32) (r : Fin 1040) (d : Fin 128) :
    k0_pay3 (k0_pay7 v) (k0_pay8 g) (k0_pay9 v) (ix2 r d) = rmsH (fun q => v (ix2 r ⟨256 + q.val, by omega⟩)) (fun q => g (ix2 0 q)) d := by
  pointwise [k0_pay3, k0_pay7, k0_pay8, k0_pay9, rmsH]

theorem pay4_apply (x : Vec Ideal S1040x2048 .bf16) (w : Vec Ideal S2048x512 .f32) (g : Vec Ideal S1x128 .f32) (r : Fin 1040) (d : Fin 128) :
    k0_pay4 x w g (ix2 r d) = rmsH (fun q => k0_pay2 x w (ix2 r ⟨384 + q.val, by omega⟩)) (fun q => g (ix2 0 q)) d := by
  unfold k0_pay4
  generalize k0_pay2 x w = v
  pointwise [rmsH]

/-- The column `q` of the head that holds column `j`. -/
def hcol (j : Fin 512) (q : Fin 128) : Fin 512 := ⟨j.val / 128 * 128 + q.val, by omega⟩

/-- A block with each head's rows normalised. -/
def blkH (v : FVec Ideal S1040x512 .f32) (g : Vec Ideal S1x128 .f32) : Vec Ideal S1040x512 .f32 :=
  fun y => rmsH (fun q => v (ix2 (y 0) (hcol (y 1) q))) (fun q => g (ix2 0 q)) ⟨(y 1).val % 128, Nat.mod_lt _ (by decide)⟩

/-- A piece of one head's columns holds the normalised block's values. -/
theorem rect_head (v : FVec Ideal S1040x512 .f32) (g : Vec Ideal S1x128 .f32) (o h : ℕ) (ho : o = h * 128) (inb : ∀ a, ![0, o] a + S1040x128.size a ≤ S1040x512.size a)
    (w : Vec Ideal S1040x128 .f32) (hlt : ∀ q : Fin 128, o + q.val < 512)
    (hw : ∀ (r : Fin 1040) (d : Fin 128), w (ix2 r d) = rmsH (fun q => v (ix2 r ⟨o + q.val, hlt q⟩)) (fun q => g (ix2 0 q)) d) (y : S1040x512.Idx) :
    View.RectAt (Val := Elt Ideal) (e := .f32) y (Rect.unit (s := S1040x512) ![0, o] S1040x128.size inb) w (blkH v g y) := by
  intro z hz
  obtain ⟨r, d, rfl⟩ : ∃ (r : Fin 1040) (d : Fin 128), z = ix2 r d := ⟨_, _, eq_ix2 z⟩
  have h0 : (y 0).val = 0 + 1 * r.val := by rw [← hz]; rfl
  have hd : (y 1).val = o + 1 * d.val := by rw [← hz]; rfl
  have hy0 : y 0 = r := Fin.ext (by omega)
  have hdl := d.isLt
  rw [hw]
  unfold blkH
  rw [hy0, show (⟨(y 1).val % 128, Nat.mod_lt _ (by decide)⟩ : Fin 128) = d from Fin.ext (by show (y 1).val % 128 = d.val; omega)]
  refine congrArg (fun f => rmsH f _ d) (funext fun q => congrArg (fun j => v (ix2 r j)) (Fin.ext ?_))
  show o + q.val = (y 1).val / 128 * 128 + q.val
  omega

end Cert.Kernel7Ideal.Qp

end
-- ==== Proof.QV.Cases.lean ====
/- The query projection: what its body leaves, case by case. -/
module

public import proofs.«01_k».proof.Proof.QV.Loop
public import Idealize.ShloMosaic.Lib.Pointwise
public import Idealize.ShloMosaic.Lib.Pipeline.ValueKit

@[expose] public section

set_option maxRecDepth 16384

noncomputable section

namespace Cert.Kernel7Ideal.Qp

open Cert.Kernel7Ideal Cert.Kernel7Ideal.Gen
open Idealize.ShloMosaic Idealize.ShloMosaic.TcCoe Idealize.SL.Sem

theorem hz : (![0, 0] : Fin 2 → ℕ) = fun _ => 0 := by funext a; match a with | ⟨0, _⟩ => rfl | ⟨1, _⟩ => rfl

theorem heads_allAt (x x' : Vec Ideal S1040x2048 .bf16) (hx : x = x') (w : Vec Ideal S2048x512 .f32) (g : Vec Ideal S1x128 .f32) (y : S1040x512.Idx) :
    View.AllAt (Val := Elt Ideal) (e := .f32)
      [⟨Rect.unit (s := S1040x512) ![0, 384] S1040x128.size inb_S1040x512_S1040x128_0_384, k0_pay4 x w g⟩,
       ⟨Rect.unit (s := S1040x512) ![0, 256] S1040x128.size inb_S1040x512_S1040x128_0_256, k0_pay3 (k0_pay7 (k0_pay2 x w)) (k0_pay8 g) (k0_pay9 (k0_pay2 x w))⟩,
       ⟨Rect.unit (s := S1040x512) ![0, 128] S1040x128.size inb_S1040x512_S1040x128_0_128, k0_pay6 (k0_pay2 x w) g⟩,
       ⟨Rect.unit (s := S1040x512) ![0, 0] S1040x128.size inb_S1040x512_S1040x128_0_0, k0_pay5 (k0_pay2 x w) g⟩] y (blkH (k0_pay2 x' w) g y) := by
  subst hx
  exact View.allAt_cons (Val := Elt Ideal) (e := .f32) _ _ _ (rect_head _ _ 384 3 rfl _ _ (fun q => by omega) (pay4_apply x w g) y)
    (View.allAt_cons (Val := Elt Ideal) (e := .f32) _ _ _ (rect_head _ _ 256 2 rfl _ _ (fun q => by omega) (pay3_apply (k0_pay2 x w) g) y)
      (View.allAt_cons (Val := Elt Ideal) (e := .f32) _ _ _ (rect_head _ _ 128 1 rfl _ _ (fun q => by omega) (pay6_apply (k0_pay2 x w) g) y)
        (View.allAt_cons (Val := Elt Ideal) (e := .f32) _ _ _ (rect_head _ _ 0 0 rfl _ _ (fun q => by omega)
            (fun r d => (pay5_apply (k0_pay2 x w) g r d).trans (congrArg (fun f => rmsH f _ d) (funext fun q => congrArg (fun j => k0_pay2 x w (ix2 r j)) (Fin.ext (Nat.zero_add _).symm)))) y)
          (View.allAt_nil (Val := Elt Ideal) (e := .f32) y _))))

variable (c : Dev nD) (i : grid0.Coords) (arg2 : Memref sig .tc .vmem S1040x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S1040x512 .f32) (harg6 : arg6.IsWhole) (arg7 : Memref sig .tc .vmem S1040x2048 .bf16) (harg7 : arg7.IsWhole)
  (x0 : Vec Ideal S1040x2048 .f32) (x1 : Vec Ideal S1x2048 .f32) (x2 : Vec Ideal S2048x512 .f32) (x3 : Vec Ideal S1x128 .f32) (xs0 : Vec Ideal S1040x2048 .bf16)

theorem out_B (hc0 : ¬cond0_0 i) (hc1 : cond0_1 i) (hc2 : ¬cond0_2 i) : out0_B_4 c i arg2 harg2 arg3 harg3 arg4 harg4 arg5 harg5 arg6 harg6 arg7 harg7 hc0 hc1 hc2 x0 x1 x2 x3 xs0 = blkH (k0_pay2 xs0 x2) x3 := by
  have hc := cover0_B_4 c i arg2 harg2 arg3 harg3 arg4 harg4 arg5 harg5 arg6 harg6 arg7 harg7 hc0 hc1 hc2 x0 x1 x2 x3 xs0
  unfold out0_B_4
  rw [View.read_writes_eq_canon _ _ _ hc]
  funext y
  refine View.canon_eq_of_allAt _ y _ (hc y) ?_
  unfold kernelRun0_B
  dsimp only
  sl_unfold_words
  simp only [View.readAt_eq_ld, harg4.read_unread, harg5.read_unread, View.ld_unit_zero (S := S1x128) hz, View.ld_unit_zero (S := S2048x512) hz, harg7.read_unread, View.ld_unit_zero (S := S1040x2048) hz]
  exact heads_allAt xs0 xs0 rfl x2 x3 y

theorem sout_A (hc0 : cond0_0 i) (hc1 : cond0_1 i) (hc2 : ¬cond0_2 i) : sout0_A_0 c i arg2 harg2 arg3 harg3 arg4 harg4 arg5 harg5 arg6 harg6 arg7 harg7 hc0 hc1 hc2 x0 x1 x2 x3 = blkN x0 x1 := by
  have hc := scover0_A_0 c i arg2 harg2 arg3 harg3 arg4 harg4 arg5 harg5 arg6 harg6 arg7 harg7 hc0 hc1 hc2 x0 x1 x2 x3
  unfold sout0_A_0
  rw [View.read_writes_eq_canon _ _ _ hc]
  funext y
  refine View.canon_eq_of_allAt _ y _ (hc y) ?_
  unfold kernelRun0_A
  dsimp only
  sl_unfold_words
  refine allAt_pb _ _ _ _ _ _ _ _ _ _ _ _ _ _ _ _ _ _ _ y _ (fun k => ?_) _ le_rfl
  simp only [View.readAt_eq_ld, harg2.read_unread, harg3.read_unread, View.ld_unit_zero (S := S1x2048) hz]
  exact rect_rows i hc0 x0 x1 k y

theorem out_A (hc0 : cond0_0 i) (hc1 : cond0_1 i) (hc2 : ¬cond0_2 i) : out0_A_4 c i arg2 harg2 arg3 harg3 arg4 harg4 arg5 harg5 arg6 harg6 arg7 harg7 hc0 hc1 hc2 x0 x1 x2 x3 = blkH (k0_pay2 (blkN x0 x1) x2) x3 := by
  have hs := sout_A c i arg2 harg2 arg3 harg3 arg4 harg4 arg5 harg5 arg6 harg6 arg7 harg7 x0 x1 x2 x3 hc0 hc1 hc2
  have hc := scover0_A_0 c i arg2 harg2 arg3 harg3 arg4 harg4 arg5 harg5 arg6 harg6 arg7 harg7 hc0 hc1 hc2 x0 x1 x2 x3
  have ho := cover0_A_4 c i arg2 harg2 arg3 harg3 arg4 harg4 arg5 harg5 arg6 harg6 arg7 harg7 hc0 hc1 hc2 x0 x1 x2 x3
  unfold sout0_A_0 at hs
  rw [View.read_writes_eq_canon _ _ _ hc] at hs
  unfold out0_A_4
  rw [View.read_writes_eq_canon _ _ _ ho]
  funext y
  refine View.canon_eq_of_allAt _ y _ (ho y) ?_
  unfold kernelRun0_A at hs ⊢
  dsimp only at hs ⊢
  sl_unfold_words
  rw [View.readCov_eq_canon', hs]
  simp only [View.readAt_eq_ld, harg4.read_unread, harg5.read_unread, View.ld_unit_zero (S := S1x128) hz, View.ld_unit_zero (S := S2048x512) hz]
  exact heads_allAt _ (blkN x0 x1) (View.ld_unit_zero (S := S1040x2048) hz _ _) x2 x3 y

end Cert.Kernel7Ideal.Qp

end
-- ==== Proof.QV.Value.lean ====
/- The query projection: the kernel's result array, and the reference's, at the ideal values. -/
module

public import proofs.«01_k».proof.Proof.QV.Cases
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Kernel7Ideal.Qp

open Cert.Kernel7Ideal Cert.Kernel7Ideal.Gen
open Idealize.ShloMosaic Idealize.ShloMosaic.TcCoe Idealize.SL.Sem

/-- The product of the normalised rows. -/
def prodS (x : (⟨2, ![8320, 2048]⟩ : Shape).Idx → EReal) (g : (⟨1, ![2048]⟩ : Shape).Idx → EReal) (w : (⟨2, ![2048, 2048]⟩ : Shape).Idx → EReal) :
    (⟨2, ![8320, 2048]⟩ : Shape).Idx → EReal :=
  fun J => ∑ k : Fin 2048, rms (fun q => x (ix2 (J 0) q)) (fun q => g (ix1 q)) k * w (ix2 k (J 1))

/-- The column `q` of the head that holds column `j`. -/
def hcolN (j : Fin 2048) (q : Fin 128) : Fin 2048 := ⟨j.val / 128 * 128 + q.val, by omega⟩

/-- The product with each query head's row normalised. -/
def qS (x : (⟨2, ![8320, 2048]⟩ : Shape).Idx → EReal) (g : (⟨1, ![2048]⟩ : Shape).Idx → EReal) (w : (⟨2, ![2048, 2048]⟩ : Shape).Idx → EReal) (kg : (⟨1, ![128]⟩ : Shape).Idx → EReal) :
    (⟨2, ![8320, 2048]⟩ : Shape).Idx → EReal :=
  fun J => rmsH (fun q => prodS x g w (ix2 (J 0) (hcolN (J 1) q))) (fun q => kg (ix1 q)) ⟨(J 1).val % 128, Nat.mod_lt _ (by decide)⟩

theorem idx0 : ∀ t : Fin cfg0.N, win0_0.index t (0 : Fin 2) = t.val / 4 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 4 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val / 4 ∧ win0_4.index t (1 : Fin 2) = t.val % 4 := (by decide +kernel : ∀ t : Fin grid0.N, _)

variable (m : (ℓ : Loc nD τ sig) → Buf (Elt Ideal) ℓ) (c : Dev nD) (t : Fin cfg0.N)

/-- The arguments. -/
abbrev argX : (⟨2, ![8320, 2048]⟩ : Shape).Idx → EReal := m ((c : Thread nD τ).loc main_arg0)
abbrev argG : (⟨1, ![2048]⟩ : Shape).Idx → EReal := m ((c : Thread nD τ).loc main_arg1)
abbrev argW : (⟨2, ![2048, 2048]⟩ : Shape).Idx → EReal := m ((c : Thread nD τ).loc main_arg2)
abbrev argK : (⟨1, ![128]⟩ : Shape).Idx → EReal := m ((c : Thread nD τ).loc main_arg3)

theorem blk0 (i : Fin 1040) (k : Fin 2048) (I : Fin 8320) (hI : I.val = t.val / 4 * 1040 + i.val) :
    iblk m c 0 t (ix2 i k) = argX m c (ix2 I k) := by
  show V m c main_arg0 (((cfg0.win 0).blk t).view.emb _) = _
  rw [V_main_arg0]
  refine congrArg (argX m c) ?_
  funext a
  apply Fin.ext
  obtain ⟨e0, e1⟩ := idx0 t
  match a with
  | ⟨0, _⟩ => show win0_0.index t (0 : Fin 2) * 1040 + 1 * i.val = I.val; omega
  | ⟨1, _⟩ => show win0_0.index t (1 : Fin 2) * 2048 + 1 * k.val = k.val; omega

/-- The gain's window is the argument as one row. -/
theorem gain : (V m c main_v0 : Vec Ideal S1x2048 .f32) = shapeCast S1x2048 (argG m c : Vec Ideal S2048 .f32) shapeCasts_S2048_S1x2048 := by
  show StableHlo.after hostOps0 _ (Proc.devRef .tc main_v0) = _
  after_results
  rfl

theorem blk1 (k : Fin 2048) : iblk m c 1 t (ix2 0 k) = argG m c (ix1 k) := by
  have e : (iblk m c 1 t : Vec Ideal S1x2048 .f32) (ix2 0 k) = V m c main_v0 (ix2 0 k) := by
    show V m c main_v0 (((cfg0.win 1).blk t).view.emb _) = _
    refine congrArg (V m c main_v0) ?_
    funext a
    apply Fin.ext
    obtain ⟨e0, e1⟩ := idx1 t
    match a with
    | ⟨0, _⟩ => show win0_1.index t (0 : Fin 2) * 1 + 1 * 0 = 0; omega
    | ⟨1, _⟩ => show win0_1.index t (1 : Fin 2) * 2048 + 1 * k.val = k.val; omega
  refine e.trans ((congrFun (gain m c) (ix2 0 k)).trans ?_)
  pointwise []

theorem blk2 (k : Fin 2048) (j : Fin 512) (J : Fin 2048) (hJ : J.val = t.val % 4 * 512 + j.val) :
    iblk m c 2 t (ix2 k j) = argW m c (ix2 k J) := by
  show V m c main_arg2 (((cfg0.win 2).blk t).view.emb _) = _
  rw [V_main_arg2]
  refine congrArg (argW m c) ?_
  funext a
  apply Fin.ext
  obtain ⟨e0, e1⟩ := idx2 t
  match a with
  | ⟨0, _⟩ => show win0_2.index t (0 : Fin 2) * 2048 + 1 * k.val = k.val; omega
  | ⟨1, _⟩ => show win0_2.index t (1 : Fin 2) * 512 + 1 * j.val = J.val; omega

/-- The head gain's window is the argument as one row. -/
theorem hgain : (V m c main_v1 : Vec Ideal S1x128 .f32) = shapeCast S1x128 (argK m c : Vec Ideal S128 .f32) shapeCasts_S128_S1x128 := by
  show StableHlo.after hostOps0 _ (Proc.devRef .tc main_v1) = _
  after_results
  rfl

theorem blk3 (k : Fin 128) : iblk m c 3 t (ix2 0 k) = argK m c (ix1 k) := by
  have e : (iblk m c 3 t : Vec Ideal S1x128 .f32) (ix2 0 k) = V m c main_v1 (ix2 0 k) := by
    show V m c main_v1 (((cfg0.win 3).blk t).view.emb _) = _
    refine congrArg (V m c main_v1) ?_
    funext a
    apply Fin.ext
    obtain ⟨e0, e1⟩ := idx3 t
    match a with
    | ⟨0, _⟩ => show win0_3.index t (0 : Fin 2) * 1 + 1 * 0 = 0; omega
    | ⟨1, _⟩ => show win0_3.index t (1 : Fin 2) * 128 + 1 * k.val = k.val; omega
  refine e.trans ((congrFun (hgain m c) (ix2 0 k)).trans ?_)
  pointwise []

/-- The scratch after a point holds the normalised rows of the point's row block. -/
theorem scratch_apply (r : Fin 1040) (d : Fin 2048) (I : Fin 8320) : ∀ (n : ℕ) (hn : n < cfg0.N), I.val = n / 4 * 1040 + r.val →
    (outsAt0 m c n hn).2 (ix2 r d) = rms (fun q => argX m c (ix2 I q)) (fun q => argG m c (ix1 q)) d := by
  intro n
  induction n with
  | zero =>
    intro hn hI
    rw [show outsAt0 m c 0 hn = _ from outsAt0_A m c ⟨0, hn⟩ (Nat.zero_mod _), sout_A]
    show rms (fun k => iblk m c 0 ⟨0, hn⟩ (ix2 r k)) (fun k => iblk m c 1 ⟨0, hn⟩ (ix2 0 k)) d = _
    rw [funext fun k => blk0 m c ⟨0, hn⟩ r k I hI, funext fun k => blk1 m c ⟨0, hn⟩ k]
  | succ n ih =>
    intro hn hI
    by_cases h : (n + 1) % 4 = 0
    · rw [show outsAt0 m c (n + 1) hn = _ from outsAt0_A m c ⟨n + 1, hn⟩ h, sout_A]
      show rms (fun k => iblk m c 0 ⟨n + 1, hn⟩ (ix2 r k)) (fun k => iblk m c 1 ⟨n + 1, hn⟩ (ix2 0 k)) d = _
      rw [funext fun k => blk0 m c ⟨n + 1, hn⟩ r k I hI, funext fun k => blk1 m c ⟨n + 1, hn⟩ k]
    · rw [show outsAt0 m c (n + 1) hn = _ from outsAt0_B m c ⟨n + 1, hn⟩ h]
      exact ih (Nat.lt_of_succ_lt hn) (by omega)

theorem prod_apply (i : Fin 1040) (j : Fin 512) (I : Fin 8320) (J : Fin 2048) (hI : I.val = t.val / 4 * 1040 + i.val) (hJ : J.val = t.val % 4 * 512 + j.val) :
    k0_pay2 (outsAt0 m c t.val t.isLt).2 (iblk m c 2 t) (ix2 i j) = prodS (argX m c) (argG m c) (argW m c) (ix2 I J) := by
  rw [pay2_apply]
  show _ = ∑ k : Fin 2048, rms (fun q => argX m c (ix2 I q)) (fun q => argG m c (ix1 q)) k * argW m c (ix2 k J)
  refine Finset.sum_congr rfl fun k _ => ?_
  rw [scratch_apply m c i k I t.val t.isLt hI, blk2 m c t k j J hJ]

/-- A normalised block at a place is the normalised product there. -/
theorem head_apply (i : Fin 1040) (j : Fin 512) (I : Fin 8320) (J : Fin 2048) (hI : I.val = t.val / 4 * 1040 + i.val) (hJ : J.val = t.val % 4 * 512 + j.val) :
    blkH (k0_pay2 (outsAt0 m c t.val t.isLt).2 (iblk m c 2 t)) (iblk m c 3 t) (ix2 i j)
      = rmsH (fun q => prodS (argX m c) (argG m c) (argW m c) (ix2 I (hcolN J q))) (fun q => argK m c (ix1 q)) ⟨J.val % 128, Nat.mod_lt _ (by decide)⟩ := by
  show rmsH (fun q => k0_pay2 (outsAt0 m c t.val t.isLt).2 (iblk m c 2 t) (ix2 i (hcol j q))) (fun q => iblk m c 3 t (ix2 0 q)) ⟨j.val % 128, _⟩ = _
  rw [funext fun q => prod_apply m c t i (hcol j q) I (hcolN J q) hI (by show J.val / 128 * 128 + q.val = t.val % 4 * 512 + (j.val / 128 * 128 + q.val); omega),
    funext fun q => blk3 m c t q]
  exact congrArg _ (Fin.ext (by show j.val % 128 = J.val % 128; omega))

theorem block_apply (i : Fin 1040) (j : Fin 512) (I : Fin 8320) (J : Fin 2048) (hI : I.val = t.val / 4 * 1040 + i.val) (hJ : J.val = t.val % 4 * 512 + j.val) :
    (outsAt0 m c t.val t.isLt).1 (ix2 i j) = qS (argX m c) (argG m c) (argW m c) (argK m c) (ix2 I J) := by
  show _ = rmsH (fun q => prodS (argX m c) (argG m c) (argW m c) (ix2 I (hcolN J q))) (fun q => argK m c (ix1 q)) ⟨J.val % 128, _⟩
  rw [← head_apply m c t i j I J hI hJ]
  by_cases h : t.val % 4 = 0
  · rw [outsAt0_A m c t h, out_A, sout_A]
  · rw [outsAt0_B m c t h, out_B]
    rfl

/-- The result array after the run. -/
theorem final4 : (dats m 0 c).arrAt 4 cfg0.N = qS (argX m c) (argG m c) (argW m c) (argK m c) := by
  refine (dats m 0 c).arrAt_eq_of_covers 4 _ (by decide +kernel) fun t hf y => ?_
  rw [after0_4]
  obtain ⟨e0, e1⟩ := idx4 t
  have hy0 : (y 0).val < 1040 := (y 0).isLt
  have hy1 : (y 1).val < 512 := (y 1).isLt
  have ht : t.val < 32 := lt_of_lt_of_eq t.isLt (show cfg0.N = 32 from N_0)
  have e3 : ((cfg0.win 4).blk t).view.emb y = ix2 ⟨t.val / 4 * 1040 + (y 0).val, by omega⟩ ⟨t.val % 4 * 512 + (y 1).val, by omega⟩ := by
    funext a
    apply Fin.ext
    match a with
    | ⟨0, _⟩ => show win0_4.index t (0 : Fin 2) * 1040 + 1 * (y 0).val = t.val / 4 * 1040 + (y 0).val; omega
    | ⟨1, _⟩ => show win0_4.index t (1 : Fin 2) * 512 + 1 * (y 1).val = t.val % 4 * 512 + (y 1).val; omega
  have e4 : ((cfg0.win 4).xinj (cfg0.grid.coords t) y : S1040x512.Idx) = ix2 ⟨(y 0).val, hy0⟩ ⟨(y 1).val, hy1⟩ := by
    funext a
    match a with
    | ⟨0, _⟩ => rfl
    | ⟨1, _⟩ => rfl
  show (outsAt0 m c t.val t.isLt).1 ((cfg0.win 4).xinj (cfg0.grid.coords t) y) = _
  rw [e3, e4]
  exact block_apply m c t _ _ _ _ rfl rfl

/-- The kernel's run with its result as a function of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v2) = qS (argX m c) (argG m c) (argW m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1).trans (final4 m c), (h c).2⟩) (Value.run_blocks m ρ)

end Cert.Kernel7Ideal.Qp

namespace Cert.Reference7Ideal.Qp

open Cert.Reference7Ideal Cert.Reference7Ideal.Gen
open Idealize.ShloMosaic Idealize.ShloMosaic.TcCoe Idealize.SL.Sem
open Cert.Kernel7Ideal.Qp (qS prodS rms rmsH hcolN)

/-- The reference's run with its result as the same function of the arguments. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v28) = qS (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨((h c).1).trans ?_, (h c).2⟩) (Value.run m ρ)
  generalize (m ((c.tc : Thread nD τ).loc main_arg0) : FVec Ideal S8320x2048 .f32) = x
  generalize (m ((c.tc : Thread nD τ).loc main_arg1) : FVec Ideal S2048 .f32) = g
  generalize (m ((c.tc : Thread nD τ).loc main_arg2) : FVec Ideal S2048x2048 .f32) = w
  generalize (m ((c.tc : Thread nD τ).loc main_arg3) : FVec Ideal S128 .f32) = kg
  funext J
  obtain ⟨I, J, rfl⟩ : ∃ (I : Fin 8320) (j : Fin 2048), J = ix2 I j := ⟨_, _, eq_ix2 J⟩
  have e : ∀ h : J.val / 128 * 128 + J.val % 128 < 2048, (⟨J.val / 128 * 128 + J.val % 128, h⟩ : Fin 2048) = J :=
    fun h => Fin.ext (by show J.val / 128 * 128 + J.val % 128 = J.val; omega)
  pointwise [qS, prodS, rms, rmsH, hcolN, e]

end Cert.Reference7Ideal.Qp

end
-- ==== Proof.SmpI.Trip.lean ====
/- One sequence of the sampling recurrence: what a trip of the kernel's loop stores, as plain functions of
   the blocks it reads; and what its trips leave behind. -/
module

public import proofs.«01_k».proof.Proof.Gen.Kernel8Ideal.Frame.Runs
public import Idealize.ShloMosaic.Lib.Pipeline.Value
public import Idealize.ShloMosaic.Lib.ValueIdxCore

@[expose] public section

noncomputable section

namespace Cert.Kernel8Ideal.Smp

open Cert.Kernel8Ideal Cert.Kernel8Ideal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row numbers and the column numbers of a head's square. -/
abbrev rowIx : IVec S128x128 32 := iota .tc S128x128 32 [0] iota_S128x128_d0_w32
abbrev colIx : IVec S128x128 32 := iota .tc S128x128 32 [1] iota_S128x128_d1_w32

/-- The states' block of sequence `k`. -/
abbrev seqRect (k : Fin k0_t1_loop.trips) : Rect S32x1x128x128 :=
  Rect.unit (s := S32x1x128x128) (k0_off1 k) S1x1x128x128.size (k0_off1_inb k)

/-- The first row of sequence `k`. -/
abbrev rowRect (k : Fin k0_t1_loop.trips) : Rect S128x128 :=
  Rect.unit (s := S128x128) (k0_off2 k) S1x128.size (k0_off2_inb k)

def seq (k : Fin k0_t1_loop.trips) (x : Vec F S32x1x128x128 .f32) : Vec F S1x1x128x128 .f32 := View.ld x (seqRect k)
def row (k : Fin k0_t1_loop.trips) (x : Vec F S128x128 .f32) : Vec F S1x128 .f32 := View.ld x (rowRect k)

/-- The output after the trips before `k`. -/
def oLoop (s0 : Vec F S32x1x128x128 .f32) (qin : Vec F S128x128 .bf16) (w : Vec F S128x128 .f32) : ℕ → Vec F S128x128 .f32
  | 0 => w
  | k + 1 => if h : k < k0_t1_loop.trips then k0_pay5 rowIx 0#32 1#32 ⟨k, h⟩ (seq ⟨k, h⟩ s0) (oLoop s0 qin w k) qin else oLoop s0 qin w k

theorem oLoop_succ (s0 : Vec F S32x1x128x128 .f32) (qin : Vec F S128x128 .bf16) (w : Vec F S128x128 .f32) (k : Fin k0_t1_loop.trips) :
    oLoop s0 qin w (k.val + 1) = k0_pay5 rowIx 0#32 1#32 k (seq k s0) (oLoop s0 qin w k.val) qin := by
  rw [oLoop]; exact dif_pos k.isLt

/-- The state trip `k` writes. -/
def sAt (s0 : Vec F S32x1x128x128 .f32) (last kout : Vec F S128x128 .f32) (v : Vec F S128x128 .bf16) (k : Fin k0_t1_loop.trips) : Vec F S1x1x128x128 .f32 :=
  k0_pay1 (k0_pay6 rowIx 0#32 1#32 k (seq k s0) kout (row k last) v)

theorem trips_eq : k0_t1_loop.trips = 32 := by decide +kernel

/-- The trip an entry of the states' block belongs to, and its place in the sequence's block. -/
def seqOf (j : S32x1x128x128.Idx) : Fin k0_t1_loop.trips := ⟨(j 0).val, by rw [trips_eq]; exact (j 0).isLt⟩
def inSeq (j : S32x1x128x128.Idx) : S1x1x128x128.Idx := fun a => match a with
  | ⟨0, _⟩ => ⟨0, Nat.one_pos⟩
  | ⟨1, _⟩ => ⟨0, Nat.one_pos⟩
  | ⟨2, _⟩ => ⟨(j 2).val, (j 2).isLt⟩
  | ⟨3, _⟩ => ⟨(j 3).val, (j 3).isLt⟩

theorem seqRect_emb (j : S32x1x128x128.Idx) : (seqRect (seqOf j)).emb (inSeq j) = j := by
  funext a
  apply Fin.ext
  rw [show (((seqRect (seqOf j)).emb (inSeq j)) a).val = (k0_off1 (seqOf j)) a + 1 * ((inSeq j) a).val from rfl, k0_off1_eq]
  match a with
  | ⟨0, _⟩ => show (j 0).val + 1 * 0 = (j 0).val; omega
  | ⟨1, _⟩ => show 0 + 1 * 0 = (j 1).val; have h : (j 1).val < 1 := (j 1).isLt; omega
  | ⟨2, _⟩ => show 0 + 1 * (j 2).val = (j 2).val; omega
  | ⟨3, _⟩ => show 0 + 1 * (j 3).val = (j 3).val; omega

/-- The states' block a grid point leaves. -/
def sFn (s0 : Vec F S32x1x128x128 .f32) (last kout : Vec F S128x128 .f32) (v : Vec F S128x128 .bf16) : Vec F S32x1x128x128 .f32 :=
  fun j => sAt s0 last kout v (seqOf j) (inSeq j)

theorem zero2 : (![0, 0] : Fin 2 → ℕ) = fun _ => 0 := by funext a; fin_cases a <;> rfl

/-- What the states' block holds before trip `k`: the blocks of the earlier trips are theirs. -/
def Filled (s0 : Vec F S32x1x128x128 .f32) (last kout : Vec F S128x128 .f32) (v : Vec F S128x128 .bf16) (k : ℕ) (w : Vec F S32x1x128x128 .f32) : Prop :=
  ∀ k' : Fin k0_t1_loop.trips, k'.val < k → ∀ y, w ((seqRect k').emb y) = sAt s0 last kout v k' y

theorem Filled_all (s0 : Vec F S32x1x128x128 .f32) (last kout : Vec F S128x128 .f32) (v : Vec F S128x128 .bf16) (w : Vec F S32x1x128x128 .f32)
    (h : Filled s0 last kout v k0_t1_loop.trips w) : w = sFn s0 last kout v := by
  funext j
  have := h (seqOf j) (seqOf j).isLt (inSeq j)
  rw [seqRect_emb] at this
  exact this

/-- Blocks of different trips are different blocks. -/
theorem seq_disjoint (k k' : Fin k0_t1_loop.trips) (h : k'.val < k.val) (y : S1x1x128x128.Idx) : (seqRect k').emb y ∉ (seqRect k).set := by
  refine (seqRect k).not_mem_set_of_axis _ 0 k.val 1 ?_ rfl rfl (Or.inl ?_)
  · show (k0_off1 k) 0 = _; rw [k0_off1_eq]; rfl
  · rw [show (((seqRect k').emb y) 0).val = (k0_off1 k') 0 + 1 * (y 0).val from rfl, k0_off1_eq]
    have h2 : (y 0).val < 1 := (y 0).isLt
    show k'.val + 1 * (y 0).val < k.val
    omega

section Loop

variable (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2x128 .f32) (harg5 : arg5.IsWhole) (arg6 : Memref sig .tc .vmem S1x128 .f32) (harg6 : arg6.IsWhole) (arg7 : Memref sig .tc .vmem S32x1x128x128 .f32) (harg7 : arg7.IsWhole) (arg8 : Memref sig .tc .vmem S128x128 .f32) (harg8 : arg8.IsWhole) (arg9 : Memref sig .tc .vmem S32x1x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .bf16) (harg12 : arg12.IsWhole) (arg13 : Memref sig .tc .vmem S128x128 .bf16) (harg13 : arg13.IsWhole)

/-- The piece one trip writes into the output. -/
theorem trip_out (X7 : BufTy.Contents (Elt F) arg7.view.ty) (X10 : BufTy.Contents (Elt F) arg10.view.ty) (X11 : BufTy.Contents (Elt F) arg11.view.ty) (X12 : BufTy.Contents (Elt F) arg12.view.ty) (X13 : BufTy.Contents (Elt F) arg13.view.ty)
    (k : Fin k0_t1_loop.trips) (f8 : BufTy.Contents (Elt F) arg8.view.ty) (f9 : BufTy.Contents (Elt F) arg9.view.ty) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 rowIx 0#32 X7 X10 X11 X12 X13 k).1 f8 f9
      = [⟨Rect.unit (s := S128x128) ![0, 0] S128x128.size inb_S128x128_S128x128_0_0, k0_pay5 rowIx 0#32 1#32 k (seq k (arg7.view.read (Elt F) X7)) (View.ld (arg8.view.read (Elt F) f8) (Rect.unit (s := S128x128) ![0, 0] S128x128.size inb_S128x128_S128x128_0_0)) (View.ld (arg12.view.read (Elt F) X12) (Rect.unit (s := S128x128) ![0, 0] S128x128.size inb_S128x128_S128x128_0_0))⟩] := by
  unfold trip_k0_t1
  dsimp only
  sl_unfold_words
  rfl

/-- The piece one trip writes into the states. -/
theorem trip_st (X7 : BufTy.Contents (Elt F) arg7.view.ty) (X10 : BufTy.Contents (Elt F) arg10.view.ty) (X11 : BufTy.Contents (Elt F) arg11.view.ty) (X12 : BufTy.Contents (Elt F) arg12.view.ty) (X13 : BufTy.Contents (Elt F) arg13.view.ty)
    (k : Fin k0_t1_loop.trips) (f8 : BufTy.Contents (Elt F) arg8.view.ty) (f9 : BufTy.Contents (Elt F) arg9.view.ty) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 rowIx 0#32 X7 X10 X11 X12 X13 k).2.1 f8 f9
      = [⟨seqRect k, k0_pay1 (k0_pay6 rowIx 0#32 1#32 k (seq k (arg7.view.read (Elt F) X7)) (View.ld (arg11.view.read (Elt F) X11) (Rect.unit (s := S128x128) ![0, 0] S128x128.size inb_S128x128_S128x128_0_0)) (row k (arg10.view.read (Elt F) X10)) (View.ld (arg13.view.read (Elt F) X13) (Rect.unit (s := S128x128) ![0, 0] S128x128.size inb_S128x128_S128x128_0_0)))⟩] := by
  unfold trip_k0_t1
  dsimp only
  sl_unfold_words
  rfl

/-- One more trip's block written. -/
theorem Filled_succ (s0 : Vec F S32x1x128x128 .f32) (last kout : Vec F S128x128 .f32) (v : Vec F S128x128 .bf16) (k : Fin k0_t1_loop.trips)
    (f : BufTy.Contents (Elt F) arg9.view.ty) (h : Filled s0 last kout v k.val (arg9.view.read (Elt F) f)) :
    Filled s0 last kout v (k.val + 1) (arg9.view.read (Elt F) (arg9.view.writes (Elt F) f [⟨seqRect k, sAt s0 last kout v k⟩])) := by
  intro k' hk' y
  by_cases hlt : k'.val < k.val
  · exact (View.read_writes_cons_miss _ _ ⟨seqRect k, sAt s0 last kout v k⟩ [] _ (seq_disjoint k k' hlt y)).trans (h k' hlt y)
  · obtain rfl : k' = k := Fin.ext (by omega)
    exact View.read_writes_cons_emb _ _ (seqRect k') _ [] y

end Loop

/-- A square buffer after it was stored whole. -/
theorem read_stored {e : EltTy} (a : Memref sig .tc .vmem S128x128 e) (w : Vec F S128x128 e) (f : BufTy.Contents (Elt F) a.view.ty) (L : List (View.Piece (Elt F) S128x128 e)) :
    a.view.read (Elt F) (a.view.writes (Elt F) f (⟨Rect.unit (s := S128x128) ![0, 0] S128x128.size inb_S128x128_S128x128_0_0, w⟩ :: L)) = w := by
  funext y
  have h : (Rect.unit (s := S128x128) ![0, 0] S128x128.size inb_S128x128_S128x128_0_0 : Rect S128x128).emb y = y := by
    funext b; apply Fin.ext; fin_cases b
    · show 0 + 1 * (y 0).val = (y 0).val; omega
    · show 0 + 1 * (y 1).val = (y 1).val; omega
  have := View.read_writes_cons_emb (v := a.view) f (Rect.unit (s := S128x128) ![0, 0] S128x128.size inb_S128x128_S128x128_0_0) w L y
  rw [h] at this
  exact this

section Holds

variable (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2x128 .f32) (harg5 : arg5.IsWhole) (arg6 : Memref sig .tc .vmem S1x128 .f32) (harg6 : arg6.IsWhole) (arg7 : Memref sig .tc .vmem S32x1x128x128 .f32) (harg7 : arg7.IsWhole) (arg8 : Memref sig .tc .vmem S128x128 .f32) (harg8 : arg8.IsWhole) (arg9 : Memref sig .tc .vmem S32x1x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .bf16) (harg12 : arg12.IsWhole) (arg13 : Memref sig .tc .vmem S128x128 .bf16) (harg13 : arg13.IsWhole)

/-- What the trips before `k` leave: the output with their sequences' terms added, and their states. -/
theorem loop_holds (s0 : Vec F S32x1x128x128 .f32) (last kout : Vec F S128x128 .f32) (qin v : Vec F S128x128 .bf16) (w : Vec F S128x128 .f32)
    (X7 : BufTy.Contents (Elt F) arg7.view.ty) (X10 : BufTy.Contents (Elt F) arg10.view.ty) (X11 : BufTy.Contents (Elt F) arg11.view.ty) (X12 : BufTy.Contents (Elt F) arg12.view.ty) (X13 : BufTy.Contents (Elt F) arg13.view.ty)
    (h7 : arg7.view.read (Elt F) X7 = s0) (h10 : arg10.view.read (Elt F) X10 = last) (h11 : arg11.view.read (Elt F) X11 = kout) (h12 : arg12.view.read (Elt F) X12 = qin) (h13 : arg13.view.read (Elt F) X13 = v)
    (G8 : BufTy.Contents (Elt F) arg8.view.ty) (G9 : BufTy.Contents (Elt F) arg9.view.ty) (h8 : arg8.view.read (Elt F) G8 = w) (k : ℕ) (hk : k ≤ k0_t1_loop.trips) :
    arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 rowIx 0#32 X7 X10 X11 X12 X13 G8 G9 k).1) = oLoop s0 qin w k
      ∧ Filled s0 last kout v k (arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 rowIx 0#32 X7 X10 X11 X12 X13 G8 G9 k).2)) := by
  induction k with
  | zero => exact ⟨h8, fun k' h => absurd h (Nat.not_lt_zero _)⟩
  | succ k ih =>
    obtain ⟨h8', h9'⟩ := ih (by omega)
    rw [show k + 1 = (⟨k, hk⟩ : Fin k0_t1_loop.trips).val + 1 from rfl, pb_k0_t1_succ, oLoop_succ]
    dsimp only [tripL_k0_t1]
    rw [trip_out, trip_st, View.ld_unit_zero zero2, View.ld_unit_zero zero2, View.ld_unit_zero zero2, View.ld_unit_zero zero2, h7, h10, h11, h12, h13, h8']
    exact ⟨read_stored arg8 _ _ _, Filled_succ arg9 s0 last kout v ⟨k, hk⟩ _ h9'⟩

end Holds

end Cert.Kernel8Ideal.Smp

end
-- ==== Proof.SmpI.Body.lean ====
/- The kernel's body at a grid point: what it leaves in the output block and the states' block, from the
   blocks it finds. -/
module

public import proofs.«01_k».proof.Proof.SmpI.Trip

@[expose] public section

noncomputable section

namespace Cert.Kernel8Ideal.Smp

open Cert.Kernel8Ideal Cert.Kernel8Ideal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The log forget gates and their running sums over each sequence's rows. -/
def lg (x1 : Vec F S128x128 .f32) (x4 : Vec F S2x128 .f32) : FVec F S128x128 .f32 := k0_pay10 x4 x1
def cum (x1 : Vec F S128x128 .f32) (x4 : Vec F S2x128 .f32) : FVec F S128x128 .f32 := k0_pay12 (lg x1 x4)
def mid (x1 : Vec F S128x128 .f32) (x4 : Vec F S2x128 .f32) : FVec F S128x128 .f32 := k0_pay14 (lg x1 x4)
def last (x1 : Vec F S128x128 .f32) (x4 : Vec F S2x128 .f32) : FVec F S128x128 .f32 := k0_pay15 (lg x1 x4)

/-- The output before the loop: the terms of the sequences' own rows. -/
def oIntra (x0 x1 x2 : Vec F S128x128 .f32) (x4 : Vec F S2x128 .f32) : FVec F S128x128 .f32 :=
  k0_pay17 (k0_pay8 x0) (k0_pay9 x4 x1) (k0_pay11 x2) (cum x1 x4) (mid x1 x4) rowIx colIx (k0_pay16 (lg x1 x4))

/-- What goes into the loop by the scratch buffers. -/
def qIn (x0 x1 : Vec F S128x128 .f32) (x4 : Vec F S2x128 .f32) : FVec F S128x128 .bf16 := k0_pay18 (k0_pay8 x0) (cum x1 x4)
def vIn (x2 : Vec F S128x128 .f32) : FVec F S128x128 .bf16 := k0_pay19 (k0_pay11 x2)
def lastIn (x1 : Vec F S128x128 .f32) (x4 : Vec F S2x128 .f32) : FVec F S128x128 .f32 := k0_pay20 (last x1 x4)
def kOut (x1 : Vec F S128x128 .f32) (x4 : Vec F S2x128 .f32) : FVec F S128x128 .f32 := k0_pay21 (k0_pay9 x4 x1) (cum x1 x4) (last x1 x4)

/-- The output block a grid point leaves. -/
def oEnd (x0 x1 x2 x3 : Vec F S128x128 .f32) (x4 : Vec F S2x128 .f32) (x5 : Vec F S1x128 .f32) (x6 : Vec F S32x1x128x128 .f32) : Vec F S128x128 .f32 :=
  k0_pay2 (oLoop x6 (qIn x0 x1 x4) (oIntra x0 x1 x2 x4) 32) x3 x5

/-- The states' block a grid point leaves. -/
def sEnd (x1 x2 : Vec F S128x128 .f32) (x4 : Vec F S2x128 .f32) (x6 : Vec F S32x1x128x128 .f32) : Vec F S32x1x128x128 .f32 :=
  sFn x6 (lastIn x1 x4) (kOut x1 x4) (vIn x2)

theorem pay2_congr {a a' b b' : Vec F S128x128 .f32} {g g' : Vec F S1x128 .f32} (ha : a = a') (hb : b = b') (hg : g = g') :
    k0_pay2 a b g = k0_pay2 a' b' g' := by rw [ha, hb, hg]

variable (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2x128 .f32) (harg5 : arg5.IsWhole) (arg6 : Memref sig .tc .vmem S1x128 .f32) (harg6 : arg6.IsWhole) (arg7 : Memref sig .tc .vmem S32x1x128x128 .f32) (harg7 : arg7.IsWhole) (arg8 : Memref sig .tc .vmem S128x128 .f32) (harg8 : arg8.IsWhole) (arg9 : Memref sig .tc .vmem S32x1x128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .bf16) (harg12 : arg12.IsWhole) (arg13 : Memref sig .tc .vmem S128x128 .bf16) (harg13 : arg13.IsWhole)

set_option maxHeartbeats 16000000 in
/-- The body at a grid point. -/
theorem body (x0 x1 x2 x3 : Vec F S128x128 .f32) (x4 : Vec F S2x128 .f32) (x5 : Vec F S1x128 .f32) (x6 : Vec F S32x1x128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (oEnd x0 x1 x2 x3 x4 x5 x6) ∗ owns (c : Thread nD τ) arg9 fullShare (sEnd x1 x2 x4 x6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gla_sample i arg1 harg1 arg2 harg2 arg3 harg3 arg4 harg4 arg5 harg5 arg6 harg6 arg7 harg7 arg8 harg8 arg9 harg9 arg10 harg10 arg11 harg11 arg12 harg12 arg13 harg13) K := by
  simp only [cc0_gla_sample_eq_skeleton]; unfold cc0_gla_sample_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  have e0 : (View.ld (arg1.view.read (Elt F) (harg1.unread x0)) (Rect.unit (s := S128x128) ![0, 0] S128x128.size inb_S128x128_S128x128_0_0)) = x0 := by rw [View.ld_unit_zero zero2]; exact harg1.read_unread x0
  have e1 : (View.ld (arg2.view.read (Elt F) (harg2.unread x1)) (Rect.unit (s := S128x128) ![0, 0] S128x128.size inb_S128x128_S128x128_0_0)) = x1 := by rw [View.ld_unit_zero zero2]; exact harg2.read_unread x1
  have e2 : (View.ld (arg3.view.read (Elt F) (harg3.unread x2)) (Rect.unit (s := S128x128) ![0, 0] S128x128.size inb_S128x128_S128x128_0_0)) = x2 := by rw [View.ld_unit_zero zero2]; exact harg3.read_unread x2
  have e3 : (View.ld (arg4.view.read (Elt F) (harg4.unread x3)) (Rect.unit (s := S128x128) ![0, 0] S128x128.size inb_S128x128_S128x128_0_0)) = x3 := by rw [View.ld_unit_zero zero2]; exact harg4.read_unread x3
  have e4 : (View.ld (arg5.view.read (Elt F) (harg5.unread x4)) (Rect.unit (s := S2x128) ![0, 0] S2x128.size inb_S2x128_S2x128_0_0)) = x4 := by rw [View.ld_unit_zero zero2]; exact harg5.read_unread x4
  have e5 : (View.ld (arg6.view.read (Elt F) (harg6.unread x5)) (Rect.unit (s := S1x128) ![0, 0] S1x128.size inb_S1x128_S1x128_0_0)) = x5 := by rw [View.ld_unit_zero zero2]; exact harg6.read_unread x5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  have L := loop_holds c i arg1 harg1 arg2 harg2 arg3 harg3 arg4 harg4 arg5 harg5 arg6 harg6 arg7 harg7 arg8 harg8 arg9 harg9 arg10 harg10 arg11 harg11 arg12 harg12 arg13 harg13 x6 (lastIn x1 x4) (kOut x1 x4) (qIn x0 x1 x4) (vIn x2) (oIntra x0 x1 x2 x4) (harg7.unread x6)
    (arg10.view.writes (Elt F) arg10.view.junk [⟨Rect.unit (s := S128x128) ![0, 0] S128x128.size inb_S128x128_S128x128_0_0, lastIn x1 x4⟩]) (arg11.view.writes (Elt F) arg11.view.junk [⟨Rect.unit (s := S128x128) ![0, 0] S128x128.size inb_S128x128_S128x128_0_0, kOut x1 x4⟩]) (arg12.view.writes (Elt F) arg12.view.junk [⟨Rect.unit (s := S128x128) ![0, 0] S128x128.size inb_S128x128_S128x128_0_0, qIn x0 x1 x4⟩]) (arg13.view.writes (Elt F) arg13.view.junk [⟨Rect.unit (s := S128x128) ![0, 0] S128x128.size inb_S128x128_S128x128_0_0, vIn x2⟩])
    (harg7.read_unread _) (read_stored arg10 _ _ _) (read_stored arg11 _ _ _) (read_stored arg12 _ _ _) (read_stored arg13 _ _ _)
    (arg8.view.writes (Elt F) arg8.view.junk [⟨Rect.unit (s := S128x128) ![0, 0] S128x128.size inb_S128x128_S128x128_0_0, oIntra x0 x1 x2 x4⟩]) f8 (read_stored arg8 _ _ _) 32 (by rw [trips_eq])
  isplitl [H7]
  · iexists _; isplitr; swap; · iexact H7
    ipureintro
    refine (read_stored arg8 _ _ _).trans (pay2_congr ?_ rfl rfl)
    refine (View.ld_unit_zero (S := S128x128) zero2 inb_S128x128_S128x128_0_0 _).trans ?_
    first
      | exact L.1
      | (rw [View.writes_append]; exact L.1)
  isplitl [H8]
  · iexists _; isplitr; swap; · iexact H8
    ipureintro; exact Filled_all _ _ _ _ _ (by rw [trips_eq]; exact L.2)
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Kernel8Ideal.Smp

end
-- ==== Proof.SmpI.Frame.lean ====
/- The kernel's frame: the pipeline's proof data, the body's triple at every point, the run and what it
   leaves unchanged. -/
module

public import proofs.«01_k».proof.Proof.SmpI.Body
public import Idealize.ShloMosaic.Lib.Claim

@[expose] public section

noncomputable section

namespace Cert.Kernel8Ideal.Smp

open Cert.Kernel8Ideal Cert.Kernel8Ideal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in the output block. -/
def oEndAt (c : Dev nD) (t : Fin cfg0.N) : Vec F S128x128 .f32 :=
  oEnd (iblk m c 0 t) (iblk m c 1 t) (iblk m c 2 t) (iblk m c 3 t) (iblk m c 4 t) (iblk m c 5 t) (iblk m c 6 t)

/-- What point `t` leaves in the states' block. -/
def sEndAt (c : Dev nD) (t : Fin cfg0.N) : Vec F S32x1x128x128 .f32 :=
  sEnd (iblk m c 1 t) (iblk m c 2 t) (iblk m c 4 t) (iblk m c 6 t)

/-- The pipeline's proof data: inputs stay, the outputs end as above, the scratch buffers are forgotten between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oEndAt m c t
    | ⟨8, _⟩ => sEndAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = oEndAt m c t := by dsimp only [dats]
theorem after0_8 (c : Dev nD) (t : Fin cfg0.N) : (dats m 0 c).after 8 t = sEndAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold oEndAt sEndAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, and every counter at zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel8Ideal.Smp

end
-- ==== Proof.SmpV.Spec.lean ====
/- The recurrence of one sampled sequence and one head, four rows from a given state, as formulas over the extended reals: what
   both programs compute. -/
module

public import proofs.«01_k».proof.Proof.GlaV.Spec

@[expose] public section

noncomputable section

namespace Cert.SmpSpec

open Idealize.ShloMosaic Cert.GlaSpec

variable (lb : Fin 128 → EReal) (zq zf zi zg : Fin 4 → Fin 128 → EReal) (S : Fin 128 → Fin 128 → EReal)

/-- The log forget gate, 0 past the four rows. -/
def logGate (d : Fin 128) (i : ℕ) : EReal := if h : i < 4 then Ideal.log (gate (lb d) (zf ⟨i, h⟩ d)) else 0
/-- The running sum of the log forget gates. -/
def cumS (i : Fin 4) (d : Fin 128) : EReal := pre (logGate lb zf d) 4 i.val
/-- The masked scores. -/
def attS (i j : Fin 4) : EReal :=
  if j.val ≤ i.val then ∑ d, (silu (zq i d) * Ideal.exp (cumS lb zf i d - cumS lb zf 1 d))
    * ((1 - gate (lb d) (zf j d)) * Ideal.exp (cumS lb zf 1 d - cumS lb zf j d)) else 0
/-- The part of the rows that comes from the rows themselves. -/
def intraS (i : Fin 4) (e : Fin 128) : EReal := ∑ j, attS lb zq zf i j * zi j e
/-- The part that comes from the state `S` (key by value). -/
def interS (i : Fin 4) (e : Fin 128) : EReal := ∑ d, (silu (zq i d) * Ideal.exp (cumS lb zf i d)) * S d e
/-- The rows. -/
def oS (i : Fin 4) (e : Fin 128) : EReal := intraS lb zq zf zi i e + interS lb zq zf S i e
/-- The state after the rows. -/
def sS (d e : Fin 128) : EReal :=
  Ideal.exp (cumS lb zf 3 d) * S d e + ∑ i, ((1 - gate (lb d) (zf i d)) * Ideal.exp (cumS lb zf 3 d - cumS lb zf i d)) * zi i e

/-! The whole arrays, cut into heads and sequences. -/

variable (Z : (⟨2, ![8320, 8192]⟩ : Shape).Idx → EReal) (S0 : (⟨5, ![1, 32, 16, 128, 128]⟩ : Shape).Idx → EReal)
  (L : (⟨2, ![2, 2048]⟩ : Shape).Idx → EReal) (h : Fin 16) (b : Fin 32)

/-- The queries, the gate logits, the values and the output gates of head `h` in sequence `b`. -/
def qZ : Fin 4 → Fin 128 → EReal := fun i d => Z (ix2 ⟨8192 + (b.val * 4 + i.val), by omega⟩ ⟨h.val * 128 + d.val, by omega⟩)
@[inherit_doc qZ] def fZ : Fin 4 → Fin 128 → EReal := fun i d => Z (ix2 ⟨8192 + (b.val * 4 + i.val), by omega⟩ ⟨2048 + (h.val * 128 + d.val), by omega⟩)
@[inherit_doc qZ] def iZ : Fin 4 → Fin 128 → EReal := fun i d => Z (ix2 ⟨8192 + (b.val * 4 + i.val), by omega⟩ ⟨4096 + (h.val * 128 + d.val), by omega⟩)
@[inherit_doc qZ] def gZ : Fin 4 → Fin 128 → EReal := fun i d => Z (ix2 ⟨8192 + (b.val * 4 + i.val), by omega⟩ ⟨6144 + (h.val * 128 + d.val), by omega⟩)
/-- The state of head `h` in sequence `b` before the rows. -/
def sZ : Fin 128 → Fin 128 → EReal := fun d e => S0 (ix5 0 b h d e)

/-- The rows of head `h` in sequence `b`, before the norm. -/
def rowsO : Fin 4 → Fin 128 → EReal := oS (lbL L h) (qZ Z h b) (fZ Z h b) (iZ Z h b) (sZ S0 h b)

/-- A row's sequence, and its place in it. -/
def rowSeq (r : Fin 128) : Fin 32 := ⟨r.val / 4, by omega⟩
@[inherit_doc rowSeq] def rowIn (r : Fin 128) : Fin 4 := ⟨r.val % 4, by omega⟩

/-- The rows after the norm, the gain and the gate, and the final states, as whole arrays. -/
def outAll (G : (⟨2, ![1, 128]⟩ : Shape).Idx → EReal) : (⟨2, ![128, 2048]⟩ : Shape).Idx → EReal := fun j =>
  outS (fun d => G (ix2 0 d)) (rowsO Z S0 L (colHead (j 1)) (rowSeq (j 0)) (rowIn (j 0)))
    (gZ Z (colHead (j 1)) (rowSeq (j 0)) (rowIn (j 0))) (colIn (j 1))
@[inherit_doc outAll] def stateAll : (⟨4, ![32, 16, 128, 128]⟩ : Shape).Idx → EReal := fun j =>
  sS (lbL L (j 1)) (fZ Z (j 1) (j 0)) (iZ Z (j 1) (j 0)) (sZ S0 (j 1) (j 0)) (j 2) (j 3)

theorem outAll_apply (G : (⟨2, ![1, 128]⟩ : Shape).Idx → EReal) (i : Fin 4) (e : Fin 128) (j : (⟨2, ![128, 2048]⟩ : Shape).Idx)
    (h0 : (j 0).val = b.val * 4 + i.val) (h1 : (j 1).val = h.val * 128 + e.val) :
    outAll Z S0 L G j = outS (fun d => G (ix2 0 d)) (rowsO Z S0 L h b i) (gZ Z h b i) e := by
  have e1 : colHead (j 1) = h := Fin.ext (by show (j 1).val / 128 = h.val; omega)
  have e2 : rowSeq (j 0) = b := Fin.ext (by show (j 0).val / 4 = b.val; omega)
  have e3 : rowIn (j 0) = i := Fin.ext (by show (j 0).val % 4 = i.val; omega)
  have e4 : colIn (j 1) = e := Fin.ext (by show (j 1).val % 128 = e.val; omega)
  unfold outAll
  rw [e1, e2, e3, e4]

/-! Rows of a block of 128: four to a sequence. -/

/-- Row `i` of sequence `b`. -/
def rw4 (b : Fin 32) (i : Fin 4) : Fin 128 := ⟨b.val * 4 + i.val, by omega⟩

theorem rw4_surj (r : Fin 128) : ∃ b i, r = rw4 b i := ⟨⟨r.val / 4, by omega⟩, ⟨r.val % 4, by omega⟩, Fin.ext (by show r.val = r.val / 4 * 4 + r.val % 4; omega)⟩

/-- A sum over the rows, sequence by sequence. -/
theorem sum_rows (f : Fin 128 → EReal) : ∑ r, f r = ∑ b : Fin 32, ∑ i : Fin 4, f (rw4 b i) := by
  rw [← Fintype.sum_prod_type']
  refine (Fintype.sum_bijective (fun p : Fin 32 × Fin 4 => rw4 p.1 p.2) ⟨?_, ?_⟩ _ _ fun _ => rfl).symm
  · rintro ⟨a, i⟩ ⟨b, j⟩ h
    have h' : a.val * 4 + i.val = b.val * 4 + j.val := congrArg Fin.val h
    have hi := i.isLt
    have hj := j.isLt
    exact Prod.ext (Fin.ext (show a.val = b.val by omega)) (Fin.ext (show i.val = j.val by omega))
  · intro r
    obtain ⟨b, i, rfl⟩ := rw4_surj r
    exact ⟨(b, i), rfl⟩

/-- A sum over the rows whose terms are 0 outside one sequence. -/
theorem sum_seq (b : Fin 32) (f : Fin 128 → EReal) (hf : ∀ b' i, b' ≠ b → f (rw4 b' i) = 0) : ∑ r, f r = ∑ i : Fin 4, f (rw4 b i) := by
  rw [sum_rows]
  exact Finset.sum_eq_single b (fun b' _ hb => Finset.sum_eq_zero fun i _ => hf b' i hb) (fun h => absurd (Finset.mem_univ b) h)

end Cert.SmpSpec

end
-- ==== Proof.SmpV.Chunk.lean ====
/- One grid point of the kernel at the ideal values: the formulas of Spec.lean, sequence by sequence. -/
module

public import proofs.«01_k».proof.Proof.SmpI.Frame
public import proofs.«01_k».proof.Proof.SmpV.Spec
public import Idealize.ShloMosaic.Lib.Pointwise

@[expose] public section

set_option maxRecDepth 16384

noncomputable section

namespace Cert.Kernel8Ideal.Smp

open Cert.Kernel8Ideal Cert.Kernel8Ideal.Gen Cert.SmpSpec
open Cert.GlaSpec (silu gate logi lbOf lbL pre pre_one pre_double outS)
open Idealize.ShloMosaic

/-! The gates, and the masks. -/

theorem pay7_apply (x4 : Vec Ideal S2x128 .f32) (zf : Vec Ideal S128x128 .f32) (r d : Fin 128) :
    k0_pay7 x4 zf (ix2 r d) = gate (lbOf (fun k => x4 (ix2 k d))) (zf (ix2 r d)) := by
  have h1 : ∀ f : Fin 1 → EReal, ∑ k, f k = f 0 := fun f => Fin.sum_univ_one f
  pointwise [k0_pay7, gate, logi, zero_sub, lbOf, h1]

theorem pay8_apply (zq : Vec Ideal S128x128 .f32) (r d : Fin 128) : k0_pay8 zq (ix2 r d) = silu (zq (ix2 r d)) := by
  pointwise [k0_pay8, silu, logi, zero_sub]

theorem pay9_apply (x4 : Vec Ideal S2x128 .f32) (zf : Vec Ideal S128x128 .f32) (r d : Fin 128) :
    k0_pay9 x4 zf (ix2 r d) = 1 - gate (lbOf (fun k => x4 (ix2 k d))) (zf (ix2 r d)) := by
  pointwise [k0_pay9, pay7_apply]

theorem select_if {p : Prop} [Decidable p] {c : BitVec 1} (hc : c = if p then 1#1 else 0#1) (x y : EReal) :
    Scalar.select c x y = if p then x else y := by
  by_cases h : p
  · rw [hc, if_pos h, if_pos h]; rfl
  · rw [hc, if_neg h, if_neg h]; rfl

theorem roll_mask : ∀ (r : Fin 128) (s : Fin 4), IntOp.cmpi CmpIPredicate.sge (IntOp.andi (BitVec.ofNat 32 r.val) 3#32) (BitVec.ofNat 32 s.val)
    = if s.val ≤ r.val % 4 then 1#1 else 0#1 := by decide +kernel
theorem pick_mask : ∀ (r : Fin 128) (s : Fin 4), IntOp.cmpi CmpIPredicate.eq (IntOp.andi (BitVec.ofNat 32 r.val) 3#32) (BitVec.ofNat 32 s.val)
    = if r.val % 4 = s.val then 1#1 else 0#1 := by decide +kernel
theorem tril_mask : ∀ r s : Fin 128, IntOp.andi (IntOp.cmpi CmpIPredicate.sge (BitVec.ofNat 32 r.val) (BitVec.ofNat 32 s.val))
    (IntOp.cmpi CmpIPredicate.eq (IntOp.shrsi .vector (BitVec.ofNat 32 r.val) 2#32) (IntOp.shrsi .vector (BitVec.ofNat 32 s.val) 2#32))
    = if s.val ≤ r.val ∧ r.val / 4 = s.val / 4 then 1#1 else 0#1 := by decide +kernel
theorem seq_mask : ∀ (k : Fin k0_t1_loop.trips) (r : Fin 128),
    k0_pay3 rowIx 0#32 1#32 k (ix2 r 0) = if r.val / 4 = k.val then 1#1 else 0#1 := by decide +kernel

theorem seq_mask' (k : Fin k0_t1_loop.trips) (r d : Fin 128) :
    k0_pay3 rowIx 0#32 1#32 k (ix2 r d) = if r.val / 4 = k.val then 1#1 else 0#1 := seq_mask k r

/-! The running sums. -/

/-- One doubling step of the running sums over each sequence's rows. -/
theorem roll_step (s : ℕ) (hs : s ≤ 3) (X : FVec Ideal S128x128 .f32) (g : Fin 32 → Fin 128 → ℕ → EReal)
    (hX : ∀ b i d, X (ix2 (rw4 b i) d) = pre (g b d) s i.val) (b : Fin 32) (i : Fin 4) (d : Fin 128) :
    addf X (select (cmpi .sge (andi (iota .tc S128x128 32 [0] iota_S128x128_d0_w32) (broadcast S128x128 3#32)) (broadcast S128x128 (BitVec.ofNat 32 s)))
      (dynamicRotate 0 (BitVec.ofNat 32 s) none X rotates_S128x128_d0) (broadcast S128x128 (Scalar.ofBits .f32 0x00000000#32))) (ix2 (rw4 b i) d)
      = pre (g b d) (s + s) i.val := by
  rw [pre_double]
  pointwise
  rw [select_if (roll_mask (rw4 b i) ⟨s, by omega⟩), hX]
  have hi := i.isLt
  have hr : (rw4 b i).val = b.val * 4 + i.val := rfl
  congr 1
  by_cases h : s ≤ i.val
  · rw [if_pos (show s ≤ (rw4 b i).val % 4 by omega), if_pos h, ← hX b ⟨i.val - s, by omega⟩ d]
    congr 2
    apply Fin.ext
    show ((rw4 b i).val + 128 - (BitVec.ofNat 32 s).toNat % 128) % 128 = b.val * 4 + (i.val - s)
    rw [BitVec.toNat_ofNat]
    omega
  · rw [if_neg (show ¬ s ≤ (rw4 b i).val % 4 by omega), if_neg h]

/-- The four entries a row's spread adds up: one is the picked row's, the others are 0. -/
theorem four {a b c d x : EReal} (h : (a = x ∧ b = 0 ∧ c = 0 ∧ d = 0) ∨ (a = 0 ∧ b = x ∧ c = 0 ∧ d = 0) ∨ (a = 0 ∧ b = 0 ∧ c = x ∧ d = 0) ∨ (a = 0 ∧ b = 0 ∧ c = 0 ∧ d = x)) :
    a + b + c + d = x := by
  rcases h with ⟨h1, h2, h3, h4⟩ | ⟨h1, h2, h3, h4⟩ | ⟨h1, h2, h3, h4⟩ | ⟨h1, h2, h3, h4⟩ <;> rw [h1, h2, h3, h4] <;> simp

theorem rot_apply (s : ℕ) (hs : s < 128) (P : FVec Ideal S128x128 .f32) (r d : Fin 128) :
    dynamicRotate 0 (BitVec.ofNat 32 s) none P rotates_S128x128_d0 (ix2 r d) = P (ix2 ⟨(r.val + 128 - s) % 128, Nat.mod_lt _ (by decide)⟩ d) := by
  pointwise
  congr 2
  apply Fin.ext
  show (r.val + 128 - (BitVec.ofNat 32 s).toNat % 128) % 128 = _
  rw [BitVec.toNat_ofNat]
  show _ = (r.val + 128 - s) % 128
  omega

/-- Row `t` of every sequence, picked and spread over the sequence's rows. -/
theorem spread (t s1 s2 s3 : ℕ) (h1 : s1 < 128) (h2 : s2 < 128) (h3 : s3 < 128) (P : FVec Ideal S128x128 .f32) (C : Fin 32 → EReal) (d : Fin 128)
    (hP : ∀ b (i : Fin 4), P (ix2 (rw4 b i) d) = if i.val = t then C b else 0) (b : Fin 32) (i : Fin 4)
    (hs : (s1 = 127 ∧ s2 = 1 ∧ s3 = 2 ∧ t = 1) ∨ (s1 = 125 ∧ s2 = 126 ∧ s3 = 127 ∧ t = 3)) :
    addf (addf (addf P (dynamicRotate 0 (BitVec.ofNat 32 s1) none P rotates_S128x128_d0)) (dynamicRotate 0 (BitVec.ofNat 32 s2) none P rotates_S128x128_d0))
      (dynamicRotate 0 (BitVec.ofNat 32 s3) none P rotates_S128x128_d0) (ix2 (rw4 b i) d) = C b := by
  have hz : ∀ n (hn : n < 128), n % 4 ≠ t → P (ix2 ⟨n, hn⟩ d) = 0 := fun n hn h => by
    obtain ⟨b', i', e⟩ := rw4_surj ⟨n, hn⟩
    have e' : n = b'.val * 4 + i'.val := congrArg Fin.val e
    rw [e, hP, if_neg (by omega)]
  have hc : ∀ n (hn : n < 128), n = b.val * 4 + t → t < 4 → P (ix2 ⟨n, hn⟩ d) = C b := fun n hn h ht => by
    rw [show (⟨n, hn⟩ : Fin 128) = rw4 b ⟨t, ht⟩ from Fin.ext h, hP, if_pos rfl]
  show P _ + dynamicRotate 0 _ none P _ _ + dynamicRotate 0 _ none P _ _ + dynamicRotate 0 _ none P _ _ = _
  rw [rot_apply s1 h1, rot_apply s2 h2, rot_apply s3 h3]
  have hb := b.isLt
  have hi := i.isLt
  have hr : (rw4 b i).val = b.val * 4 + i.val := rfl
  have hi4 : i.val = 0 ∨ i.val = 1 ∨ i.val = 2 ∨ i.val = 3 := by omega
  refine four ?_
  rcases hs with ⟨e1, e2, e3, et⟩ | ⟨e1, e2, e3, et⟩ <;> rcases hi4 with h | h | h | h
  · exact .inr (.inl ⟨hz _ _ (by omega), hc _ _ (by omega) (by omega), hz _ _ (by omega), hz _ _ (by omega)⟩)
  · exact .inl ⟨hc _ _ (by omega) (by omega), hz _ _ (by omega), hz _ _ (by omega), hz _ _ (by omega)⟩
  · exact .inr (.inr (.inl ⟨hz _ _ (by omega), hz _ _ (by omega), hc _ _ (by omega) (by omega), hz _ _ (by omega)⟩))
  · exact .inr (.inr (.inr ⟨hz _ _ (by omega), hz _ _ (by omega), hz _ _ (by omega), hc _ _ (by omega) (by omega)⟩))
  · exact .inr (.inl ⟨hz _ _ (by omega), hc _ _ (by omega) (by omega), hz _ _ (by omega), hz _ _ (by omega)⟩)
  · exact .inr (.inr (.inl ⟨hz _ _ (by omega), hz _ _ (by omega), hc _ _ (by omega) (by omega), hz _ _ (by omega)⟩))
  · exact .inr (.inr (.inr ⟨hz _ _ (by omega), hz _ _ (by omega), hz _ _ (by omega), hc _ _ (by omega) (by omega)⟩))
  · exact .inl ⟨hc _ _ (by omega) (by omega), hz _ _ (by omega), hz _ _ (by omega), hz _ _ (by omega)⟩

variable (x0 x1 x2 x3 : Vec Ideal S128x128 .f32) (x4 : Vec Ideal S2x128 .f32) (x5 : Vec Ideal S1x128 .f32) (x6 : Vec Ideal S32x1x128x128 .f32)

/-- The lower bounds a point reads, and one sequence's rows of a block and its state. -/
def lbK : Fin 128 → EReal := fun d => lbOf (fun k => x4 (ix2 k d))
def rowsK (x : Vec Ideal S128x128 .f32) (b : Fin 32) : Fin 4 → Fin 128 → EReal := fun i d => x (ix2 (rw4 b i) d)
def stK (b : Fin 32) : Fin 128 → Fin 128 → EReal := fun d e => x6 (ix4 b 0 d e)

theorem cum_apply (b : Fin 32) (i : Fin 4) (d : Fin 128) : cum (F := Ideal) x1 x4 (ix2 (rw4 b i) d) = cumS (lbK x4) (rowsK x1 b) i d := by
  have h1 := roll_step 1 (by decide) (lg x1 x4) (fun b => logGate (lbK x4) (rowsK x1 b))
    (fun b i d => by
      rw [pre_one, logGate, dif_pos i.isLt]
      pointwise [lg, k0_pay10, pay7_apply, lbK, rowsK])
  exact roll_step 2 (by decide) _ _ h1 b i d

theorem pick_apply (t : Fin 4) (b : Fin 32) (i : Fin 4) (d : Fin 128) :
    select (cmpi .eq k0_pay13 (broadcast S128x128 (BitVec.ofNat 32 t.val))) (k0_pay12 (lg x1 x4)) (broadcast S128x128 (Scalar.ofBits .f32 0x00000000#32)) (ix2 (rw4 b i) d)
      = if i.val = t.val then cumS (lbK x4) (rowsK x1 b) t d else 0 := by
  pointwise [k0_pay13]
  rw [select_if (pick_mask (rw4 b i) t)]
  have hi := i.isLt
  have hr : (rw4 b i).val = b.val * 4 + i.val := rfl
  by_cases h : i.val = t.val
  · rw [if_pos (show (rw4 b i).val % 4 = t.val by omega), if_pos h]
    have e : i = t := Fin.ext h
    subst e
    exact cum_apply x1 x4 b i d
  · rw [if_neg (show ¬ (rw4 b i).val % 4 = t.val by omega), if_neg h]

theorem mid_apply (b : Fin 32) (i : Fin 4) (d : Fin 128) : mid (F := Ideal) x1 x4 (ix2 (rw4 b i) d) = cumS (lbK x4) (rowsK x1 b) 1 d :=
  spread 1 127 1 2 (by decide) (by decide) (by decide) _ (fun b => cumS (lbK x4) (rowsK x1 b) 1 d) d (fun b i => pick_apply x1 x4 1 b i d) b i (.inl ⟨rfl, rfl, rfl, rfl⟩)

theorem last_apply (b : Fin 32) (i : Fin 4) (d : Fin 128) : last (F := Ideal) x1 x4 (ix2 (rw4 b i) d) = cumS (lbK x4) (rowsK x1 b) 3 d :=
  spread 3 125 126 127 (by decide) (by decide) (by decide) _ (fun b => cumS (lbK x4) (rowsK x1 b) 3 d) d (fun b i => pick_apply x1 x4 3 b i d) b i (.inr ⟨rfl, rfl, rfl, rfl⟩)

/-! The terms of the sequences' own rows. -/

theorem oIntra_apply (b : Fin 32) (i : Fin 4) (e : Fin 128) :
    oIntra (F := Ideal) x0 x1 x2 x4 (ix2 (rw4 b i) e) = intraS (lbK x4) (rowsK x0 b) (rowsK x1 b) (rowsK x2 b) i e := by
  unfold oIntra k0_pay16
  rw [show k0_pay12 (lg x1 x4) = cum x1 x4 from rfl, show k0_pay14 (lg x1 x4) = mid x1 x4 from rfl]
  pointwise [k0_pay17, k0_pay11, rowIx, colIx, pay8_apply, pay9_apply]
  rw [sum_seq b]
  · unfold intraS
    refine Finset.sum_congr rfl fun j _ => ?_
    rw [select_if (tril_mask (rw4 b i) (rw4 b j))]
    unfold attS
    have hi := i.isLt
    have hj := j.isLt
    have hr : (rw4 b i).val = b.val * 4 + i.val := rfl
    have hr' : (rw4 b j).val = b.val * 4 + j.val := rfl
    by_cases h : j.val ≤ i.val
    · rw [if_pos (by omega), if_pos h]
      congr 1
      refine Finset.sum_congr rfl fun d _ => ?_
      rw [cum_apply, mid_apply, cum_apply, mid_apply]
      rfl
    · rw [if_neg (by omega), if_neg h, zero_mul]
  · intro b' j hb
    have hi := i.isLt
    have hj := j.isLt
    have hr : (rw4 b i).val = b.val * 4 + i.val := rfl
    have hr' : (rw4 b' j).val = b'.val * 4 + j.val := rfl
    rw [select_if (tril_mask (rw4 b i) (rw4 b' j)), if_neg (fun h => hb (Fin.ext (by omega)))]

/-! The loop over the sequences. -/

theorem trip_lt (k : Fin k0_t1_loop.trips) : k.val < 32 := lt_of_lt_of_eq k.isLt trips_eq

theorem seq_apply (k : Fin k0_t1_loop.trips) (d e : Fin 128) : seq k x6 (ix4 0 0 d e) = stK x6 ⟨k.val, trip_lt k⟩ d e := by
  show x6 ((seqRect k).emb (ix4 0 0 d e)) = _
  unfold stK
  congr 1
  funext a
  apply Fin.ext
  rw [show (((seqRect k).emb (ix4 0 0 d e)) a).val = (k0_off1 k) a + 1 * ((ix4 0 0 d e : S1x1x128x128.Idx) a).val from rfl, k0_off1_eq]
  match a with
  | ⟨0, _⟩ => show k.val + 1 * 0 = k.val; omega
  | ⟨1, _⟩ => rfl
  | ⟨2, _⟩ => show 0 + 1 * d.val = d.val; omega
  | ⟨3, _⟩ => show 0 + 1 * e.val = e.val; omega

theorem row_apply (k : Fin k0_t1_loop.trips) (x : Vec Ideal S128x128 .f32) (d : Fin 128) : row k x (ix2 0 d) = x (ix2 (rw4 ⟨k.val, trip_lt k⟩ 0) d) := by
  show x ((rowRect k).emb (ix2 0 d)) = _
  congr 1
  funext a
  apply Fin.ext
  rw [show (((rowRect k).emb (ix2 0 d)) a).val = (k0_off2 k) a + 1 * ((ix2 0 d : S1x128.Idx) a).val from rfl, k0_off2_eq]
  match a with
  | ⟨0, _⟩ => show 4 * k.val + 1 * 0 = k.val * 4 + 0; omega
  | ⟨1, _⟩ => show 0 + 1 * d.val = d.val; omega

theorem pay5_apply (k : Fin k0_t1_loop.trips) (s : Vec Ideal S1x1x128x128 .f32) (w : Vec Ideal S128x128 .f32) (qin : Vec Ideal S128x128 .bf16) (r e : Fin 128) :
    k0_pay5 rowIx 0#32 1#32 k s w qin (ix2 r e) = w (ix2 r e) + if r.val / 4 = k.val then ∑ d, qin (ix2 r d) * s (ix4 0 0 d e) else 0 := by
  pointwise [k0_pay5, k0_pay4]
  rw [select_if (seq_mask' k r e)]

theorem pay6_apply (k : Fin k0_t1_loop.trips) (s : Vec Ideal S1x1x128x128 .f32) (kout : Vec Ideal S128x128 .f32) (l : Vec Ideal S1x128 .f32) (v : Vec Ideal S128x128 .bf16) (d e : Fin 128) :
    k0_pay6 rowIx 0#32 1#32 k s kout l v (ix2 d e) = Ideal.exp (l (ix2 0 d)) * s (ix4 0 0 d e) + ∑ r : Fin 128, v (ix2 r e) * if r.val / 4 = k.val then kout (ix2 r d) else 0 := by
  pointwise [k0_pay6, k0_pay4]
  congr 1
  refine Finset.sum_congr rfl fun r _ => ?_
  rw [select_if (seq_mask' k r d), mul_ite, mul_zero]

theorem pay1_apply (v : Vec Ideal S128x128 .f32) (d e : Fin 128) : k0_pay1 (F := Ideal) v (ix4 0 0 d e) = v (ix2 d e) := by
  pointwise [k0_pay1]

theorem oLoop_apply (b : Fin 32) (i : Fin 4) (e : Fin 128) (w : Vec Ideal S128x128 .f32) (k : ℕ) (hk : k ≤ 32) :
    oLoop (F := Ideal) x6 (qIn x0 x1 x4) w k (ix2 (rw4 b i) e)
      = w (ix2 (rw4 b i) e) + if b.val < k then interS (lbK x4) (rowsK x0 b) (rowsK x1 b) (stK x6 b) i e else 0 := by
  have hi := i.isLt
  have hr : (rw4 b i).val = b.val * 4 + i.val := rfl
  induction k with
  | zero => rw [if_neg (Nat.not_lt_zero _), add_zero]; rfl
  | succ k ih =>
    have hlt : k < k0_t1_loop.trips := by rw [trips_eq]; exact hk
    rw [show k + 1 = (⟨k, hlt⟩ : Fin k0_t1_loop.trips).val + 1 from rfl, oLoop_succ, pay5_apply, ih (by omega), add_assoc]
    congr 1
    by_cases h : b.val = k
    · rw [if_neg (by omega), if_pos (show (rw4 b i).val / 4 = k by omega), if_pos (show b.val < k + 1 by omega), zero_add]
      unfold interS
      refine Finset.sum_congr rfl fun d _ => ?_
      rw [seq_apply]
      congr 1
      · pointwise [qIn, k0_pay18, pay8_apply, cum_apply]
        rfl
      · exact congrArg (fun b => stK x6 b d e) (Fin.ext h.symm)
    · rw [if_neg (show ¬ (rw4 b i).val / 4 = k by omega), add_zero]
      by_cases h' : b.val < k
      · rw [if_pos h', if_pos (show b.val < k + 1 by omega)]
      · rw [if_neg h', if_neg (show ¬ b.val < k + 1 by omega)]

theorem oEnd_rows (b : Fin 32) (i : Fin 4) (e : Fin 128) :
    oLoop (F := Ideal) x6 (qIn x0 x1 x4) (oIntra x0 x1 x2 x4) 32 (ix2 (rw4 b i) e)
      = oS (lbK x4) (rowsK x0 b) (rowsK x1 b) (rowsK x2 b) (stK x6 b) i e := by
  rw [oLoop_apply _ _ _ _ _ _ _ _ _ le_rfl, if_pos b.isLt, oIntra_apply]
  rfl

/-- The output block. -/
theorem oEnd_apply (b : Fin 32) (i : Fin 4) (e : Fin 128) :
    oEnd (F := Ideal) x0 x1 x2 x3 x4 x5 x6 (ix2 (rw4 b i) e)
      = outS (fun d => x5 (ix2 0 d)) (oS (lbK x4) (rowsK x0 b) (rowsK x1 b) (rowsK x2 b) (stK x6 b) i) (rowsK x3 b i) e := by
  unfold oEnd
  generalize hO : oLoop (F := Ideal) x6 (qIn x0 x1 x4) (oIntra x0 x1 x2 x4) 32 = O
  have hO' : ∀ e, O (ix2 (rw4 b i) e) = oS (lbK x4) (rowsK x0 b) (rowsK x1 b) (rowsK x2 b) (stK x6 b) i e := fun e => by
    rw [← hO]; exact oEnd_rows x0 x1 x2 x4 x6 b i e
  pointwise [k0_pay2, hO', outS, silu, logi, zero_sub, rowsK]

/-- The states' block. -/
theorem sEnd_apply (b : Fin 32) (d e : Fin 128) :
    sEnd (F := Ideal) x1 x2 x4 x6 (ix4 b 0 d e) = sS (lbK x4) (rowsK x1 b) (rowsK x2 b) (stK x6 b) d e := by
  have hlt : b.val < k0_t1_loop.trips := by rw [trips_eq]; exact b.isLt
  show k0_pay1 (k0_pay6 rowIx 0#32 1#32 ⟨b.val, hlt⟩ (seq ⟨b.val, hlt⟩ x6) (kOut x1 x4) (row ⟨b.val, hlt⟩ (lastIn x1 x4)) (vIn x2)) (inSeq (ix4 b 0 d e)) = _
  have e1 : inSeq (ix4 b 0 d e) = ix4 0 0 d e := by
    funext a
    match a with
    | ⟨0, _⟩ => rfl
    | ⟨1, _⟩ => rfl
    | ⟨2, _⟩ => rfl
    | ⟨3, _⟩ => rfl
  rw [e1, pay1_apply, pay6_apply, seq_apply, row_apply, sum_seq b]
  · unfold sS
    congr 1
    · congr 1
      pointwise [lastIn, k0_pay20]
      rw [last_apply]
    · refine Finset.sum_congr rfl fun i _ => ?_
      have hi := i.isLt
      have hr : (rw4 b i).val = b.val * 4 + i.val := rfl
      rw [if_pos (show (rw4 b i).val / 4 = b.val by omega), mul_comm]
      congr 1
      · pointwise [kOut, k0_pay21, pay9_apply, cum_apply, last_apply]
        rfl
      · pointwise [vIn, k0_pay19, k0_pay11, rowsK]
  · intro b' i hb
    have hi := i.isLt
    have hr : (rw4 b' i).val = b'.val * 4 + i.val := rfl
    rw [if_neg (fun h => hb (Fin.ext (show b'.val = b.val by have h' : (rw4 b' i).val / 4 = b.val := h; omega))), mul_zero]

end Cert.Kernel8Ideal.Smp

end
-- ==== Proof.SmpV.Value.lean ====
/- The kernel's two result arrays at the ideal values: the blocks read off the arguments, and from the blocks a point leaves
   the whole arrays. -/
module

public import proofs.«01_k».proof.Proof.SmpV.Chunk
public import Idealize.ShloMosaic.Lib.Pipeline.ValueKit

@[expose] public section

set_option maxRecDepth 16384

noncomputable section

namespace Cert.Kernel8Ideal.Smp

open Cert.Kernel8Ideal Cert.Kernel8Ideal.Gen Cert.SmpSpec
open Cert.GlaSpec (lbOf lbL outS)
open Idealize.ShloMosaic Idealize.ShloMosaic.TcCoe Idealize.SL.Sem

theorem idx0 : ∀ t : Fin cfg0.N, win0_0.index t (0 : Fin 2) = 64 ∧ win0_0.index t (1 : Fin 2) = t.val + 0 := (by decide +kernel : ∀ t : Fin grid0.N, _)
theorem idx1 : ∀ t : Fin cfg0.N, win0_1.index t (0 : Fin 2) = 64 ∧ win0_1.index t (1 : Fin 2) = t.val + 16 := (by decide +kernel : ∀ t : Fin grid0.N, _)
theorem idx2 : ∀ t : Fin cfg0.N, win0_2.index t (0 : Fin 2) = 64 ∧ win0_2.index t (1 : Fin 2) = t.val + 32 := (by decide +kernel : ∀ t : Fin grid0.N, _)
theorem idx3 : ∀ t : Fin cfg0.N, win0_3.index t (0 : Fin 2) = 64 ∧ win0_3.index t (1 : Fin 2) = t.val + 48 := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 4) = 0 ∧ win0_6.index t (1 : Fin 4) = t.val ∧ win0_6.index t (2 : Fin 4) = 0 ∧ win0_6.index t (3 : Fin 4) = 0 := (by decide +kernel : ∀ t : Fin grid0.N, _)
theorem idx7 : ∀ t : Fin cfg0.N, win0_7.index t (0 : Fin 2) = 0 ∧ win0_7.index t (1 : Fin 2) = t.val := (by decide +kernel : ∀ t : Fin grid0.N, _)
theorem idx8 : ∀ t : Fin cfg0.N, win0_8.index t (0 : Fin 4) = 0 ∧ win0_8.index t (1 : Fin 4) = t.val ∧ win0_8.index t (2 : Fin 4) = 0 ∧ win0_8.index t (3 : Fin 4) = 0 := (by decide +kernel : ∀ t : Fin grid0.N, _)

/-- A point's head. -/
def headOf (t : Fin cfg0.N) : Fin 16 := ⟨t.val, lt_of_lt_of_eq t.isLt (show cfg0.N = 16 from N_0)⟩

variable (m : (ℓ : Loc nD τ sig) → Buf (Elt Ideal) ℓ) (c : Dev nD) (t : Fin cfg0.N)

/-- The arguments. -/
abbrev argZ : (⟨2, ![8320, 8192]⟩ : Shape).Idx → EReal := m ((c : Thread nD τ).loc main_arg0)
abbrev argS : (⟨5, ![1, 32, 16, 128, 128]⟩ : Shape).Idx → EReal := m ((c : Thread nD τ).loc main_arg1)
abbrev argL : (⟨2, ![2, 2048]⟩ : Shape).Idx → EReal := m ((c : Thread nD τ).loc main_arg2)
abbrev argG : (⟨2, ![1, 128]⟩ : Shape).Idx → EReal := m ((c : Thread nD τ).loc main_arg3)

theorem rows0 (b : Fin 32) : rowsK (iblk m c 0 t) b = qZ (argZ m c) (headOf t) b := by
  funext i d
  unfold rowsK qZ
  show V m c main_arg0 (((cfg0.win 0).blk t).view.emb _) = _
  rw [V_main_arg0]
  refine congrArg (argZ m c) ?_
  funext a
  apply Fin.ext
  obtain ⟨e0, e1⟩ := idx0 t
  match a with
  | ⟨0, _⟩ => show win0_0.index t (0 : Fin 2) * 128 + 1 * (b.val * 4 + i.val) = 8192 + (b.val * 4 + i.val); omega
  | ⟨1, _⟩ => show win0_0.index t (1 : Fin 2) * 128 + 1 * d.val = t.val * 128 + d.val; omega

theorem rows1 (b : Fin 32) : rowsK (iblk m c 1 t) b = fZ (argZ m c) (headOf t) b := by
  funext i d
  unfold rowsK fZ
  show V m c main_arg0 (((cfg0.win 1).blk t).view.emb _) = _
  rw [V_main_arg0]
  refine congrArg (argZ m c) ?_
  funext a
  apply Fin.ext
  obtain ⟨e0, e1⟩ := idx1 t
  match a with
  | ⟨0, _⟩ => show win0_1.index t (0 : Fin 2) * 128 + 1 * (b.val * 4 + i.val) = 8192 + (b.val * 4 + i.val); omega
  | ⟨1, _⟩ => show win0_1.index t (1 : Fin 2) * 128 + 1 * d.val = 2048 + (t.val * 128 + d.val); omega

theorem rows2 (b : Fin 32) : rowsK (iblk m c 2 t) b = iZ (argZ m c) (headOf t) b := by
  funext i d
  unfold rowsK iZ
  show V m c main_arg0 (((cfg0.win 2).blk t).view.emb _) = _
  rw [V_main_arg0]
  refine congrArg (argZ m c) ?_
  funext a
  apply Fin.ext
  obtain ⟨e0, e1⟩ := idx2 t
  match a with
  | ⟨0, _⟩ => show win0_2.index t (0 : Fin 2) * 128 + 1 * (b.val * 4 + i.val) = 8192 + (b.val * 4 + i.val); omega
  | ⟨1, _⟩ => show win0_2.index t (1 : Fin 2) * 128 + 1 * d.val = 4096 + (t.val * 128 + d.val); omega

theorem rows3 (b : Fin 32) : rowsK (iblk m c 3 t) b = gZ (argZ m c) (headOf t) b := by
  funext i d
  unfold rowsK gZ
  show V m c main_arg0 (((cfg0.win 3).blk t).view.emb _) = _
  rw [V_main_arg0]
  refine congrArg (argZ m c) ?_
  funext a
  apply Fin.ext
  obtain ⟨e0, e1⟩ := idx3 t
  match a with
  | ⟨0, _⟩ => show win0_3.index t (0 : Fin 2) * 128 + 1 * (b.val * 4 + i.val) = 8192 + (b.val * 4 + i.val); omega
  | ⟨1, _⟩ => show win0_3.index t (1 : Fin 2) * 128 + 1 * d.val = 6144 + (t.val * 128 + d.val); omega

theorem lb_eq : lbK (iblk m c 4 t) = lbL (argL m c) (headOf t) := by
  funext d
  unfold lbK lbL
  congr 1
  funext k
  show V m c main_arg2 (((cfg0.win 4).blk t).view.emb _) = _
  rw [V_main_arg2]
  refine congrArg (argL m c) ?_
  funext a
  apply Fin.ext
  obtain ⟨e0, e1⟩ := idx4 t
  match a with
  | ⟨0, _⟩ => show win0_4.index t (0 : Fin 2) * 2 + 1 * k.val = k.val; omega
  | ⟨1, _⟩ => show win0_4.index t (1 : Fin 2) * 128 + 1 * d.val = t.val * 128 + d.val; omega

/-- The host's two reshapes give the gain back. -/
theorem V_gain : V m c main_v2 = argG m c := by
  have e : V m c main_v2 = shapeCast S1x128 (shapeCast S128 (argG m c) shapeCasts_S1x128_S128) shapeCasts_S128_S1x128 := by
    show StableHlo.after hostOps0 _ (Proc.devRef .tc main_v2) = _
    after_results
    rfl
  rw [e, shapeCast_shapeCast]

theorem gain_eq : (fun d : Fin 128 => iblk m c 5 t (ix2 0 d)) = fun d => argG m c (ix2 0 d) := by
  funext d
  show V m c main_v2 (((cfg0.win 5).blk t).view.emb _) = _
  rw [V_gain]
  refine congrArg (argG m c) ?_
  funext a
  apply Fin.ext
  obtain ⟨e0, e1⟩ := idx5 t
  match a with
  | ⟨0, _⟩ => show win0_5.index t (0 : Fin 2) * 1 + 1 * 0 = 0; omega
  | ⟨1, _⟩ => show win0_5.index t (1 : Fin 2) * 128 + 1 * d.val = d.val; omega

/-- The states without their leading axis. -/
theorem V_state : V m c main_v0 = shapeCast S32x16x128x128 (argS m c) shapeCasts_S1x32x16x128x128_S32x16x128x128 := by
  show StableHlo.after hostOps0 _ (Proc.devRef .tc main_v0) = _
  after_results
  rfl

theorem st_eq (b : Fin 32) : stK (iblk m c 6 t) b = sZ (argS m c) (headOf t) b := by
  funext d e
  unfold stK sZ
  show V m c main_v0 (((cfg0.win 6).blk t).view.emb _) = _
  rw [V_state]
  have e' : ((cfg0.win 6).blk t).view.emb (ix4 b 0 d e) = (ix4 b (headOf t) d e : S32x16x128x128.Idx) := by
    funext a
    apply Fin.ext
    obtain ⟨e0, e1, e2, e3⟩ := idx6 t
    match a with
    | ⟨0, _⟩ => show win0_6.index t (0 : Fin 4) * 32 + 1 * b.val = b.val; omega
    | ⟨1, _⟩ => show win0_6.index t (1 : Fin 4) * 1 + 1 * 0 = t.val; omega
    | ⟨2, _⟩ => show win0_6.index t (2 : Fin 4) * 128 + 1 * d.val = d.val; omega
    | ⟨3, _⟩ => show win0_6.index t (3 : Fin 4) * 128 + 1 * e.val = e.val; omega
  refine (congrArg _ e').trans ?_
  pointwise

theorem oEndAt_apply (j : S128x128.Idx) (J : (⟨2, ![128, 2048]⟩ : Shape).Idx) (h0 : (J 0).val = (j 0).val) (h1 : (J 1).val = t.val * 128 + (j 1).val) :
    oEndAt m c t j = outAll (argZ m c) (argS m c) (argL m c) (argG m c) J := by
  have hj : (j 0).val < 128 := (j 0).isLt
  have hj1 : (j 1).val < 128 := (j 1).isLt
  have e : j = ix2 (rw4 ⟨(j 0).val / 4, by omega⟩ ⟨(j 0).val % 4, by omega⟩) ⟨(j 1).val, hj1⟩ := by
    funext a
    apply Fin.ext
    match a with
    | ⟨0, _⟩ => show (j 0).val = (j 0).val / 4 * 4 + (j 0).val % 4; omega
    | ⟨1, _⟩ => rfl
  rw [e]
  unfold oEndAt
  refine (oEnd_apply _ _ _ _ _ _ _ _ _ _).trans ?_
  rw [rows0, rows1, rows2, rows3, lb_eq, gain_eq, st_eq]
  refine (outAll_apply _ _ _ (headOf t) _ _ _ _ _ ?_ ?_).symm
  · show (J 0).val = (j 0).val / 4 * 4 + (j 0).val % 4; omega
  · exact h1

/-- The first result array after the run. -/
theorem final7 : (dats m 0 c).arrAt 7 cfg0.N = outAll (argZ m c) (argS m c) (argL m c) (argG m c) := by
  refine (dats m 0 c).arrAt_eq_of_covers 7 _ (by decide +kernel) fun t hf y => ?_
  rw [after0_7]
  obtain ⟨e0, e1⟩ := idx7 t
  refine oEndAt_apply m c t _ _ ?_ ?_
  · show win0_7.index t (0 : Fin 2) * 128 + 1 * (y 0).val = (y 0).val; omega
  · show win0_7.index t (1 : Fin 2) * 128 + 1 * (y 1).val = t.val * 128 + (y 1).val; omega

/-- The second. -/
theorem final8 : (dats m 0 c).arrAt 8 cfg0.N = stateAll (argZ m c) (argS m c) (argL m c) := by
  refine (dats m 0 c).arrAt_eq_of_covers 8 _ (by decide +kernel) fun t hf y => ?_
  rw [after0_8]
  obtain ⟨e0, e1, e2, e3⟩ := idx8 t
  have hy0 : (y 0).val < 32 := (y 0).isLt
  have hy1 : (y 1).val < 1 := (y 1).isLt
  have hy2 : (y 2).val < 128 := (y 2).isLt
  have hy3 : (y 3).val < 128 := (y 3).isLt
  have e4 : ((cfg0.win 8).blk t).view.emb y = ix4 ⟨(y 0).val, hy0⟩ (headOf t) ⟨(y 2).val, hy2⟩ ⟨(y 3).val, hy3⟩ := by
    funext a
    apply Fin.ext
    match a with
    | ⟨0, _⟩ => show win0_8.index t (0 : Fin 4) * 32 + 1 * (y 0).val = (y 0).val; omega
    | ⟨1, _⟩ => show win0_8.index t (1 : Fin 4) * 1 + 1 * (y 1).val = t.val; omega
    | ⟨2, _⟩ => show win0_8.index t (2 : Fin 4) * 128 + 1 * (y 2).val = (y 2).val; omega
    | ⟨3, _⟩ => show win0_8.index t (3 : Fin 4) * 128 + 1 * (y 3).val = (y 3).val; omega
  rw [e4]
  have e5 : ((cfg0.win 8).xinj (cfg0.grid.coords t) y : S32x1x128x128.Idx) = ix4 ⟨(y 0).val, hy0⟩ 0 ⟨(y 2).val, hy2⟩ ⟨(y 3).val, hy3⟩ := by
    funext a
    apply Fin.ext
    match a with
    | ⟨0, _⟩ => rfl
    | ⟨1, _⟩ => show (y 1).val = 0; omega
    | ⟨2, _⟩ => rfl
    | ⟨3, _⟩ => rfl
  show sEndAt m c t ((cfg0.win 8).xinj (cfg0.grid.coords t) y) = _
  rw [e5]
  unfold sEndAt
  refine (sEnd_apply _ _ _ _ _ _ _).trans ?_
  rw [rows1, rows2, lb_eq, st_eq]
  rfl

/-- The kernel's run with its two results as functions of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v3_0) = outAll (argZ m c) (argS m c) (argL m c) (argG m c)
      ∧ r.2.mem ((c.tc : Thread nD τ).loc main_v3_1) = stateAll (argZ m c) (argS m c) (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 7).trans (final7 m c), ((h.1 c).1 8).trans (final8 m c), h.2 c⟩)
    (θ_run_and (run_main m ρ) (unchanged m ρ))

end Cert.Kernel8Ideal.Smp

end
-- ==== Proof.SmpR.Defs.lean ====
/- The reference's arrays by name, in the order its operations compute them, and its two results as the last of them. -/
module

public import proofs.«01_k».proof.Proof.Gen.Reference8Ideal.Run
public import proofs.«01_k».proof.Proof.GlaR.Window

@[expose] public section

set_option maxRecDepth 16384

noncomputable section

namespace Cert.Reference8Ideal.Smp

open Cert.Reference8Ideal Cert.Reference8Ideal.Gen Cert.Reference8Ideal.Value
open Idealize.ShloMosaic Idealize.ShloMosaic.TcCoe Idealize.SL.Sem Idealize.ShloMosaic.StableHlo

def r_cst : FVec Ideal S_ .f32 := (constant (F := Ideal) S_ .f32 0xFF800000#32)
def r_v0 (L : FVec Ideal S2x2048 .f32) : FVec Ideal S2048 .f32 := Host.reduce FloatOps.maximumf L r_cst reducesTo_S2x2048_S2048_d0 h_S_
def r_cst_0 : FVec Ideal S_ .f32 := (constant (F := Ideal) S_ .f32 0xFF800000#32)
def r_v1 : FVec Ideal S2048 .f32 := broadcastInDim S2048 ![] bcast_S_S2048 r_cst_0
def r_v2 (L : FVec Ideal S2x2048 .f32) : FVec Ideal S2048 .f32 := maximumf (F := Ideal) r_v1 (r_v0 L)
def r_v3 (L : FVec Ideal S2x2048 .f32) : FVec Ideal S1x2048 .f32 := broadcastInDim S1x2048 ![1] bcast_S2048_S1x2048_1 (r_v2 L)
def r_v4 (L : FVec Ideal S2x2048 .f32) : FVec Ideal S2x2048 .f32 := broadcastInDim S2x2048 ![0, 1] bcast_S1x2048_S2x2048_0_1 (r_v3 L)
def r_v5 (L : FVec Ideal S2x2048 .f32) : FVec Ideal S2x2048 .f32 := subf (F := Ideal) L (r_v4 L)
def r_v6 (L : FVec Ideal S2x2048 .f32) : FVec Ideal S2x2048 .f32 := Host.exp (F := Ideal) (r_v5 L)
def r_cst_1 : FVec Ideal S_ .f32 := (constant (F := Ideal) S_ .f32 0x00000000#32)
def r_v7 (L : FVec Ideal S2x2048 .f32) : FVec Ideal S2048 .f32 := Host.reduceAdd (F := Ideal) (r_v6 L) r_cst_1 reducesTo_S2x2048_S2048_d0 h_S_
def r_v8 (L : FVec Ideal S2x2048 .f32) : FVec Ideal S1x2048 .f32 := broadcastInDim S1x2048 ![1] bcast_S2048_S1x2048_1 (r_v7 L)
def r_v9 (L : FVec Ideal S2x2048 .f32) : FVec Ideal S2x2048 .f32 := broadcastInDim S2x2048 ![0, 1] bcast_S1x2048_S2x2048_0_1 (r_v8 L)
def r_v10 (L : FVec Ideal S2x2048 .f32) : FVec Ideal S2x2048 .f32 := Host.divf (F := Ideal) (r_v6 L) (r_v9 L)
def r_call0_call0_cst : FVec Ideal S_ .f32 := (constant (F := Ideal) S_ .f32 0x00000000#32)
def r_call0_call0_v0 : FVec Ideal S_ .f32 := broadcastInDim S_ ![] bcast_S_S_ r_call0_call0_cst
def r_v11 (L : FVec Ideal S2x2048 .f32) : FVec Ideal S2x2048 .f32 := Host.reduceWindowAdd (F := Ideal) ![2, 1] ![1, 1] ![1, 0] ![0, 0] (r_v10 L) r_call0_call0_v0 reduceWindows_S2x2048_S2x2048_w2s1p1_0_w1s1p0_0 h_S_
def r_v12 (L : FVec Ideal S2x2048 .f32) : FVec Ideal S1x2048 .f32 := extractStridedSlice S1x2048 ![0, 0] (r_v11 L) slices_S2x2048_S1x2048_0_0
def r_v13 (L : FVec Ideal S2x2048 .f32) : FVec Ideal S2048 .f32 := shapeCast S2048 (r_v12 L) shapeCasts_S1x2048_S2048
def r_v14 (Z : FVec Ideal S8320x8192 .f32) : FVec Ideal S128x8192 .f32 := extractStridedSlice S128x8192 ![8192, 0] Z slices_S8320x8192_S128x8192_8192_0
def r_v15 (Z : FVec Ideal S8320x8192 .f32) : FVec Ideal S32x4x8192 .f32 := shapeCast S32x4x8192 (r_v14 Z) shapeCasts_S128x8192_S32x4x8192
def r_v16 (Z : FVec Ideal S8320x8192 .f32) : FVec Ideal S32x4x2048 .f32 := extractStridedSlice S32x4x2048 ![0, 0, 0] (r_v15 Z) slices_S32x4x8192_S32x4x2048_0_0_0
def r_v17 (Z : FVec Ideal S8320x8192 .f32) : FVec Ideal S32x4x2048 .f32 := extractStridedSlice S32x4x2048 ![0, 0, 2048] (r_v15 Z) slices_S32x4x8192_S32x4x2048_0_0_2048
def r_v18 (Z : FVec Ideal S8320x8192 .f32) : FVec Ideal S32x4x2048 .f32 := extractStridedSlice S32x4x2048 ![0, 0, 4096] (r_v15 Z) slices_S32x4x8192_S32x4x2048_0_0_4096
def r_v19 (Z : FVec Ideal S8320x8192 .f32) : FVec Ideal S32x4x2048 .f32 := extractStridedSlice S32x4x2048 ![0, 0, 6144] (r_v15 Z) slices_S32x4x8192_S32x4x2048_0_0_6144
def r_v20 (L : FVec Ideal S2x2048 .f32) : FVec Ideal S16x128 .f32 := shapeCast S16x128 (r_v13 L) shapeCasts_S2048_S16x128
def r_cst_2 : FVec Ideal S_ .f32 := (constant (F := Ideal) S_ .f32 0x3F800000#32)
def r_v21 : FVec Ideal S16x128 .f32 := broadcastInDim S16x128 ![] bcast_S_S16x128 r_cst_2
def r_v22 (L : FVec Ideal S2x2048 .f32) : FVec Ideal S16x128 .f32 := subf (F := Ideal) r_v21 (r_v20 L)
def r_v23 (Z : FVec Ideal S8320x8192 .f32) : FVec Ideal S32x4x16x128 .f32 := shapeCast S32x4x16x128 (r_v17 Z) shapeCasts_S32x4x2048_S32x4x16x128
def r_v24 (Z : FVec Ideal S8320x8192 .f32) : FVec Ideal S32x4x16x128 .f32 := Host.negf (F := Ideal) (r_v23 Z)
def r_v25 (Z : FVec Ideal S8320x8192 .f32) : FVec Ideal S32x4x16x128 .f32 := Host.exp (F := Ideal) (r_v24 Z)
def r_cst_3 : FVec Ideal S_ .f32 := (constant (F := Ideal) S_ .f32 0x3F800000#32)
def r_v26 : FVec Ideal S32x4x16x128 .f32 := broadcastInDim S32x4x16x128 ![] bcast_S_S32x4x16x128 r_cst_3
def r_v27 (Z : FVec Ideal S8320x8192 .f32) : FVec Ideal S32x4x16x128 .f32 := addf (F := Ideal) r_v26 (r_v25 Z)
def r_cst_4 : FVec Ideal S_ .f32 := (constant (F := Ideal) S_ .f32 0x3F800000#32)
def r_v28 : FVec Ideal S32x4x16x128 .f32 := broadcastInDim S32x4x16x128 ![] bcast_S_S32x4x16x128 r_cst_4
def r_v29 (Z : FVec Ideal S8320x8192 .f32) : FVec Ideal S32x4x16x128 .f32 := Host.divf (F := Ideal) r_v28 (r_v27 Z)
def r_v30 (L : FVec Ideal S2x2048 .f32) : FVec Ideal S1x1x16x128 .f32 := broadcastInDim S1x1x16x128 ![2, 3] bcast_S16x128_S1x1x16x128_2_3 (r_v22 L)
def r_v31 (L : FVec Ideal S2x2048 .f32) : FVec Ideal S32x4x16x128 .f32 := broadcastInDim S32x4x16x128 ![0, 1, 2, 3] bcast_S1x1x16x128_S32x4x16x128_0_1_2_3 (r_v30 L)
def r_v32 (Z : FVec Ideal S8320x8192 .f32) (L : FVec Ideal S2x2048 .f32) : FVec Ideal S32x4x16x128 .f32 := mulf (F := Ideal) (r_v31 L) (r_v29 Z)
def r_v33 (L : FVec Ideal S2x2048 .f32) : FVec Ideal S1x1x16x128 .f32 := broadcastInDim S1x1x16x128 ![2, 3] bcast_S16x128_S1x1x16x128_2_3 (r_v20 L)
def r_v34 (L : FVec Ideal S2x2048 .f32) : FVec Ideal S32x4x16x128 .f32 := broadcastInDim S32x4x16x128 ![0, 1, 2, 3] bcast_S1x1x16x128_S32x4x16x128_0_1_2_3 (r_v33 L)
def r_v35 (Z : FVec Ideal S8320x8192 .f32) (L : FVec Ideal S2x2048 .f32) : FVec Ideal S32x4x16x128 .f32 := addf (F := Ideal) (r_v34 L) (r_v32 Z L)
def r_v36 (Z : FVec Ideal S8320x8192 .f32) : FVec Ideal S32x4x16x128 .f32 := shapeCast S32x4x16x128 (r_v16 Z) shapeCasts_S32x4x2048_S32x4x16x128
def r_call1_v0 (Z : FVec Ideal S8320x8192 .f32) : FVec Ideal S32x4x16x128 .f32 := Host.negf (F := Ideal) (r_v36 Z)
def r_call1_v1 (Z : FVec Ideal S8320x8192 .f32) : FVec Ideal S32x4x16x128 .f32 := Host.exp (F := Ideal) (r_call1_v0 Z)
def r_call1_cst : FVec Ideal S_ .f32 := (constant (F := Ideal) S_ .f32 0x3F800000#32)
def r_call1_v2 : FVec Ideal S32x4x16x128 .f32 := broadcastInDim S32x4x16x128 ![] bcast_S_S32x4x16x128 r_call1_cst
def r_call1_v3 (Z : FVec Ideal S8320x8192 .f32) : FVec Ideal S32x4x16x128 .f32 := addf (F := Ideal) r_call1_v2 (r_call1_v1 Z)
def r_call1_cst_0 : FVec Ideal S_ .f32 := (constant (F := Ideal) S_ .f32 0x3F800000#32)
def r_call1_v4 : FVec Ideal S32x4x16x128 .f32 := broadcastInDim S32x4x16x128 ![] bcast_S_S32x4x16x128 r_call1_cst_0
def r_call1_v5 (Z : FVec Ideal S8320x8192 .f32) : FVec Ideal S32x4x16x128 .f32 := Host.divf (F := Ideal) r_call1_v4 (r_call1_v3 Z)
def r_v37 (Z : FVec Ideal S8320x8192 .f32) : FVec Ideal S32x4x16x128 .f32 := mulf (F := Ideal) (r_v36 Z) (r_call1_v5 Z)
def r_v38 (S0 : FVec Ideal S1x32x16x128x128 .f32) : FVec Ideal S32x16x128x128 .f32 := shapeCast S32x16x128x128 S0 shapeCasts_S1x32x16x128x128_S32x16x128x128
def r_v39 (Z : FVec Ideal S8320x8192 .f32) : FVec Ideal S32x16x4x128 .f32 := transpose S32x16x4x128 [0, 2, 1, 3] (r_v37 Z) transposes_S32x4x16x128_S32x16x4x128_0_2_1_3
def r_cst_5 : FVec Ideal S_ .f32 := (constant (F := Ideal) S_ .f32 0x3F800000#32)
def r_v40 : FVec Ideal S32x4x16x128 .f32 := broadcastInDim S32x4x16x128 ![] bcast_S_S32x4x16x128 r_cst_5
def r_v41 (Z : FVec Ideal S8320x8192 .f32) (L : FVec Ideal S2x2048 .f32) : FVec Ideal S32x4x16x128 .f32 := subf (F := Ideal) r_v40 (r_v35 Z L)
def r_v42 (Z : FVec Ideal S8320x8192 .f32) (L : FVec Ideal S2x2048 .f32) : FVec Ideal S32x16x4x128 .f32 := transpose S32x16x4x128 [0, 2, 1, 3] (r_v41 Z L) transposes_S32x4x16x128_S32x16x4x128_0_2_1_3
def r_v43 (Z : FVec Ideal S8320x8192 .f32) : FVec Ideal S32x4x16x128 .f32 := shapeCast S32x4x16x128 (r_v18 Z) shapeCasts_S32x4x2048_S32x4x16x128
def r_v44 (Z : FVec Ideal S8320x8192 .f32) : FVec Ideal S32x16x4x128 .f32 := transpose S32x16x4x128 [0, 2, 1, 3] (r_v43 Z) transposes_S32x4x16x128_S32x16x4x128_0_2_1_3
def r_v45 (Z : FVec Ideal S8320x8192 .f32) (L : FVec Ideal S2x2048 .f32) : FVec Ideal S32x4x16x128 .f32 := Host.log (F := Ideal) (r_v35 Z L)
def r_v46 (Z : FVec Ideal S8320x8192 .f32) (L : FVec Ideal S2x2048 .f32) : FVec Ideal S32x16x4x128 .f32 := transpose S32x16x4x128 [0, 2, 1, 3] (r_v45 Z L) transposes_S32x4x16x128_S32x16x4x128_0_2_1_3
def r_call2_call0_cst : FVec Ideal S_ .f32 := (constant (F := Ideal) S_ .f32 0x00000000#32)
def r_call2_call0_v0 : FVec Ideal S_ .f32 := broadcastInDim S_ ![] bcast_S_S_ r_call2_call0_cst
def r_v47 (Z : FVec Ideal S8320x8192 .f32) (L : FVec Ideal S2x2048 .f32) : FVec Ideal S32x16x4x128 .f32 := Host.reduceWindowAdd (F := Ideal) ![1, 1, 4, 1] ![1, 1, 1, 1] ![0, 0, 3, 0] ![0, 0, 0, 0] (r_v46 Z L) r_call2_call0_v0 reduceWindows_S32x16x4x128_S32x16x4x128_w1s1p0_0_w1s1p0_0_w4s1p3_0_w1s1p0_0 h_S_
def r_v48 (Z : FVec Ideal S8320x8192 .f32) (L : FVec Ideal S2x2048 .f32) : FVec Ideal S32x16x1x128 .f32 := extractStridedSlice S32x16x1x128 ![0, 0, 1, 0] (r_v47 Z L) slices_S32x16x4x128_S32x16x1x128_0_0_1_0
def r_v49 (Z : FVec Ideal S8320x8192 .f32) (L : FVec Ideal S2x2048 .f32) : FVec Ideal S32x16x1x128 .f32 := extractStridedSlice S32x16x1x128 ![0, 0, 3, 0] (r_v47 Z L) slices_S32x16x4x128_S32x16x1x128_0_0_3_0
def r_v50 (Z : FVec Ideal S8320x8192 .f32) (L : FVec Ideal S2x2048 .f32) : FVec Ideal S32x16x4x128 .f32 := broadcastInDim S32x16x4x128 ![0, 1, 2, 3] bcast_S32x16x1x128_S32x16x4x128_0_1_2_3 (r_v48 Z L)
def r_v51 (Z : FVec Ideal S8320x8192 .f32) (L : FVec Ideal S2x2048 .f32) : FVec Ideal S32x16x4x128 .f32 := subf (F := Ideal) (r_v47 Z L) (r_v50 Z L)
def r_v52 (Z : FVec Ideal S8320x8192 .f32) (L : FVec Ideal S2x2048 .f32) : FVec Ideal S32x16x4x128 .f32 := Host.exp (F := Ideal) (r_v51 Z L)
def r_v53 (Z : FVec Ideal S8320x8192 .f32) (L : FVec Ideal S2x2048 .f32) : FVec Ideal S32x16x4x128 .f32 := mulf (F := Ideal) (r_v39 Z) (r_v52 Z L)
def r_v54 (Z : FVec Ideal S8320x8192 .f32) (L : FVec Ideal S2x2048 .f32) : FVec Ideal S32x16x4x128 .f32 := broadcastInDim S32x16x4x128 ![0, 1, 2, 3] bcast_S32x16x1x128_S32x16x4x128_0_1_2_3 (r_v48 Z L)
def r_v55 (Z : FVec Ideal S8320x8192 .f32) (L : FVec Ideal S2x2048 .f32) : FVec Ideal S32x16x4x128 .f32 := subf (F := Ideal) (r_v54 Z L) (r_v47 Z L)
def r_v56 (Z : FVec Ideal S8320x8192 .f32) (L : FVec Ideal S2x2048 .f32) : FVec Ideal S32x16x4x128 .f32 := Host.exp (F := Ideal) (r_v55 Z L)
def r_v57 (Z : FVec Ideal S8320x8192 .f32) (L : FVec Ideal S2x2048 .f32) : FVec Ideal S32x16x4x128 .f32 := mulf (F := Ideal) (r_v42 Z L) (r_v56 Z L)
def r_v58 (Z : FVec Ideal S8320x8192 .f32) (L : FVec Ideal S2x2048 .f32) : FVec Ideal S32x16x4x4 .f32 := Host.dotGeneral dot_S32x16x4x128_S32x16x4x128_S32x16x4x4_3_3_2_2_01_01 none (r_v53 Z L) (r_v57 Z L)
def r_c : IVec S_ 1 := (constantI S_ 1 1#1)
def r_v59 : IVec S4x4 1 := broadcastInDim S4x4 ![] bcast_S_S4x4 r_c
def r_call3_v0 : IVec S4x4 32 := (iotaInDim S4x4 32 0)
def r_call3_c : IVec S_ 32 := (constantI S_ 32 0#32)
def r_call3_v1 : IVec S4x4 32 := broadcastInDim S4x4 ![] bcast_S_S4x4 r_call3_c
def r_call3_v2 : IVec S4x4 32 := addi r_call3_v0 r_call3_v1
def r_call3_v3 : IVec S4x4 32 := (iotaInDim S4x4 32 1)
def r_call3_v4 : IVec S4x4 1 := cmpi .sge r_call3_v2 r_call3_v3
def r_call3_c_0 : IVec S_ 1 := (constantI S_ 1 0#1)
def r_call3_v5 : IVec S4x4 1 := broadcastInDim S4x4 ![] bcast_S_S4x4 r_call3_c_0
def r_v60 : IVec S4x4 1 := select r_call3_v4 r_v59 r_call3_v5
def r_cst_6 : FVec Ideal S_ .f32 := (constant (F := Ideal) S_ .f32 0x00000000#32)
def r_call4_v0 : FVec Ideal S_ .f32 := r_cst_6
def r_call4_v1 : IVec S32x16x4x4 1 := broadcastInDim S32x16x4x4 ![2, 3] bcast_S4x4_S32x16x4x4_2_3 r_v60
def r_call4_v2 : FVec Ideal S32x16x4x4 .f32 := broadcastInDim S32x16x4x4 ![] bcast_S_S32x16x4x4 r_call4_v0
def r_v61 (Z : FVec Ideal S8320x8192 .f32) (L : FVec Ideal S2x2048 .f32) : FVec Ideal S32x16x4x4 .f32 := select r_call4_v1 (r_v58 Z L) r_call4_v2
def r_v62 (Z : FVec Ideal S8320x8192 .f32) (L : FVec Ideal S2x2048 .f32) : FVec Ideal S32x16x4x128 .f32 := Host.dotGeneral dot_S32x16x4x4_S32x16x4x128_S32x16x4x128_3_2_2_3_01_01 none (r_v61 Z L) (r_v44 Z)
def r_v63 (Z : FVec Ideal S8320x8192 .f32) (L : FVec Ideal S2x2048 .f32) : FVec Ideal S32x16x4x128 .f32 := Host.exp (F := Ideal) (r_v47 Z L)
def r_v64 (Z : FVec Ideal S8320x8192 .f32) (L : FVec Ideal S2x2048 .f32) : FVec Ideal S32x16x4x128 .f32 := mulf (F := Ideal) (r_v39 Z) (r_v63 Z L)
def r_v65 (Z : FVec Ideal S8320x8192 .f32) (L : FVec Ideal S2x2048 .f32) : FVec Ideal S32x16x4x128 .f32 := broadcastInDim S32x16x4x128 ![0, 1, 2, 3] bcast_S32x16x1x128_S32x16x4x128_0_1_2_3 (r_v49 Z L)
def r_v66 (Z : FVec Ideal S8320x8192 .f32) (L : FVec Ideal S2x2048 .f32) : FVec Ideal S32x16x4x128 .f32 := subf (F := Ideal) (r_v65 Z L) (r_v47 Z L)
def r_v67 (Z : FVec Ideal S8320x8192 .f32) (L : FVec Ideal S2x2048 .f32) : FVec Ideal S32x16x4x128 .f32 := Host.exp (F := Ideal) (r_v66 Z L)
def r_v68 (Z : FVec Ideal S8320x8192 .f32) (L : FVec Ideal S2x2048 .f32) : FVec Ideal S32x16x4x128 .f32 := mulf (F := Ideal) (r_v42 Z L) (r_v67 Z L)
def r_v69 (Z : FVec Ideal S8320x8192 .f32) (L : FVec Ideal S2x2048 .f32) : FVec Ideal S32x16x128 .f32 := shapeCast S32x16x128 (r_v49 Z L) shapeCasts_S32x16x1x128_S32x16x128
def r_v70 (Z : FVec Ideal S8320x8192 .f32) (L : FVec Ideal S2x2048 .f32) : FVec Ideal S32x16x128 .f32 := Host.exp (F := Ideal) (r_v69 Z L)
def r_v71 (Z : FVec Ideal S8320x8192 .f32) (S0 : FVec Ideal S1x32x16x128x128 .f32) (L : FVec Ideal S2x2048 .f32) : FVec Ideal S32x16x4x128 .f32 := Host.dotGeneral dot_S32x16x4x128_S32x16x128x128_S32x16x4x128_3_2_2_3_01_01 none (r_v64 Z L) (r_v38 S0)
def r_v72 (Z : FVec Ideal S8320x8192 .f32) (L : FVec Ideal S2x2048 .f32) : FVec Ideal S32x16x128x1 .f32 := broadcastInDim S32x16x128x1 ![0, 1, 2] bcast_S32x16x128_S32x16x128x1_0_1_2 (r_v70 Z L)
def r_v73 (Z : FVec Ideal S8320x8192 .f32) (L : FVec Ideal S2x2048 .f32) : FVec Ideal S32x16x128x128 .f32 := broadcastInDim S32x16x128x128 ![0, 1, 2, 3] bcast_S32x16x128x1_S32x16x128x128_0_1_2_3 (r_v72 Z L)
def r_v74 (Z : FVec Ideal S8320x8192 .f32) (S0 : FVec Ideal S1x32x16x128x128 .f32) (L : FVec Ideal S2x2048 .f32) : FVec Ideal S32x16x128x128 .f32 := mulf (F := Ideal) (r_v73 Z L) (r_v38 S0)
def r_v75 (Z : FVec Ideal S8320x8192 .f32) (L : FVec Ideal S2x2048 .f32) : FVec Ideal S32x16x128x128 .f32 := Host.dotGeneral dot_S32x16x4x128_S32x16x4x128_S32x16x128x128_2_2_3_3_01_01 none (r_v68 Z L) (r_v44 Z)
def r_v76 (Z : FVec Ideal S8320x8192 .f32) (S0 : FVec Ideal S1x32x16x128x128 .f32) (L : FVec Ideal S2x2048 .f32) : FVec Ideal S32x16x128x128 .f32 := addf (F := Ideal) (r_v74 Z S0 L) (r_v75 Z L)
def r_v77 (Z : FVec Ideal S8320x8192 .f32) (S0 : FVec Ideal S1x32x16x128x128 .f32) (L : FVec Ideal S2x2048 .f32) : FVec Ideal S32x16x4x128 .f32 := addf (F := Ideal) (r_v62 Z L) (r_v71 Z S0 L)
def r_v78 (Z : FVec Ideal S8320x8192 .f32) (S0 : FVec Ideal S1x32x16x128x128 .f32) (L : FVec Ideal S2x2048 .f32) : FVec Ideal S32x4x16x128 .f32 := transpose S32x4x16x128 [0, 2, 1, 3] (r_v77 Z S0 L) transposes_S32x16x4x128_S32x4x16x128_0_2_1_3
def r_v79 (G : FVec Ideal S1x128 .f32) : FVec Ideal S128 .f32 := shapeCast S128 G shapeCasts_S1x128_S128
def r_v80 (Z : FVec Ideal S8320x8192 .f32) (S0 : FVec Ideal S1x32x16x128x128 .f32) (L : FVec Ideal S2x2048 .f32) : FVec Ideal S32x4x16x128 .f32 := mulf (F := Ideal) (r_v78 Z S0 L) (r_v78 Z S0 L)
def r_cst_7 : FVec Ideal S_ .f32 := (constant (F := Ideal) S_ .f32 0x00000000#32)
def r_v81 (Z : FVec Ideal S8320x8192 .f32) (S0 : FVec Ideal S1x32x16x128x128 .f32) (L : FVec Ideal S2x2048 .f32) : FVec Ideal S32x4x16 .f32 := Host.reduceAdd (F := Ideal) (r_v80 Z S0 L) r_cst_7 reducesTo_S32x4x16x128_S32x4x16_d3 h_S_
def r_v82 (Z : FVec Ideal S8320x8192 .f32) (S0 : FVec Ideal S1x32x16x128x128 .f32) (L : FVec Ideal S2x2048 .f32) : FVec Ideal S32x4x16x1 .f32 := broadcastInDim S32x4x16x1 ![0, 1, 2] bcast_S32x4x16_S32x4x16x1_0_1_2 (r_v81 Z S0 L)
def r_cst_8 : FVec Ideal S_ .f32 := (constant (F := Ideal) S_ .f32 0x43000000#32)
def r_v83 : FVec Ideal S32x4x16x1 .f32 := broadcastInDim S32x4x16x1 ![] bcast_S_S32x4x16x1 r_cst_8
def r_v84 (Z : FVec Ideal S8320x8192 .f32) (S0 : FVec Ideal S1x32x16x128x128 .f32) (L : FVec Ideal S2x2048 .f32) : FVec Ideal S32x4x16x1 .f32 := Host.divf (F := Ideal) (r_v82 Z S0 L) r_v83
def r_cst_9 : FVec Ideal S_ .f32 := (constant (F := Ideal) S_ .f32 0x358637BD#32)
def r_v85 : FVec Ideal S32x4x16x1 .f32 := broadcastInDim S32x4x16x1 ![] bcast_S_S32x4x16x1 r_cst_9
def r_v86 (Z : FVec Ideal S8320x8192 .f32) (S0 : FVec Ideal S1x32x16x128x128 .f32) (L : FVec Ideal S2x2048 .f32) : FVec Ideal S32x4x16x1 .f32 := addf (F := Ideal) (r_v84 Z S0 L) r_v85
def r_v87 (Z : FVec Ideal S8320x8192 .f32) (S0 : FVec Ideal S1x32x16x128x128 .f32) (L : FVec Ideal S2x2048 .f32) : FVec Ideal S32x4x16x1 .f32 := Host.rsqrt (F := Ideal) (r_v86 Z S0 L)
def r_v88 (Z : FVec Ideal S8320x8192 .f32) (S0 : FVec Ideal S1x32x16x128x128 .f32) (L : FVec Ideal S2x2048 .f32) : FVec Ideal S32x4x16x128 .f32 := broadcastInDim S32x4x16x128 ![0, 1, 2, 3] bcast_S32x4x16x1_S32x4x16x128_0_1_2_3 (r_v87 Z S0 L)
def r_v89 (Z : FVec Ideal S8320x8192 .f32) (S0 : FVec Ideal S1x32x16x128x128 .f32) (L : FVec Ideal S2x2048 .f32) : FVec Ideal S32x4x16x128 .f32 := mulf (F := Ideal) (r_v78 Z S0 L) (r_v88 Z S0 L)
def r_v90 (G : FVec Ideal S1x128 .f32) : FVec Ideal S1x1x1x128 .f32 := broadcastInDim S1x1x1x128 ![3] bcast_S128_S1x1x1x128_3 (r_v79 G)
def r_v91 (G : FVec Ideal S1x128 .f32) : FVec Ideal S32x4x16x128 .f32 := broadcastInDim S32x4x16x128 ![0, 1, 2, 3] bcast_S1x1x1x128_S32x4x16x128_0_1_2_3 (r_v90 G)
def r_v92 (Z : FVec Ideal S8320x8192 .f32) (S0 : FVec Ideal S1x32x16x128x128 .f32) (L : FVec Ideal S2x2048 .f32) (G : FVec Ideal S1x128 .f32) : FVec Ideal S32x4x16x128 .f32 := mulf (F := Ideal) (r_v89 Z S0 L) (r_v91 G)
def r_v93 (Z : FVec Ideal S8320x8192 .f32) : FVec Ideal S32x4x16x128 .f32 := shapeCast S32x4x16x128 (r_v19 Z) shapeCasts_S32x4x2048_S32x4x16x128
def r_call5_v0 (Z : FVec Ideal S8320x8192 .f32) : FVec Ideal S32x4x16x128 .f32 := Host.negf (F := Ideal) (r_v93 Z)
def r_call5_v1 (Z : FVec Ideal S8320x8192 .f32) : FVec Ideal S32x4x16x128 .f32 := Host.exp (F := Ideal) (r_call5_v0 Z)
def r_call5_cst : FVec Ideal S_ .f32 := (constant (F := Ideal) S_ .f32 0x3F800000#32)
def r_call5_v2 : FVec Ideal S32x4x16x128 .f32 := broadcastInDim S32x4x16x128 ![] bcast_S_S32x4x16x128 r_call5_cst
def r_call5_v3 (Z : FVec Ideal S8320x8192 .f32) : FVec Ideal S32x4x16x128 .f32 := addf (F := Ideal) r_call5_v2 (r_call5_v1 Z)
def r_call5_cst_0 : FVec Ideal S_ .f32 := (constant (F := Ideal) S_ .f32 0x3F800000#32)
def r_call5_v4 : FVec Ideal S32x4x16x128 .f32 := broadcastInDim S32x4x16x128 ![] bcast_S_S32x4x16x128 r_call5_cst_0
def r_call5_v5 (Z : FVec Ideal S8320x8192 .f32) : FVec Ideal S32x4x16x128 .f32 := Host.divf (F := Ideal) r_call5_v4 (r_call5_v3 Z)
def r_v94 (Z : FVec Ideal S8320x8192 .f32) : FVec Ideal S32x4x16x128 .f32 := mulf (F := Ideal) (r_v93 Z) (r_call5_v5 Z)
def r_v95 (Z : FVec Ideal S8320x8192 .f32) (S0 : FVec Ideal S1x32x16x128x128 .f32) (L : FVec Ideal S2x2048 .f32) (G : FVec Ideal S1x128 .f32) : FVec Ideal S32x4x16x128 .f32 := mulf (F := Ideal) (r_v92 Z S0 L G) (r_v94 Z)
def r_v96 (Z : FVec Ideal S8320x8192 .f32) (S0 : FVec Ideal S1x32x16x128x128 .f32) (L : FVec Ideal S2x2048 .f32) (G : FVec Ideal S1x128 .f32) : FVec Ideal S128x2048 .f32 := shapeCast S128x2048 (r_v95 Z S0 L G) shapeCasts_S32x4x16x128_S128x2048

variable (m : (ℓ : Loc nD τ sig) → Buf (Elt Ideal) ℓ) (c : Dev nD)

theorem res76_eq : res_main_v76 m c = r_v76 (m ((c.tc : Thread nD τ).loc main_arg0)) (m ((c.tc : Thread nD τ).loc main_arg1)) (m ((c.tc : Thread nD τ).loc main_arg2)) := by
  unfold res_main_v76
  rfl

theorem res96_eq : res_main_v96 m c = r_v96 (m ((c.tc : Thread nD τ).loc main_arg0)) (m ((c.tc : Thread nD τ).loc main_arg1)) (m ((c.tc : Thread nD τ).loc main_arg2)) (m ((c.tc : Thread nD τ).loc main_arg3)) := by
  unfold res_main_v96
  rfl

end Cert.Reference8Ideal.Smp

end
-- ==== Proof.SmpR.Value.lean ====
/- The reference's two results at the ideal values: the formulas of Spec.lean, sequence by sequence and head by head. -/
module

public import proofs.«01_k».proof.Proof.SmpR.Defs
public import proofs.«01_k».proof.Proof.SmpV.Spec

@[expose] public section

set_option maxRecDepth 16384

noncomputable section

namespace Cert.Reference8Ideal.Smp

open Cert.Reference8Ideal Cert.Reference8Ideal.Gen Cert.SmpSpec
open Cert.GlaSpec (silu gate logi lbOf lbL pre outS window_sum cumsum2_row0)
open Idealize.ShloMosaic

/-- A sum over a window that runs along the third of four axes. -/
theorem sum_window4 (F : (⟨4, ![1, 1, 4, 1]⟩ : Shape).Idx → EReal) : ∑ w, F w = ∑ k : Fin 4, F (ix4 0 0 k 0) := by
  symm
  refine Fintype.sum_bijective (fun k : Fin 4 => (ix4 0 0 k 0 : (⟨4, ![1, 1, 4, 1]⟩ : Shape).Idx)) ⟨?_, ?_⟩ _ _ (fun _ => rfl)
  · intro a b hab
    exact congrFun hab 2
  · intro w
    refine ⟨w 2, ?_⟩
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- The running sum over the four rows is the prefix sum. -/
theorem cumsum4 (x : FVec Ideal S32x16x4x128 .f32) (init : S_.Idx → EReal) (hinit : ∀ i, init i = 0)
    (hw : S32x16x4x128.ReduceWindows (![1, 1, 4, 1] : Fin 4 → ℕ) ![1, 1, 1, 1] ![0, 0, 3, 0] ![0, 0, 0, 0] S32x16x4x128) (hu : 0 < S_.numel)
    (g : ℕ → EReal) (b : Fin 32) (h : Fin 16) (i : Fin 4) (d : Fin 128)
    (hg : ∀ i : Fin 4, x (ix4 b h i d) = g i.val) :
    Host.reduceWindowAdd (F := Ideal) ![1, 1, 4, 1] ![1, 1, 1, 1] ![0, 0, 3, 0] ![0, 0, 0, 0] x init hw hu (ix4 b h i d)
      = pre g 4 i.val := by
  show Ideal.hostReduceWindowAdd _ _ _ _ hw x (init _) (ix4 b h i d) = _
  rw [window_sum, hinit, zero_add, pre]
  refine (sum_window4 _).trans ?_
  rw [← Finset.sum_range_reflect, Finset.sum_range]
  refine Finset.sum_congr rfl fun k _ => ?_
  have hi := i.isLt
  have hk := k.isLt
  by_cases hc : 3 ≤ i.val + k.val
  · rw [if_pos (show 4 - 1 - k.val ≤ i.val by omega)]
    have hin : ∀ a : Fin 4, (![0, 0, 3, 0] : Fin 4 → ℕ) a ≤ ((ix4 b h i d : S32x16x4x128.Idx) a).val * (![1, 1, 1, 1] : Fin 4 → ℕ) a + ((ix4 0 0 k 0 : (⟨4, ![1, 1, 4, 1]⟩ : Shape).Idx) a).val
        ∧ ((ix4 b h i d : S32x16x4x128.Idx) a).val * (![1, 1, 1, 1] : Fin 4 → ℕ) a + ((ix4 0 0 k 0 : (⟨4, ![1, 1, 4, 1]⟩ : Shape).Idx) a).val - (![0, 0, 3, 0] : Fin 4 → ℕ) a < S32x16x4x128.size a := by
      intro a
      match a with
      | ⟨0, _⟩ => exact ⟨Nat.zero_le _, by show b.val * 1 + 0 - 0 < 32; omega⟩
      | ⟨1, _⟩ => exact ⟨Nat.zero_le _, by show h.val * 1 + 0 - 0 < 16; omega⟩
      | ⟨2, _⟩ => exact ⟨by show 3 ≤ i.val * 1 + k.val; omega, by show i.val * 1 + k.val - 3 < 4; omega⟩
      | ⟨3, _⟩ => exact ⟨Nat.zero_le _, by show d.val * 1 + 0 - 0 < 128; omega⟩
    refine (dif_pos hin).trans ?_
    refine Eq.trans ?_ ((hg ⟨i.val - (4 - 1 - k.val), by omega⟩).trans rfl)
    congr 1
    funext a
    apply Fin.ext
    match a with
    | ⟨0, _⟩ => show b.val * 1 + 0 - 0 = b.val; omega
    | ⟨1, _⟩ => show h.val * 1 + 0 - 0 = h.val; omega
    | ⟨2, _⟩ => show i.val * 1 + k.val - 3 = i.val - (4 - 1 - k.val); omega
    | ⟨3, _⟩ => show d.val * 1 + 0 - 0 = d.val; omega
  · rw [if_neg (show ¬ 4 - 1 - k.val ≤ i.val by omega)]
    refine dif_neg fun hin => hc ?_
    have h3 : 3 ≤ i.val * 1 + k.val := (hin 2).1
    omega

variable (Z : FVec Ideal S8320x8192 .f32) (S0 : FVec Ideal S1x32x16x128x128 .f32) (L : FVec Ideal S2x2048 .f32) (G : FVec Ideal S1x128 .f32)

theorem max_fold (b : EReal) (f : Fin 2 → EReal) : max b (Finset.fold max b f Finset.univ) = Finset.fold max b f Finset.univ :=
  max_eq_right ((Finset.le_fold_max b).mpr (Or.inl le_rfl))

theorem v13_apply (c : Fin 2048) : r_v13 L (ix1 c) = lbOf (fun k => L (ix2 k c)) := by
  pointwise [r_v13, r_v12, r_v11]
  rw [cumsum2_row0 _ _ (fun i => by pointwise [r_call0_call0_v0, r_call0_call0_cst])]
  pointwise [r_v10, r_v9, r_v8, r_v7, r_v6, r_v5, r_v4, r_v3, r_v2, r_v0, r_v1, r_cst, r_cst_0, r_cst_1, lbOf, max_fold]

theorem v20_apply (h : Fin 16) (d : Fin 128) : r_v20 L (ix2 h d) = lbL L h d := by
  pointwise [r_v20, v13_apply, lbL]

variable (b : Fin 32) (h : Fin 16)

/-- The forget gates. -/
theorem v35_apply (i : Fin 4) (d : Fin 128) : r_v35 Z L (ix4 b i h d) = gate (lbL L h d) (fZ Z h b i d) := by
  pointwise [r_v35, r_v34, r_v33, r_v32, r_v31, r_v30, r_v29, r_v28, r_v27, r_v26, r_v25, r_v24, r_v23, r_v22, r_v21, r_v17, r_v15, r_v14,
    r_cst_2, r_cst_3, r_cst_4, v20_apply, gate, logi, fZ]

theorem v37_apply (i : Fin 4) (d : Fin 128) : r_v37 Z (ix4 b i h d) = silu (qZ Z h b i d) := by
  pointwise [r_v37, r_v36, r_call1_v5, r_call1_v4, r_call1_v3, r_call1_v2, r_call1_v1, r_call1_v0, r_v16, r_v15, r_v14,
    r_call1_cst, r_call1_cst_0, silu, logi, qZ]

/-- The queries, the keys, the values and the log forget gates, head by head. -/
theorem v39_apply (i : Fin 4) (d : Fin 128) : r_v39 Z (ix4 b h i d) = silu (qZ Z h b i d) := by
  pointwise [r_v39, v37_apply]

@[inherit_doc v39_apply]
theorem v42_apply (i : Fin 4) (d : Fin 128) : r_v42 Z L (ix4 b h i d) = 1 - gate (lbL L h d) (fZ Z h b i d) := by
  pointwise [r_v42, r_v41, r_v40, r_cst_5, v35_apply]

@[inherit_doc v39_apply]
theorem v44_apply (i : Fin 4) (d : Fin 128) : r_v44 Z (ix4 b h i d) = iZ Z h b i d := by
  pointwise [r_v44, r_v43, r_v18, r_v15, r_v14, iZ]

@[inherit_doc v39_apply]
theorem v46_apply (i : Fin 4) (d : Fin 128) : r_v46 Z L (ix4 b h i d) = Ideal.log (gate (lbL L h d) (fZ Z h b i d)) := by
  pointwise [r_v46, r_v45, v35_apply]

/-- Their running sums. -/
theorem v47_apply (i : Fin 4) (d : Fin 128) : r_v47 Z L (ix4 b h i d) = cumS (lbL L h) (fZ Z h b) i d := by
  unfold r_v47 cumS
  refine cumsum4 _ _ (fun i => by pointwise [r_call2_call0_v0, r_call2_call0_cst]) _ _ (logGate (lbL L h) (fZ Z h b) d) b h i d fun i => ?_
  rw [v46_apply, logGate, dif_pos i.isLt]

theorem mask_apply (i j : Fin 4) (x y : EReal) :
    Scalar.select (r_call4_v1 (ix4 b h i j)) x y = if j.val ≤ i.val then x else y := by
  pointwise [r_call4_v1, r_v60, r_call3_v4, r_call3_v2, r_call3_v0, r_call3_v1, r_call3_c, r_call3_v3, r_v59, r_c, r_call3_v5, r_call3_c_0]
  have hh : ∀ i j : Fin 4, (IntOp.cmpi CmpIPredicate.sge (IntOp.addi (BitVec.ofNat 32 i.val) 0#32) (BitVec.ofNat 32 j.val)) = if j.val ≤ i.val then 1#1 else 0#1 := by decide
  rw [hh i j]
  by_cases hij : j.val ≤ i.val
  · rw [if_pos hij, if_pos hij]; rfl
  · rw [if_neg hij, if_neg hij]; rfl

theorem zero_apply (i : S32x16x4x4.Idx) : r_call4_v2 i = 0 := by
  unfold r_call4_v2 r_call4_v0 r_cst_6
  pointwise

/-- The masked scores. -/
theorem v61_apply (i j : Fin 4) : r_v61 Z L (ix4 b h i j) = attS (lbL L h) (qZ Z h b) (fZ Z h b) i j := by
  pointwise [r_v61, mask_apply, r_v58, r_v57, r_v56, r_v55, r_v54, r_v53, r_v52, r_v51, r_v50, r_v48,
    zero_apply, v39_apply, v42_apply, v47_apply, attS]

theorem v62_apply (i : Fin 4) (e : Fin 128) : r_v62 Z L (ix4 b h i e) = intraS (lbL L h) (qZ Z h b) (fZ Z h b) (iZ Z h b) i e := by
  pointwise [r_v62, v61_apply, v44_apply, intraS]

theorem v38_apply (d e : Fin 128) : r_v38 S0 (ix4 b h d e) = sZ S0 h b d e := by
  pointwise [r_v38, sZ]

theorem v71_apply (i : Fin 4) (e : Fin 128) : r_v71 Z S0 L (ix4 b h i e) = interS (lbL L h) (qZ Z h b) (fZ Z h b) (sZ S0 h b) i e := by
  pointwise [r_v71, r_v64, r_v63, v39_apply, v47_apply, v38_apply, interS]

/-- The rows before the norm. -/
theorem v78_apply (i : Fin 4) (e : Fin 128) : r_v78 Z S0 L (ix4 b i h e) = rowsO Z S0 L h b i e := by
  pointwise [r_v78, r_v77, v62_apply, v71_apply, rowsO, oS]

/-- The states after the rows. -/
theorem v76_apply (d e : Fin 128) : r_v76 Z S0 L (ix4 b h d e) = sS (lbL L h) (fZ Z h b) (iZ Z h b) (sZ S0 h b) d e := by
  pointwise [r_v76, r_v75, r_v74, r_v73, r_v72, r_v70, r_v69, r_v68, r_v67, r_v66, r_v65, r_v49, v42_apply, v44_apply, v47_apply, v38_apply, sS]

/-- The rows after the norm, the gain and the gate. -/
theorem v95_apply (i : Fin 4) (e : Fin 128) :
    r_v95 Z S0 L G (ix4 b i h e) = outS (fun d => G (ix2 0 d)) (rowsO Z S0 L h b i) (gZ Z h b i) e := by
  pointwise [r_v95, r_v94, r_v93, r_v92, r_v91, r_v90, r_v89, r_v88, r_v87, r_v86, r_v85, r_v84, r_v83, r_v82, r_v81, r_v80, r_v79, r_v19, r_v15, r_v14,
    r_cst_7, r_cst_8, r_cst_9, r_call5_v5, r_call5_v4, r_call5_v3, r_call5_v2, r_call5_v1, r_call5_v0, r_call5_cst, r_call5_cst_0,
    v78_apply, outS, silu, logi, gZ]

theorem out_eq : r_v96 Z S0 L G = outAll Z S0 L G := by
  funext j
  rw [eq_ix2 j]
  obtain ⟨h0, h1⟩ := ((⟨(j 0).isLt, (j 1).isLt⟩) : (j 0).val < 128 ∧ (j 1).val < 2048)
  rw [outAll_apply Z S0 L ⟨(j 1).val / 128, by omega⟩ ⟨(j 0).val / 4, by omega⟩ G ⟨(j 0).val % 4, by omega⟩ ⟨(j 1).val % 128, by omega⟩ _
    (by show (j 0).val = (j 0).val / 4 * 4 + (j 0).val % 4; omega) (by show (j 1).val = (j 1).val / 128 * 128 + (j 1).val % 128; omega), ← v95_apply]
  pointwise [r_v96]

theorem state_eq : r_v76 Z S0 L = stateAll Z S0 L := by
  funext j
  have e : j = ix4 (j 0) (j 1) (j 2) (j 3) := by
    funext a
    match a with
    | ⟨0, _⟩ => rfl
    | ⟨1, _⟩ => rfl
    | ⟨2, _⟩ => rfl
    | ⟨3, _⟩ => rfl
  rw [e]
  exact v76_apply Z S0 L _ _ _ _

end Cert.Reference8Ideal.Smp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.GlaK.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.GlaI.Frame

public import proofs.«01_k».proof.Proof.Gen.ReferenceIdeal
public import proofs.«01_k».proof.Proof.Gen.ReferenceIdeal.Run
public import proofs.«01_k».proof.Proof.Gen.ReferenceIdeal.Step
public import proofs.«01_k».proof.Proof.GlaR.StepRun
public import proofs.«01_k».proof.Proof.GlaR.Value
public import proofs.«01_k».proof.Proof.GlaV.Value
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame.Runs
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame.Runs
public import proofs.«01_k».proof.Proof.Gen.Reference8Ideal
public import proofs.«01_k».proof.Proof.Gen.Reference8Ideal.Run
public import proofs.«01_k».proof.Proof.UpV.Value
public import proofs.«01_k».proof.Proof.DownV.Value
public import proofs.«01_k».proof.Proof.InV.Value
public import proofs.«01_k».proof.Proof.OutV.Value
public import proofs.«01_k».proof.Proof.KvV.Value
public import proofs.«01_k».proof.Proof.QV.Value
public import proofs.«01_k».proof.Proof.SmpK.Frame
public import proofs.«01_k».proof.Proof.SmpV.Value
public import proofs.«01_k».proof.Proof.SmpR.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments and ends with every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2, sem_eq_zero_of_no_sems (by decide) r.2⟩)
    (Cert.ReferenceIdeal.GlaRun.run_iter m ρ (fun c => Cert.ReferenceIdeal.Gla.iter (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))) (fun _ => rfl) (fun _ _ => rfl))

theorem algebraic_gla : Cert.algebraic_KernelIdeal_ReferenceIdeal (hKernelIdeal := Cert.KernelIdeal.Gen.facts) (hReferenceIdeal := Cert.ReferenceIdeal.Gen.facts) := by
  intro m g m' g' _ hagree
  refine ⟨_, _, Cert.KernelIdeal.Gla.run_values m g, ?_⟩
  refine (θ_run Cert.ReferenceIdeal.defs _ _).mono (fun r h c => ?_)
    (Cert.ReferenceIdeal.GlaRun.run_iter m' g' (fun c => Cert.ReferenceIdeal.Gla.iter (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))) (fun _ => rfl) (fun _ _ => rfl))
  obtain ⟨a0, a1, a2⟩ := hagree c
  refine ⟨(h c).1.trans ?_, (h c).2.1.trans ?_, (h c).2.2⟩
  · rw [Cert.ReferenceIdeal.Gla.out_eq, a0, a1, a2]
  · rw [Cert.ReferenceIdeal.Gla.state_eq, a0, a1]

/-- The reference of the feed-forward up product runs, leaves its arguments and ends with every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Up.run_values m ρ)

/-- The reference of the feed-forward down product runs, leaves its arguments and ends with every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The reference of the recurrence's input product runs, leaves its arguments and ends with every counter at zero. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.In.run_values m ρ)

/-- The reference of the output product runs, leaves its arguments and ends with every counter at zero. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The feed-forward up product: the tiled call and the plain reference end with the same array. -/
theorem algebraic_2 : Cert.algebraic_Kernel2Ideal_Reference2Ideal (hKernel2Ideal := Cert.Kernel2Ideal.Gen.facts) (hReference2Ideal := Cert.Reference2Ideal.Gen.facts) := by
  intro m g m' g' _ hagree
  refine ⟨_, Cert.Kernel2Ideal.Up.run_values m g, ?_⟩
  refine (θ_run Cert.Reference2Ideal.defs _ _).mono (fun r h c => ?_) (Cert.Reference2Ideal.Up.run_values m' g')
  obtain ⟨a0, a1, a2⟩ := hagree c
  refine ⟨(h c).1.trans ?_, (h c).2⟩
  rw [a0, a1, a2]

/-- The feed-forward down product: the tiled call and the plain reference end with the same array. -/
theorem algebraic_3 : Cert.algebraic_Kernel3Ideal_Reference3Ideal (hKernel3Ideal := Cert.Kernel3Ideal.Gen.facts) (hReference3Ideal := Cert.Reference3Ideal.Gen.facts) := by
  intro m g m' g' _ hagree
  refine ⟨_, Cert.Kernel3Ideal.Down.run_values m g, ?_⟩
  refine (θ_run Cert.Reference3Ideal.defs _ _).mono (fun r h c => ?_) (Cert.Reference3Ideal.Value.run m' g')
  obtain ⟨a0, a1, a2⟩ := hagree c
  refine ⟨(h c).1.trans ?_, (h c).2⟩
  rw [a0, a1, a2]; exact Cert.Kernel3Ideal.Down.ref_eq _ _ _

/-- The recurrence's input product: the tiled call and the plain reference end with the same array. -/
theorem algebraic_4 : Cert.algebraic_Kernel4Ideal_Reference4Ideal (hKernel4Ideal := Cert.Kernel4Ideal.Gen.facts) (hReference4Ideal := Cert.Reference4Ideal.Gen.facts) := by
  intro m g m' g' _ hagree
  refine ⟨_, Cert.Kernel4Ideal.In.run_values m g, ?_⟩
  refine (θ_run Cert.Reference4Ideal.defs _ _).mono (fun r h c => ?_) (Cert.Reference4Ideal.In.run_values m' g')
  obtain ⟨a0, a1, a2⟩ := hagree c
  refine ⟨(h c).1.trans ?_, (h c).2⟩
  rw [a0, a1, a2]

/-- The output product: the tiled call and the plain reference end with the same array. -/
theorem algebraic_5 : Cert.algebraic_Kernel5Ideal_Reference5Ideal (hKernel5Ideal := Cert.Kernel5Ideal.Gen.facts) (hReference5Ideal := Cert.Reference5Ideal.Gen.facts) := by
  intro m g m' g' _ hagree
  refine ⟨_, Cert.Kernel5Ideal.Out.run_values m g, ?_⟩
  refine (θ_run Cert.Reference5Ideal.defs _ _).mono (fun r h c => ?_) (Cert.Reference5Ideal.Value.run m' g')
  obtain ⟨a0, a1, a2⟩ := hagree c
  refine ⟨(h c).1.trans ?_, (h c).2⟩
  rw [a0, a1, a2]; exact Cert.Kernel5Ideal.Out.ref_eq _ _ _

/-- The reference of the key and value projection runs, leaves its arguments and ends with every counter at zero. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- The reference of the query projection runs, leaves its arguments and ends with every counter at zero. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Qp.run_values m ρ)

/-- The key and value projection: the tiled call and the plain reference end with the same array. -/
theorem algebraic_6 : Cert.algebraic_Kernel6Ideal_Reference6Ideal (hKernel6Ideal := Cert.Kernel6Ideal.Gen.facts) (hReference6Ideal := Cert.Reference6Ideal.Gen.facts) := by
  intro m g m' g' _ hagree
  refine ⟨_, Cert.Kernel6Ideal.Kv.run_values m g, ?_⟩
  refine (θ_run Cert.Reference6Ideal.defs _ _).mono (fun r h c => ?_) (Cert.Reference6Ideal.Value.run m' g')
  obtain ⟨a0, a1, a2, a3⟩ := hagree c
  refine ⟨(h c).1.trans ((Cert.Reference6Ideal.Kv.res_eq m' c).trans ?_), (h c).2⟩
  rw [a0, a1, a2, a3]

/-- The query projection: the tiled call and the plain reference end with the same array. -/
theorem algebraic_7 : Cert.algebraic_Kernel7Ideal_Reference7Ideal (hKernel7Ideal := Cert.Kernel7Ideal.Gen.facts) (hReference7Ideal := Cert.Reference7Ideal.Gen.facts) := by
  intro m g m' g' _ hagree
  refine ⟨_, Cert.Kernel7Ideal.Qp.run_values m g, ?_⟩
  refine (θ_run Cert.Reference7Ideal.defs _ _).mono (fun r h c => ?_) (Cert.Reference7Ideal.Qp.run_values m' g')
  obtain ⟨a0, a1, a2, a3⟩ := hagree c
  refine ⟨(h c).1.trans ?_, (h c).2⟩
  rw [a0, a1, a2, a3]

/-- The reference of the sample's recurrence runs, leaves its arguments and ends with every counter at zero. -/
theorem frame_reference8 : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run m ρ)

/-- The sample's recurrence: the call and the plain reference end with the same rows and the same states. -/
theorem algebraic_8 : Cert.algebraic_Kernel8Ideal_Reference8Ideal (hKernel8Ideal := Cert.Kernel8Ideal.Gen.facts) (hReference8Ideal := Cert.Reference8Ideal.Gen.facts) := by
  intro m g m' g' _ hagree
  refine ⟨_, _, Cert.Kernel8Ideal.Smp.run_values m g, ?_⟩
  refine (θ_run Cert.Reference8Ideal.defs _ _).mono (fun r h c => ?_) (Cert.Reference8Ideal.Value.run m' g')
  obtain ⟨a0, a1, a2, a3⟩ := hagree c
  refine ⟨(h c).1.trans ((Cert.Reference8Ideal.Smp.res96_eq m' c).trans ((Cert.Reference8Ideal.Smp.out_eq _ _ _ _).trans ?_)),
    (h c).2.1.trans ((Cert.Reference8Ideal.Smp.res76_eq m' c).trans ((Cert.Reference8Ideal.Smp.state_eq _ _ _).trans ?_)), (h c).2.2⟩
  · rw [a0, a1, a2, a3]
  · rw [a0, a1, a2]

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts,
  fun m ρ _ => Cert.Kernel.Gla.frame m ρ,
  fun m ρ _ => Cert.KernelIdeal.Gla.frame m ρ,
  fun m ρ _ => frame_reference m ρ,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Smp.frame m ρ,
  fun m ρ _ => Cert.Kernel8Ideal.Smp.frame m ρ,
  frame_reference8,
  trivial, algebraic_gla, trivial, algebraic_2, trivial, algebraic_3, trivial, algebraic_4, trivial, algebraic_5, trivial, algebraic_6, trivial, algebraic_7, trivial, algebraic_8⟩

end Cert.Proof

end
